-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  IdealRules.bf16_pair.Statement Cert.KernelIdeal.S32x128 Cert.KernelIdeal.S16x128

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v35_0)) (v1 : (c : Dev Cert.KernelIdeal.nD) → Buf (Elt Ideal) ((c.tc : Thread Cert.KernelIdeal.nD Cert.KernelIdeal.τ).loc Cert.KernelIdeal.main_v35_1)) (v2 : (c : Dev Cert.KernelIdeal.nD) → Buf (Elt Ideal) ((c.tc : Thread Cert.KernelIdeal.nD Cert.KernelIdeal.τ).loc Cert.KernelIdeal.main_v35_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v35_0) = v0 c
          ∧ r.2.mem ((c.tc : Thread Cert.KernelIdeal.nD Cert.KernelIdeal.τ).loc Cert.KernelIdeal.main_v35_1) = v1 c
          ∧ r.2.mem ((c.tc : Thread Cert.KernelIdeal.nD Cert.KernelIdeal.τ).loc Cert.KernelIdeal.main_v35_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v183) = v0 c
          ∧ r.2.mem ((c.tc : Thread Cert.ReferenceIdeal.nD Cert.ReferenceIdeal.τ).loc Cert.ReferenceIdeal.main_v182) = v1 c
          ∧ r.2.mem ((c.tc : Thread Cert.ReferenceIdeal.nD Cert.ReferenceIdeal.τ).loc Cert.ReferenceIdeal.main_v135) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S14336x4096 : Shape := ⟨2, ![14336, 4096]⟩
abbrev S_ : Shape := ⟨0, ![]⟩

class Facts : Prop where
  bcast_S_S14336x4096 : S_.BroadcastsInDim S14336x4096 (![] : Fin 0 → Fin S14336x4096.rank)

variable [Facts]

def fn {F : FTy → Type} [FloatOps F] (main_arg0 : FVec F S14336x4096 .bf16) : IVec S14336x4096 1 :=
  let main_v0 : FVec F S14336x4096 .bf16 := Host.absf main_arg0
  let main_cst : FVec F S_ .bf16 := constant S_ .bf16 0x7F7F#16
  let main_v1 : FVec F S14336x4096 .bf16 := broadcastInDim S14336x4096 ![] bcast_S_S14336x4096 main_cst
  let main_v2 : IVec S14336x4096 1 := cmpf .ole main_v0 main_v1
  main_v2
-- ==== Kernel.lean ====
abbrev S14336x4096 : Shape := ⟨2, ![14336, 4096]⟩
abbrev S1024x256 : Shape := ⟨2, ![1024, 256]⟩
abbrev S_ : Shape := ⟨0, ![]⟩
abbrev S14336x2048 : Shape := ⟨2, ![14336, 2048]⟩
abbrev S14336x128 : Shape := ⟨2, ![14336, 128]⟩
abbrev S28x4x128 : Shape := ⟨3, ![28, 4, 128]⟩
abbrev S512x4096 : Shape := ⟨2, ![512, 4096]⟩
abbrev S512x2048 : Shape := ⟨2, ![512, 2048]⟩
abbrev S512x128 : Shape := ⟨2, ![512, 128]⟩
abbrev S1x4x128 : Shape := ⟨3, ![1, 4, 128]⟩
abbrev S512x1024 : Shape := ⟨2, ![512, 1024]⟩
abbrev S16x128 : Shape := ⟨2, ![16, 128]⟩
abbrev S32x128 : Shape := ⟨2, ![32, 128]⟩
abbrev S512 : Shape := ⟨1, ![512]⟩
abbrev S512x1 : Shape := ⟨2, ![512, 1]⟩
abbrev S512x256 : Shape := ⟨2, ![512, 256]⟩
abbrev S128x128 : Shape := ⟨2, ![128, 128]⟩
abbrev S128x1 : Shape := ⟨2, ![128, 1]⟩
abbrev S128 : Shape := ⟨1, ![128]⟩
abbrev S1x128 : Shape := ⟨2, ![1, 128]⟩
abbrev S1x1x128 : Shape := ⟨3, ![1, 1, 128]⟩
abbrev S32x128x1 : Shape := ⟨3, ![32, 128, 1]⟩

abbrev nBuf : Space → Nat
  | .hbm => 55
  | .vmem => 13
  | .smem => 0
  | _ => 0

abbrev bufTy : (tb : Table) → Fin (tcTables nBuf tb) → BufTy
  | .hbm, ⟨0, _⟩ => ⟨S14336x4096, .bf16⟩
  | .hbm, ⟨1, _⟩ => ⟨S1024x256, .i32⟩
  | .hbm, ⟨2, _⟩ => ⟨S1024x256, .i32⟩
  | .hbm, ⟨3, _⟩ => ⟨S_, .i32⟩
  | .hbm, ⟨4, _⟩ => ⟨S1024x256, .i32⟩
  | .hbm, ⟨5, _⟩ => ⟨S1024x256, .i32⟩
  | .hbm, ⟨6, _⟩ => ⟨S_, .i32⟩
  | .hbm, ⟨7, _⟩ => ⟨S1024x256, .i32⟩
  | .hbm, ⟨8, _⟩ => ⟨S1024x256, .i32⟩
  | .hbm, ⟨9, _⟩ => ⟨S_, .i32⟩
  | .hbm, ⟨10, _⟩ => ⟨S1024x256, .i32⟩
  | .hbm, ⟨11, _⟩ => ⟨S1024x256, .i32⟩
  | .hbm, ⟨12, _⟩ => ⟨S_, .i32⟩
  | .hbm, ⟨13, _⟩ => ⟨S1024x256, .i32⟩
  | .hbm, ⟨14, _⟩ => ⟨S1024x256, .i32⟩
  | .hbm, ⟨15, _⟩ => ⟨S_, .i32⟩
  | .hbm, ⟨16, _⟩ => ⟨S1024x256, .i32⟩
  | .hbm, ⟨17, _⟩ => ⟨S1024x256, .i32⟩
  | .hbm, ⟨18, _⟩ => ⟨S_, .i32⟩
  | .hbm, ⟨19, _⟩ => ⟨S1024x256, .i32⟩
  | .hbm, ⟨20, _⟩ => ⟨S1024x256, .i32⟩
  | .hbm, ⟨21, _⟩ => ⟨S1024x256, .i32⟩
  | .hbm, ⟨22, _⟩ => ⟨S1024x256, .i32⟩
  | .hbm, ⟨23, _⟩ => ⟨S_, .i32⟩
  | .hbm, ⟨24, _⟩ => ⟨S1024x256, .i32⟩
  | .hbm, ⟨25, _⟩ => ⟨S1024x256, .i32⟩
  | .hbm, ⟨26, _⟩ => ⟨S_, .i32⟩
  | .hbm, ⟨27, _⟩ => ⟨S1024x256, .i32⟩
  | .hbm, ⟨28, _⟩ => ⟨S1024x256, .i32⟩
  | .hbm, ⟨29, _⟩ => ⟨S_, .i32⟩
  | .hbm, ⟨30, _⟩ => ⟨S1024x256, .i32⟩
  | .hbm, ⟨31, _⟩ => ⟨S1024x256, .i32⟩
  | .hbm, ⟨32, _⟩ => ⟨S_, .i32⟩
  | .hbm, ⟨33, _⟩ => ⟨S1024x256, .i32⟩
  | .hbm, ⟨34, _⟩ => ⟨S1024x256, .i32⟩
  | .hbm, ⟨35, _⟩ => ⟨S1024x256, .i32⟩
  | .hbm, ⟨36, _⟩ => ⟨S1024x256, .i1⟩
  | .hbm, ⟨37, _⟩ => ⟨S_, .i32⟩
  | .hbm, ⟨38, _⟩ => ⟨S1024x256, .i32⟩
  | .hbm, ⟨39, _⟩ => ⟨S1024x256, .i32⟩
  | .hbm, ⟨40, _⟩ => ⟨S_, .i32⟩
  | .hbm, ⟨41, _⟩ => ⟨S1024x256, .i32⟩
  | .hbm, ⟨42, _⟩ => ⟨S1024x256, .i32⟩
  | .hbm, ⟨43, _⟩ => ⟨S_, .i32⟩
  | .hbm, ⟨44, _⟩ => ⟨S1024x256, .i32⟩
  | .hbm, ⟨45, _⟩ => ⟨S1024x256, .i32⟩
  | .hbm, ⟨46, _⟩ => ⟨S_, .i32⟩
  | .hbm, ⟨47, _⟩ => ⟨S_, .i32⟩
  | .hbm, ⟨48, _⟩ => ⟨S1024x256, .i32⟩
  | .hbm, ⟨49, _⟩ => ⟨S1024x256, .i32⟩
  | .hbm, ⟨50, _⟩ => ⟨S1024x256, .f32⟩
  | .hbm, ⟨51, _⟩ => ⟨S1024x256, .bf16⟩
  | .hbm, ⟨52, _⟩ => ⟨S14336x2048, .fp8e4m3⟩
  | .hbm, ⟨53, _⟩ => ⟨S14336x128, .i32⟩
  | .hbm, ⟨54, _⟩ => ⟨S28x4x128, .f32⟩
  | .local _ .vmem, ⟨0, _⟩ => ⟨S512x4096, .bf16⟩
  | .local _ .vmem, ⟨1, _⟩ => ⟨S512x4096, .bf16⟩
  | .local _ .vmem, ⟨2, _⟩ => ⟨S1024x256, .bf16⟩
  | .local _ .vmem, ⟨3, _⟩ => ⟨S512x2048, .fp8e4m3⟩
  | .local _ .vmem, ⟨4, _⟩ => ⟨S512x2048, .fp8e4m3⟩
  | .local _ .vmem, ⟨5, _⟩ => ⟨S512x128, .i32⟩
  | .local _ .vmem, ⟨6, _⟩ => ⟨S512x128, .i32⟩
  | .local _ .vmem, ⟨7, _⟩ => ⟨S1x4x128, .f32⟩
  | .local _ .vmem, ⟨8, _⟩ => ⟨S1x4x128, .f32⟩
  | .local _ .vmem, ⟨9, _⟩ => ⟨S512x1024, .bf16⟩
  | .local _ .vmem, ⟨10, _⟩ => ⟨S512x1024, .bf16⟩
  | .local _ .vmem, ⟨11, _⟩ => ⟨S512x1024, .bf16⟩
  | .local _ .vmem, ⟨12, _⟩ => ⟨S512x128, .bf16⟩
  | _, _ => ⟨S14336x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_c : Ref sig .tc := ⟨.hbm, 3, rfl⟩
abbrev main_v2 : Ref sig .tc := ⟨.hbm, 4, rfl⟩
abbrev main_v3 : Ref sig .tc := ⟨.hbm, 5, rfl⟩
abbrev main_c_0 : Ref sig .tc := ⟨.hbm, 6, rfl⟩
abbrev main_v4 : Ref sig .tc := ⟨.hbm, 7, rfl⟩
abbrev main_v5 : Ref sig .tc := ⟨.hbm, 8, rfl⟩
abbrev main_c_1 : Ref sig .tc := ⟨.hbm, 9, rfl⟩
abbrev main_v6 : Ref sig .tc := ⟨.hbm, 10, rfl⟩
abbrev main_v7 : Ref sig .tc := ⟨.hbm, 11, rfl⟩
abbrev main_c_2 : Ref sig .tc := ⟨.hbm, 12, rfl⟩
abbrev main_v8 : Ref sig .tc := ⟨.hbm, 13, rfl⟩
abbrev main_v9 : Ref sig .tc := ⟨.hbm, 14, rfl⟩
abbrev main_c_3 : Ref sig .tc := ⟨.hbm, 15, rfl⟩
abbrev main_v10 : Ref sig .tc := ⟨.hbm, 16, rfl⟩
abbrev main_v11 : Ref sig .tc := ⟨.hbm, 17, rfl⟩
abbrev main_c_4 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_c_5 : Ref sig .tc := ⟨.hbm, 23, rfl⟩
abbrev main_v16 : Ref sig .tc := ⟨.hbm, 24, rfl⟩
abbrev main_v17 : Ref sig .tc := ⟨.hbm, 25, rfl⟩
abbrev main_c_6 : Ref sig .tc := ⟨.hbm, 26, rfl⟩
abbrev main_v18 : Ref sig .tc := ⟨.hbm, 27, rfl⟩
abbrev main_v19 : Ref sig .tc := ⟨.hbm, 28, rfl⟩
abbrev main_c_7 : Ref sig .tc := ⟨.hbm, 29, rfl⟩
abbrev main_v20 : Ref sig .tc := ⟨.hbm, 30, rfl⟩
abbrev main_v21 : Ref sig .tc := ⟨.hbm, 31, rfl⟩
abbrev main_c_8 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_c_9 : Ref sig .tc := ⟨.hbm, 37, rfl⟩
abbrev main_v26 : Ref sig .tc := ⟨.hbm, 38, rfl⟩
abbrev main_v27 : Ref sig .tc := ⟨.hbm, 39, rfl⟩
abbrev main_c_10 : Ref sig .tc := ⟨.hbm, 40, rfl⟩
abbrev main_v28 : Ref sig .tc := ⟨.hbm, 41, rfl⟩
abbrev main_v29 : Ref sig .tc := ⟨.hbm, 42, rfl⟩
abbrev main_c_11 : Ref sig .tc := ⟨.hbm, 43, rfl⟩
abbrev main_v30 : Ref sig .tc := ⟨.hbm, 44, rfl⟩
abbrev main_v31 : Ref sig .tc := ⟨.hbm, 45, rfl⟩
abbrev main_c_12 : Ref sig .tc := ⟨.hbm, 46, rfl⟩
abbrev main_call0_v0 : Ref sig .tc := ⟨.hbm, 47, rfl⟩
abbrev main_call0_v1 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35_0 : Ref sig .tc := ⟨.hbm, 52, rfl⟩
abbrev main_v35_1 : Ref sig .tc := ⟨.hbm, 53, rfl⟩
abbrev main_v35_2 : Ref sig .tc := ⟨.hbm, 54, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_scratch1 : Ref sig .tc := ⟨.vmem, 10, rfl⟩
abbrev cc0_scratch2 : Ref sig .tc := ⟨.vmem, 11, rfl⟩
abbrev cc0_scratch3 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [BitOps F]

abbrev grid0 : Pipeline.Grid := ⟨1, ![28], ![false]⟩

@[reducible] def k0_t1_loop : Scf.Loop 32 :=
  let c0_i32 : BitVec 32 := 0#32
  let c16_i32 : BitVec 32 := 16#32
  let v3 : BitVec 32 := Scalar.addi c0_i32 c16_i32
  let c1_i32 : BitVec 32 := 1#32
  ⟨c0_i32, v3, c1_i32⟩
def k0_mult1 (k0_t1 : Fin k0_t1_loop.trips) : BitVec 32 :=
  let c0_i32 : BitVec 32 := 0#32
  let c1_i32 : BitVec 32 := 1#32
  let arg10 : BitVec 32 := Scf.iv c0_i32 c1_i32 k0_t1
  let c32_i32 : BitVec 32 := 32#32
  let v138 : BitVec 32 := Scalar.muli arg10 c32_i32
  v138
def k0_off1 (k0_t1 : Fin k0_t1_loop.trips) : Fin 2 → Nat :=
  let c0_i32 : BitVec 32 := 0#32
  let c1_i32 : BitVec 32 := 1#32
  let arg10 : BitVec 32 := Scf.iv c0_i32 c1_i32 k0_t1
  let c32_i32 : BitVec 32 := 32#32
  let v138 : BitVec 32 := Scalar.muli arg10 c32_i32
  let v139 : BitVec 32 := v138
  let v141 : Index := Scalar.indexCast v139
  let c0_54 : Index := 0#32
  ![v141.toNat, 0]
def k0_off2 (k0_t1 : Fin k0_t1_loop.trips) : Fin 2 → Nat :=
  let c0_i32 : BitVec 32 := 0#32
  let c1_i32 : BitVec 32 := 1#32
  let arg10 : BitVec 32 := Scf.iv c0_i32 c1_i32 k0_t1
  let c32_i32 : BitVec 32 := 32#32
  let v138 : BitVec 32 := Scalar.muli arg10 c32_i32
  let v139 : BitVec 32 := v138
  let v144 : Index := Scalar.indexCast v139
  let c128 : Index := 128#32
  ![v144.toNat, 128]
def k0_off3 (k0_t1 : Fin k0_t1_loop.trips) : Fin 2 → Nat :=
  let c0_i32 : BitVec 32 := 0#32
  let c1_i32 : BitVec 32 := 1#32
  let arg10 : BitVec 32 := Scf.iv c0_i32 c1_i32 k0_t1
  let c32_i32 : BitVec 32 := 32#32
  let v138 : BitVec 32 := Scalar.muli arg10 c32_i32
  let v139 : BitVec 32 := v138
  let v147 : Index := Scalar.indexCast v139
  let c256 : Index := 256#32
  ![v147.toNat, 256]
def k0_off4 (k0_t1 : Fin k0_t1_loop.trips) : Fin 2 → Nat :=
  let c0_i32 : BitVec 32 := 0#32
  let c1_i32 : BitVec 32 := 1#32
  let arg10 : BitVec 32 := Scf.iv c0_i32 c1_i32 k0_t1
  let c32_i32 : BitVec 32 := 32#32
  let v138 : BitVec 32 := Scalar.muli arg10 c32_i32
  let v139 : BitVec 32 := v138
  let v150 : Index := Scalar.indexCast v139
  let c384 : Index := 384#32
  ![v150.toNat, 384]
def k0_off5 (k0_t1 : Fin k0_t1_loop.trips) : Fin 2 → Nat :=
  let c0_i32 : BitVec 32 := 0#32
  let c1_i32 : BitVec 32 := 1#32
  let arg10 : BitVec 32 := Scf.iv c0_i32 c1_i32 k0_t1
  let c32_i32 : BitVec 32 := 32#32
  let v138 : BitVec 32 := Scalar.muli arg10 c32_i32
  let v139 : BitVec 32 := v138
  let v210 : Index := Scalar.indexCast v139
  let c0_71 : Index := 0#32
  ![v210.toNat, 0]
def k0_off6 (k0_t1 : Fin k0_t1_loop.trips) : Fin 2 → Nat :=
  let c0_i32 : BitVec 32 := 0#32
  let c1_i32 : BitVec 32 := 1#32
  let arg10 : BitVec 32 := Scf.iv c0_i32 c1_i32 k0_t1
  let c32_i32 : BitVec 32 := 32#32
  let v138 : BitVec 32 := Scalar.muli arg10 c32_i32
  let v139 : BitVec 32 := v138
  let v223 : Index := Scalar.indexCast v139
  let c512 : Index := 512#32
  ![v223.toNat, 512]
def k0_off7 (k0_t1 : Fin k0_t1_loop.trips) : Fin 2 → Nat :=
  let c0_i32 : BitVec 32 := 0#32
  let c1_i32 : BitVec 32 := 1#32
  let arg10 : BitVec 32 := Scf.iv c0_i32 c1_i32 k0_t1
  let c32_i32 : BitVec 32 := 32#32
  let v138 : BitVec 32 := Scalar.muli arg10 c32_i32
  let v139 : BitVec 32 := v138
  let v226 : Index := Scalar.indexCast v139
  let c640 : Index := 640#32
  ![v226.toNat, 640]
def k0_off8 (k0_t1 : Fin k0_t1_loop.trips) : Fin 2 → Nat :=
  let c0_i32 : BitVec 32 := 0#32
  let c1_i32 : BitVec 32 := 1#32
  let arg10 : BitVec 32 := Scf.iv c0_i32 c1_i32 k0_t1
  let c32_i32 : BitVec 32 := 32#32
  let v138 : BitVec 32 := Scalar.muli arg10 c32_i32
  let v139 : BitVec 32 := v138
  let v229 : Index := Scalar.indexCast v139
  let c768 : Index := 768#32
  ![v229.toNat, 768]
def k0_off9 (k0_t1 : Fin k0_t1_loop.trips) : Fin 2 → Nat :=
  let c0_i32 : BitVec 32 := 0#32
  let c1_i32 : BitVec 32 := 1#32
  let arg10 : BitVec 32 := Scf.iv c0_i32 c1_i32 k0_t1
  let c32_i32 : BitVec 32 := 32#32
  let v138 : BitVec 32 := Scalar.muli arg10 c32_i32
  let v139 : BitVec 32 := v138
  let v232 : Index := Scalar.indexCast v139
  let c896 : Index := 896#32
  ![v232.toNat, 896]
def k0_off10 (k0_t1 : Fin k0_t1_loop.trips) : Fin 2 → Nat :=
  let c0_i32 : BitVec 32 := 0#32
  let c1_i32 : BitVec 32 := 1#32
  let arg10 : BitVec 32 := Scf.iv c0_i32 c1_i32 k0_t1
  let c32_i32 : BitVec 32 := 32#32
  let v138 : BitVec 32 := Scalar.muli arg10 c32_i32
  let v139 : BitVec 32 := v138
  let v292 : Index := Scalar.indexCast v139
  let c128_91 : Index := 128#32
  ![v292.toNat, 128]
def k0_off11 (k0_t1 : Fin k0_t1_loop.trips) : Fin 2 → Nat :=
  let c0_i32 : BitVec 32 := 0#32
  let c1_i32 : BitVec 32 := 1#32
  let arg10 : BitVec 32 := Scf.iv c0_i32 c1_i32 k0_t1
  let c32_i32 : BitVec 32 := 32#32
  let v138 : BitVec 32 := Scalar.muli arg10 c32_i32
  let v139 : BitVec 32 := v138
  let v305 : Index := Scalar.indexCast v139
  let c1024 : Index := 1024#32
  ![v305.toNat, 1024]
def k0_off12 (k0_t1 : Fin k0_t1_loop.trips) : Fin 2 → Nat :=
  let c0_i32 : BitVec 32 := 0#32
  let c1_i32 : BitVec 32 := 1#32
  let arg10 : BitVec 32 := Scf.iv c0_i32 c1_i32 k0_t1
  let c32_i32 : BitVec 32 := 32#32
  let v138 : BitVec 32 := Scalar.muli arg10 c32_i32
  let v139 : BitVec 32 := v138
  let v308 : Index := Scalar.indexCast v139
  let c1152 : Index := 1152#32
  ![v308.toNat, 1152]
def k0_off13 (k0_t1 : Fin k0_t1_loop.trips) : Fin 2 → Nat :=
  let c0_i32 : BitVec 32 := 0#32
  let c1_i32 : BitVec 32 := 1#32
  let arg10 : BitVec 32 := Scf.iv c0_i32 c1_i32 k0_t1
  let c32_i32 : BitVec 32 := 32#32
  let v138 : BitVec 32 := Scalar.muli arg10 c32_i32
  let v139 : BitVec 32 := v138
  let v311 : Index := Scalar.indexCast v139
  let c1280 : Index := 1280#32
  ![v311.toNat, 1280]
def k0_off14 (k0_t1 : Fin k0_t1_loop.trips) : Fin 2 → Nat :=
  let c0_i32 : BitVec 32 := 0#32
  let c1_i32 : BitVec 32 := 1#32
  let arg10 : BitVec 32 := Scf.iv c0_i32 c1_i32 k0_t1
  let c32_i32 : BitVec 32 := 32#32
  let v138 : BitVec 32 := Scalar.muli arg10 c32_i32
  let v139 : BitVec 32 := v138
  let v314 : Index := Scalar.indexCast v139
  let c1408 : Index := 1408#32
  ![v314.toNat, 1408]
def k0_off15 (k0_t1 : Fin k0_t1_loop.trips) : Fin 2 → Nat :=
  let c0_i32 : BitVec 32 := 0#32
  let c1_i32 : BitVec 32 := 1#32
  let arg10 : BitVec 32 := Scf.iv c0_i32 c1_i32 k0_t1
  let c32_i32 : BitVec 32 := 32#32
  let v138 : BitVec 32 := Scalar.muli arg10 c32_i32
  let v139 : BitVec 32 := v138
  let v374 : Index := Scalar.indexCast v139
  let c256_111 : Index := 256#32
  ![v374.toNat, 256]
def k0_off16 (k0_t1 : Fin k0_t1_loop.trips) : Fin 2 → Nat :=
  let c0_i32 : BitVec 32 := 0#32
  let c1_i32 : BitVec 32 := 1#32
  let arg10 : BitVec 32 := Scf.iv c0_i32 c1_i32 k0_t1
  let c32_i32 : BitVec 32 := 32#32
  let v138 : BitVec 32 := Scalar.muli arg10 c32_i32
  let v139 : BitVec 32 := v138
  let v387 : Index := Scalar.indexCast v139
  let c1536 : Index := 1536#32
  ![v387.toNat, 1536]
def k0_off17 (k0_t1 : Fin k0_t1_loop.trips) : Fin 2 → Nat :=
  let c0_i32 : BitVec 32 := 0#32
  let c1_i32 : BitVec 32 := 1#32
  let arg10 : BitVec 32 := Scf.iv c0_i32 c1_i32 k0_t1
  let c32_i32 : BitVec 32 := 32#32
  let v138 : BitVec 32 := Scalar.muli arg10 c32_i32
  let v139 : BitVec 32 := v138
  let v390 : Index := Scalar.indexCast v139
  let c1664 : Index := 1664#32
  ![v390.toNat, 1664]
def k0_off18 (k0_t1 : Fin k0_t1_loop.trips) : Fin 2 → Nat :=
  let c0_i32 : BitVec 32 := 0#32
  let c1_i32 : BitVec 32 := 1#32
  let arg10 : BitVec 32 := Scf.iv c0_i32 c1_i32 k0_t1
  let c32_i32 : BitVec 32 := 32#32
  let v138 : BitVec 32 := Scalar.muli arg10 c32_i32
  let v139 : BitVec 32 := v138
  let v393 : Index := Scalar.indexCast v139
  let c1792 : Index := 1792#32
  ![v393.toNat, 1792]
def k0_off19 (k0_t1 : Fin k0_t1_loop.trips) : Fin 2 → Nat :=
  let c0_i32 : BitVec 32 := 0#32
  let c1_i32 : BitVec 32 := 1#32
  let arg10 : BitVec 32 := Scf.iv c0_i32 c1_i32 k0_t1
  let c32_i32 : BitVec 32 := 32#32
  let v138 : BitVec 32 := Scalar.muli arg10 c32_i32
  let v139 : BitVec 32 := v138
  let v396 : Index := Scalar.indexCast v139
  let c1920 : Index := 1920#32
  ![v396.toNat, 1920]
def k0_off20 (k0_t1 : Fin k0_t1_loop.trips) : Fin 2 → Nat :=
  let c0_i32 : BitVec 32 := 0#32
  let c1_i32 : BitVec 32 := 1#32
  let arg10 : BitVec 32 := Scf.iv c0_i32 c1_i32 k0_t1
  let c32_i32 : BitVec 32 := 32#32
  let v138 : BitVec 32 := Scalar.muli arg10 c32_i32
  let v139 : BitVec 32 := v138
  let v456 : Index := Scalar.indexCast v139
  let c384_131 : Index := 384#32
  ![v456.toNat, 384]
def k0_off21 (k0_t1 : Fin k0_t1_loop.trips) : Fin 2 → Nat :=
  let c0_i32 : BitVec 32 := 0#32
  let c1_i32 : BitVec 32 := 1#32
  let arg10 : BitVec 32 := Scf.iv c0_i32 c1_i32 k0_t1
  let c32_i32 : BitVec 32 := 32#32
  let v138 : BitVec 32 := Scalar.muli arg10 c32_i32
  let v139 : BitVec 32 := v138
  let v469 : Index := Scalar.indexCast v139
  let c2048 : Index := 2048#32
  ![v469.toNat, 2048]
def k0_off22 (k0_t1 : Fin k0_t1_loop.trips) : Fin 2 → Nat :=
  let c0_i32 : BitVec 32 := 0#32
  let c1_i32 : BitVec 32 := 1#32
  let arg10 : BitVec 32 := Scf.iv c0_i32 c1_i32 k0_t1
  let c32_i32 : BitVec 32 := 32#32
  let v138 : BitVec 32 := Scalar.muli arg10 c32_i32
  let v139 : BitVec 32 := v138
  let v472 : Index := Scalar.indexCast v139
  let c2176 : Index := 2176#32
  ![v472.toNat, 2176]
def k0_off23 (k0_t1 : Fin k0_t1_loop.trips) : Fin 2 → Nat :=
  let c0_i32 : BitVec 32 := 0#32
  let c1_i32 : BitVec 32 := 1#32
  let arg10 : BitVec 32 := Scf.iv c0_i32 c1_i32 k0_t1
  let c32_i32 : BitVec 32 := 32#32
  let v138 : BitVec 32 := Scalar.muli arg10 c32_i32
  let v139 : BitVec 32 := v138
  let v475 : Index := Scalar.indexCast v139
  let c2304 : Index := 2304#32
  ![v475.toNat, 2304]
def k0_off24 (k0_t1 : Fin k0_t1_loop.trips) : Fin 2 → Nat :=
  let c0_i32 : BitVec 32 := 0#32
  let c1_i32 : BitVec 32 := 1#32
  let arg10 : BitVec 32 := Scf.iv c0_i32 c1_i32 k0_t1
  let c32_i32 : BitVec 32 := 32#32
  let v138 : BitVec 32 := Scalar.muli arg10 c32_i32
  let v139 : BitVec 32 := v138
  let v478 : Index := Scalar.indexCast v139
  let c2432 : Index := 2432#32
  ![v478.toNat, 2432]
def k0_off25 (k0_t1 : Fin k0_t1_loop.trips) : Fin 2 → Nat :=
  let c0_i32 : BitVec 32 := 0#32
  let c1_i32 : BitVec 32 := 1#32
  let arg10 : BitVec 32 := Scf.iv c0_i32 c1_i32 k0_t1
  let c32_i32 : BitVec 32 := 32#32
  let v138 : BitVec 32 := Scalar.muli arg10 c32_i32
  let v139 : BitVec 32 := v138
  let v538 : Index := Scalar.indexCast v139
  let c512_151 : Index := 512#32
  ![v538.toNat, 512]
def k0_off26 (k0_t1 : Fin k0_t1_loop.trips) : Fin 2 → Nat :=
  let c0_i32 : BitVec 32 := 0#32
  let c1_i32 : BitVec 32 := 1#32
  let arg10 : BitVec 32 := Scf.iv c0_i32 c1_i32 k0_t1
  let c32_i32 : BitVec 32 := 32#32
  let v138 : BitVec 32 := Scalar.muli arg10 c32_i32
  let v139 : BitVec 32 := v138
  let v551 : Index := Scalar.indexCast v139
  let c2560 : Index := 2560#32
  ![v551.toNat, 2560]
def k0_off27 (k0_t1 : Fin k0_t1_loop.trips) : Fin 2 → Nat :=
  let c0_i32 : BitVec 32 := 0#32
  let c1_i32 : BitVec 32 := 1#32
  let arg10 : BitVec 32 := Scf.iv c0_i32 c1_i32 k0_t1
  let c32_i32 : BitVec 32 := 32#32
  let v138 : BitVec 32 := Scalar.muli arg10 c32_i32
  let v139 : BitVec 32 := v138
  let v554 : Index := Scalar.indexCast v139
  let c2688 : Index := 2688#32
  ![v554.toNat, 2688]
def k0_off28 (k0_t1 : Fin k0_t1_loop.trips) : Fin 2 → Nat :=
  let c0_i32 : BitVec 32 := 0#32
  let c1_i32 : BitVec 32 := 1#32
  let arg10 : BitVec 32 := Scf.iv c0_i32 c1_i32 k0_t1
  let c32_i32 : BitVec 32 := 32#32
  let v138 : BitVec 32 := Scalar.muli arg10 c32_i32
  let v139 : BitVec 32 := v138
  let v557 : Index := Scalar.indexCast v139
  let c2816 : Index := 2816#32
  ![v557.toNat, 2816]
def k0_off29 (k0_t1 : Fin k0_t1_loop.trips) : Fin 2 → Nat :=
  let c0_i32 : BitVec 32 := 0#32
  let c1_i32 : BitVec 32 := 1#32
  let arg10 : BitVec 32 := Scf.iv c0_i32 c1_i32 k0_t1
  let c32_i32 : BitVec 32 := 32#32
  let v138 : BitVec 32 := Scalar.muli arg10 c32_i32
  let v139 : BitVec 32 := v138
  let v560 : Index := Scalar.indexCast v139
  let c2944 : Index := 2944#32
  ![v560.toNat, 2944]
def k0_off30 (k0_t1 : Fin k0_t1_loop.trips) : Fin 2 → Nat :=
  let c0_i32 : BitVec 32 := 0#32
  let c1_i32 : BitVec 32 := 1#32
  let arg10 : BitVec 32 := Scf.iv c0_i32 c1_i32 k0_t1
  let c32_i32 : BitVec 32 := 32#32
  let v138 : BitVec 32 := Scalar.muli arg10 c32_i32
  let v139 : BitVec 32 := v138
  let v620 : Index := Scalar.indexCast v139
  let c640_171 : Index := 640#32
  ![v620.toNat, 640]
def k0_off31 (k0_t1 : Fin k0_t1_loop.trips) : Fin 2 → Nat :=
  let c0_i32 : BitVec 32 := 0#32
  let c1_i32 : BitVec 32 := 1#32
  let arg10 : BitVec 32 := Scf.iv c0_i32 c1_i32 k0_t1
  let c32_i32 : BitVec 32 := 32#32
  let v138 : BitVec 32 := Scalar.muli arg10 c32_i32
  let v139 : BitVec 32 := v138
  let v633 : Index := Scalar.indexCast v139
  let c3072 : Index := 3072#32
  ![v633.toNat, 3072]
def k0_off32 (k0_t1 : Fin k0_t1_loop.trips) : Fin 2 → Nat :=
  let c0_i32 : BitVec 32 := 0#32
  let c1_i32 : BitVec 32 := 1#32
  let arg10 : BitVec 32 := Scf.iv c0_i32 c1_i32 k0_t1
  let c32_i32 : BitVec 32 := 32#32
  let v138 : BitVec 32 := Scalar.muli arg10 c32_i32
  let v139 : BitVec 32 := v138
  let v636 : Index := Scalar.indexCast v139
  let c3200 : Index := 3200#32
  ![v636.toNat, 3200]
def k0_off33 (k0_t1 : Fin k0_t1_loop.trips) : Fin 2 → Nat :=
  let c0_i32 : BitVec 32 := 0#32
  let c1_i32 : BitVec 32 := 1#32
  let arg10 : BitVec 32 := Scf.iv c0_i32 c1_i32 k0_t1
  let c32_i32 : BitVec 32 := 32#32
  let v138 : BitVec 32 := Scalar.muli arg10 c32_i32
  let v139 : BitVec 32 := v138
  let v639 : Index := Scalar.indexCast v139
  let c3328 : Index := 3328#32
  ![v639.toNat, 3328]
def k0_off34 (k0_t1 : Fin k0_t1_loop.trips) : Fin 2 → Nat :=
  let c0_i32 : BitVec 32 := 0#32
  let c1_i32 : BitVec 32 := 1#32
  let arg10 : BitVec 32 := Scf.iv c0_i32 c1_i32 k0_t1
  let c32_i32 : BitVec 32 := 32#32
  let v138 : BitVec 32 := Scalar.muli arg10 c32_i32
  let v139 : BitVec 32 := v138
  let v642 : Index := Scalar.indexCast v139
  let c3456 : Index := 3456#32
  ![v642.toNat, 3456]
def k0_off35 (k0_t1 : Fin k0_t1_loop.trips) : Fin 2 → Nat :=
  let c0_i32 : BitVec 32 := 0#32
  let c1_i32 : BitVec 32 := 1#32
  let arg10 : BitVec 32 := Scf.iv c0_i32 c1_i32 k0_t1
  let c32_i32 : BitVec 32 := 32#32
  let v138 : BitVec 32 := Scalar.muli arg10 c32_i32
  let v139 : BitVec 32 := v138
  let v702 : Index := Scalar.indexCast v139
  let c768_191 : Index := 768#32
  ![v702.toNat, 768]
def k0_off36 (k0_t1 : Fin k0_t1_loop.trips) : Fin 2 → Nat :=
  let c0_i32 : BitVec 32 := 0#32
  let c1_i32 : BitVec 32 := 1#32
  let arg10 : BitVec 32 := Scf.iv c0_i32 c1_i32 k0_t1
  let c32_i32 : BitVec 32 := 32#32
  let v138 : BitVec 32 := Scalar.muli arg10 c32_i32
  let v139 : BitVec 32 := v138
  let v715 : Index := Scalar.indexCast v139
  let c3584 : Index := 3584#32
  ![v715.toNat, 3584]
def k0_off37 (k0_t1 : Fin k0_t1_loop.trips) : Fin 2 → Nat :=
  let c0_i32 : BitVec 32 := 0#32
  let c1_i32 : BitVec 32 := 1#32
  let arg10 : BitVec 32 := Scf.iv c0_i32 c1_i32 k0_t1
  let c32_i32 : BitVec 32 := 32#32
  let v138 : BitVec 32 := Scalar.muli arg10 c32_i32
  let v139 : BitVec 32 := v138
  let v718 : Index := Scalar.indexCast v139
  let c3712 : Index := 3712#32
  ![v718.toNat, 3712]
def k0_off38 (k0_t1 : Fin k0_t1_loop.trips) : Fin 2 → Nat :=
  let c0_i32 : BitVec 32 := 0#32
  let c1_i32 : BitVec 32 := 1#32
  let arg10 : BitVec 32 := Scf.iv c0_i32 c1_i32 k0_t1
  let c32_i32 : BitVec 32 := 32#32
  let v138 : BitVec 32 := Scalar.muli arg10 c32_i32
  let v139 : BitVec 32 := v138
  let v721 : Index := Scalar.indexCast v139
  let c3840 : Index := 3840#32
  ![v721.toNat, 3840]
def k0_off39 (k0_t1 : Fin k0_t1_loop.trips) : Fin 2 → Nat :=
  let c0_i32 : BitVec 32 := 0#32
  let c1_i32 : BitVec 32 := 1#32
  let arg10 : BitVec 32 := Scf.iv c0_i32 c1_i32 k0_t1
  let c32_i32 : BitVec 32 := 32#32
  let v138 : BitVec 32 := Scalar.muli arg10 c32_i32
  let v139 : BitVec 32 := v138
  let v724 : Index := Scalar.indexCast v139
  let c3968 : Index := 3968#32
  ![v724.toNat, 3968]
def k0_off40 (k0_t1 : Fin k0_t1_loop.trips) : Fin 2 → Nat :=
  let c0_i32 : BitVec 32 := 0#32
  let c1_i32 : BitVec 32 := 1#32
  let arg10 : BitVec 32 := Scf.iv c0_i32 c1_i32 k0_t1
  let c32_i32 : BitVec 32 := 32#32
  let v138 : BitVec 32 := Scalar.muli arg10 c32_i32
  let v139 : BitVec 32 := v138
  let v784 : Index := Scalar.indexCast v139
  let c896_211 : Index := 896#32
  ![v784.toNat, 896]
def k0_off41 (k0_t1 : Fin k0_t1_loop.trips) : Fin 2 → Nat :=
  let c0_i32 : BitVec 32 := 0#32
  let c1_i32 : BitVec 32 := 1#32
  let arg10 : BitVec 32 := Scf.iv c0_i32 c1_i32 k0_t1
  let c32_i32 : BitVec 32 := 32#32
  let v138 : BitVec 32 := Scalar.muli arg10 c32_i32
  let v139 : BitVec 32 := v138
  let v797 : Index := Scalar.indexCast v139
  let c0_214 : Index := 0#32
  ![v797.toNat, 0]
@[reducible] def k0_t2_loop : Scf.Loop 32 :=
  let c0_i32_41 : BitVec 32 := 0#32
  let c16_i32_42 : BitVec 32 := 16#32
  let v126 : BitVec 32 := Scalar.addi c0_i32_41 c16_i32_42
  let c1_i32_43 : BitVec 32 := 1#32
  ⟨c0_i32_41, v126, c1_i32_43⟩
def k0_mult2 (k0_t2 : Fin k0_t2_loop.trips) : BitVec 32 :=
  let c0_i32_41 : BitVec 32 := 0#32
  let c1_i32_43 : BitVec 32 := 1#32
  let arg10 : BitVec 32 := Scf.iv c0_i32_41 c1_i32_43 k0_t2
  let c32_i32 : BitVec 32 := 32#32
  let v138 : BitVec 32 := Scalar.muli arg10 c32_i32
  v138
def k0_off42 (k0_t2 : Fin k0_t2_loop.trips) : Fin 2 → Nat :=
  let c0_i32_41 : BitVec 32 := 0#32
  let c1_i32_43 : BitVec 32 := 1#32
  let arg10 : BitVec 32 := Scf.iv c0_i32_41 c1_i32_43 k0_t2
  let c32_i32 : BitVec 32 := 32#32
  let v138 : BitVec 32 := Scalar.muli arg10 c32_i32
  let v139 : BitVec 32 := v138
  let v140 : Index := Scalar.indexCast v139
  let c0_53 : Index := 0#32
  ![v140.toNat, 0]
def k0_off43 (k0_t2 : Fin k0_t2_loop.trips) : Fin 2 → Nat :=
  let c0_i32_41 : BitVec 32 := 0#32
  let c1_i32_43 : BitVec 32 := 1#32
  let arg10 : BitVec 32 := Scf.iv c0_i32_41 c1_i32_43 k0_t2
  let c32_i32 : BitVec 32 := 32#32
  let v138 : BitVec 32 := Scalar.muli arg10 c32_i32
  let v139 : BitVec 32 := v138
  let v142 : Index := Scalar.indexCast v139
  let c0_54 : Index := 0#32
  ![v142.toNat, 0]
def k0_off44 (k0_t2 : Fin k0_t2_loop.trips) : Fin 2 → Nat :=
  let c0_i32_41 : BitVec 32 := 0#32
  let c1_i32_43 : BitVec 32 := 1#32
  let arg10 : BitVec 32 := Scf.iv c0_i32_41 c1_i32_43 k0_t2
  let c32_i32 : BitVec 32 := 32#32
  let v138 : BitVec 32 := Scalar.muli arg10 c32_i32
  let v139 : BitVec 32 := v138
  let v172 : Index := Scalar.indexCast v139
  let c0_62 : Index := 0#32
  ![v172.toNat, 0]
def k0_off45 (k0_t2 : Fin k0_t2_loop.trips) : Fin 2 → Nat :=
  let c0_i32_41 : BitVec 32 := 0#32
  let c1_i32_43 : BitVec 32 := 1#32
  let arg10 : BitVec 32 := Scf.iv c0_i32_41 c1_i32_43 k0_t2
  let c32_i32 : BitVec 32 := 32#32
  let v138 : BitVec 32 := Scalar.muli arg10 c32_i32
  let v139 : BitVec 32 := v138
  let v183 : Index := Scalar.indexCast v139
  let c128 : Index := 128#32
  ![v183.toNat, 128]
def k0_off46 (k0_t2 : Fin k0_t2_loop.trips) : Fin 2 → Nat :=
  let c0_i32_41 : BitVec 32 := 0#32
  let c1_i32_43 : BitVec 32 := 1#32
  let arg10 : BitVec 32 := Scf.iv c0_i32_41 c1_i32_43 k0_t2
  let c32_i32 : BitVec 32 := 32#32
  let v138 : BitVec 32 := Scalar.muli arg10 c32_i32
  let v139 : BitVec 32 := v138
  let v185 : Index := Scalar.indexCast v139
  let c128_65 : Index := 128#32
  ![v185.toNat, 128]
def k0_off47 (k0_t2 : Fin k0_t2_loop.trips) : Fin 2 → Nat :=
  let c0_i32_41 : BitVec 32 := 0#32
  let c1_i32_43 : BitVec 32 := 1#32
  let arg10 : BitVec 32 := Scf.iv c0_i32_41 c1_i32_43 k0_t2
  let c32_i32 : BitVec 32 := 32#32
  let v138 : BitVec 32 := Scalar.muli arg10 c32_i32
  let v139 : BitVec 32 := v138
  let v215 : Index := Scalar.indexCast v139
  let c256 : Index := 256#32
  ![v215.toNat, 256]
def k0_off48 (k0_t2 : Fin k0_t2_loop.trips) : Fin 2 → Nat :=
  let c0_i32_41 : BitVec 32 := 0#32
  let c1_i32_43 : BitVec 32 := 1#32
  let arg10 : BitVec 32 := Scf.iv c0_i32_41 c1_i32_43 k0_t2
  let c32_i32 : BitVec 32 := 32#32
  let v138 : BitVec 32 := Scalar.muli arg10 c32_i32
  let v139 : BitVec 32 := v138
  let v226 : Index := Scalar.indexCast v139
  let c384 : Index := 384#32
  ![v226.toNat, 384]
def k0_off49 (k0_t2 : Fin k0_t2_loop.trips) : Fin 2 → Nat :=
  let c0_i32_41 : BitVec 32 := 0#32
  let c1_i32_43 : BitVec 32 := 1#32
  let arg10 : BitVec 32 := Scf.iv c0_i32_41 c1_i32_43 k0_t2
  let c32_i32 : BitVec 32 := 32#32
  let v138 : BitVec 32 := Scalar.muli arg10 c32_i32
  let v139 : BitVec 32 := v138
  let v228 : Index := Scalar.indexCast v139
  let c256_76 : Index := 256#32
  ![v228.toNat, 256]
def k0_off50 (k0_t2 : Fin k0_t2_loop.trips) : Fin 2 → Nat :=
  let c0_i32_41 : BitVec 32 := 0#32
  let c1_i32_43 : BitVec 32 := 1#32
  let arg10 : BitVec 32 := Scf.iv c0_i32_41 c1_i32_43 k0_t2
  let c32_i32 : BitVec 32 := 32#32
  let v138 : BitVec 32 := Scalar.muli arg10 c32_i32
  let v139 : BitVec 32 := v138
  let v258 : Index := Scalar.indexCast v139
  let c512 : Index := 512#32
  ![v258.toNat, 512]
def k0_off51 (k0_t2 : Fin k0_t2_loop.trips) : Fin 2 → Nat :=
  let c0_i32_41 : BitVec 32 := 0#32
  let c1_i32_43 : BitVec 32 := 1#32
  let arg10 : BitVec 32 := Scf.iv c0_i32_41 c1_i32_43 k0_t2
  let c32_i32 : BitVec 32 := 32#32
  let v138 : BitVec 32 := Scalar.muli arg10 c32_i32
  let v139 : BitVec 32 := v138
  let v269 : Index := Scalar.indexCast v139
  let c640 : Index := 640#32
  ![v269.toNat, 640]
def k0_off52 (k0_t2 : Fin k0_t2_loop.trips) : Fin 2 → Nat :=
  let c0_i32_41 : BitVec 32 := 0#32
  let c1_i32_43 : BitVec 32 := 1#32
  let arg10 : BitVec 32 := Scf.iv c0_i32_41 c1_i32_43 k0_t2
  let c32_i32 : BitVec 32 := 32#32
  let v138 : BitVec 32 := Scalar.muli arg10 c32_i32
  let v139 : BitVec 32 := v138
  let v271 : Index := Scalar.indexCast v139
  let c384_87 : Index := 384#32
  ![v271.toNat, 384]
def k0_off53 (k0_t2 : Fin k0_t2_loop.trips) : Fin 2 → Nat :=
  let c0_i32_41 : BitVec 32 := 0#32
  let c1_i32_43 : BitVec 32 := 1#32
  let arg10 : BitVec 32 := Scf.iv c0_i32_41 c1_i32_43 k0_t2
  let c32_i32 : BitVec 32 := 32#32
  let v138 : BitVec 32 := Scalar.muli arg10 c32_i32
  let v139 : BitVec 32 := v138
  let v301 : Index := Scalar.indexCast v139
  let c768 : Index := 768#32
  ![v301.toNat, 768]
def k0_off54 (k0_t2 : Fin k0_t2_loop.trips) : Fin 2 → Nat :=
  let c0_i32_41 : BitVec 32 := 0#32
  let c1_i32_43 : BitVec 32 := 1#32
  let arg10 : BitVec 32 := Scf.iv c0_i32_41 c1_i32_43 k0_t2
  let c32_i32 : BitVec 32 := 32#32
  let v138 : BitVec 32 := Scalar.muli arg10 c32_i32
  let v139 : BitVec 32 := v138
  let v312 : Index := Scalar.indexCast v139
  let c896 : Index := 896#32
  ![v312.toNat, 896]
def k0_off55 (k0_t2 : Fin k0_t2_loop.trips) : Fin 2 → Nat :=
  let c0_i32_41 : BitVec 32 := 0#32
  let c1_i32_43 : BitVec 32 := 1#32
  let arg10 : BitVec 32 := Scf.iv c0_i32_41 c1_i32_43 k0_t2
  let c32_i32 : BitVec 32 := 32#32
  let v138 : BitVec 32 := Scalar.muli arg10 c32_i32
  let v139 : BitVec 32 := v138
  let v314 : Index := Scalar.indexCast v139
  let c512_98 : Index := 512#32
  ![v314.toNat, 512]
def k0_off56 (k0_t2 : Fin k0_t2_loop.trips) : Fin 2 → Nat :=
  let c0_i32_41 : BitVec 32 := 0#32
  let c1_i32_43 : BitVec 32 := 1#32
  let arg10 : BitVec 32 := Scf.iv c0_i32_41 c1_i32_43 k0_t2
  let c32_i32 : BitVec 32 := 32#32
  let v138 : BitVec 32 := Scalar.muli arg10 c32_i32
  let v139 : BitVec 32 := v138
  let v344 : Index := Scalar.indexCast v139
  let c1024 : Index := 1024#32
  ![v344.toNat, 1024]
def k0_off57 (k0_t2 : Fin k0_t2_loop.trips) : Fin 2 → Nat :=
  let c0_i32_41 : BitVec 32 := 0#32
  let c1_i32_43 : BitVec 32 := 1#32
  let arg10 : BitVec 32 := Scf.iv c0_i32_41 c1_i32_43 k0_t2
  let c32_i32 : BitVec 32 := 32#32
  let v138 : BitVec 32 := Scalar.muli arg10 c32_i32
  let v139 : BitVec 32 := v138
  let v355 : Index := Scalar.indexCast v139
  let c1152 : Index := 1152#32
  ![v355.toNat, 1152]
def k0_off58 (k0_t2 : Fin k0_t2_loop.trips) : Fin 2 → Nat :=
  let c0_i32_41 : BitVec 32 := 0#32
  let c1_i32_43 : BitVec 32 := 1#32
  let arg10 : BitVec 32 := Scf.iv c0_i32_41 c1_i32_43 k0_t2
  let c32_i32 : BitVec 32 := 32#32
  let v138 : BitVec 32 := Scalar.muli arg10 c32_i32
  let v139 : BitVec 32 := v138
  let v357 : Index := Scalar.indexCast v139
  let c640_109 : Index := 640#32
  ![v357.toNat, 640]
def k0_off59 (k0_t2 : Fin k0_t2_loop.trips) : Fin 2 → Nat :=
  let c0_i32_41 : BitVec 32 := 0#32
  let c1_i32_43 : BitVec 32 := 1#32
  let arg10 : BitVec 32 := Scf.iv c0_i32_41 c1_i32_43 k0_t2
  let c32_i32 : BitVec 32 := 32#32
  let v138 : BitVec 32 := Scalar.muli arg10 c32_i32
  let v139 : BitVec 32 := v138
  let v387 : Index := Scalar.indexCast v139
  let c1280 : Index := 1280#32
  ![v387.toNat, 1280]
def k0_off60 (k0_t2 : Fin k0_t2_loop.trips) : Fin 2 → Nat :=
  let c0_i32_41 : BitVec 32 := 0#32
  let c1_i32_43 : BitVec 32 := 1#32
  let arg10 : BitVec 32 := Scf.iv c0_i32_41 c1_i32_43 k0_t2
  let c32_i32 : BitVec 32 := 32#32
  let v138 : BitVec 32 := Scalar.muli arg10 c32_i32
  let v139 : BitVec 32 := v138
  let v398 : Index := Scalar.indexCast v139
  let c1408 : Index := 1408#32
  ![v398.toNat, 1408]
def k0_off61 (k0_t2 : Fin k0_t2_loop.trips) : Fin 2 → Nat :=
  let c0_i32_41 : BitVec 32 := 0#32
  let c1_i32_43 : BitVec 32 := 1#32
  let arg10 : BitVec 32 := Scf.iv c0_i32_41 c1_i32_43 k0_t2
  let c32_i32 : BitVec 32 := 32#32
  let v138 : BitVec 32 := Scalar.muli arg10 c32_i32
  let v139 : BitVec 32 := v138
  let v400 : Index := Scalar.indexCast v139
  let c768_120 : Index := 768#32
  ![v400.toNat, 768]
def k0_off62 (k0_t2 : Fin k0_t2_loop.trips) : Fin 2 → Nat :=
  let c0_i32_41 : BitVec 32 := 0#32
  let c1_i32_43 : BitVec 32 := 1#32
  let arg10 : BitVec 32 := Scf.iv c0_i32_41 c1_i32_43 k0_t2
  let c32_i32 : BitVec 32 := 32#32
  let v138 : BitVec 32 := Scalar.muli arg10 c32_i32
  let v139 : BitVec 32 := v138
  let v430 : Index := Scalar.indexCast v139
  let c1536 : Index := 1536#32
  ![v430.toNat, 1536]
def k0_off63 (k0_t2 : Fin k0_t2_loop.trips) : Fin 2 → Nat :=
  let c0_i32_41 : BitVec 32 := 0#32
  let c1_i32_43 : BitVec 32 := 1#32
  let arg10 : BitVec 32 := Scf.iv c0_i32_41 c1_i32_43 k0_t2
  let c32_i32 : BitVec 32 := 32#32
  let v138 : BitVec 32 := Scalar.muli arg10 c32_i32
  let v139 : BitVec 32 := v138
  let v441 : Index := Scalar.indexCast v139
  let c1664 : Index := 1664#32
  ![v441.toNat, 1664]
def k0_off64 (k0_t2 : Fin k0_t2_loop.trips) : Fin 2 → Nat :=
  let c0_i32_41 : BitVec 32 := 0#32
  let c1_i32_43 : BitVec 32 := 1#32
  let arg10 : BitVec 32 := Scf.iv c0_i32_41 c1_i32_43 k0_t2
  let c32_i32 : BitVec 32 := 32#32
  let v138 : BitVec 32 := Scalar.muli arg10 c32_i32
  let v139 : BitVec 32 := v138
  let v443 : Index := Scalar.indexCast v139
  let c896_131 : Index := 896#32
  ![v443.toNat, 896]
def k0_off65 (k0_t2 : Fin k0_t2_loop.trips) : Fin 2 → Nat :=
  let c0_i32_41 : BitVec 32 := 0#32
  let c1_i32_43 : BitVec 32 := 1#32
  let arg10 : BitVec 32 := Scf.iv c0_i32_41 c1_i32_43 k0_t2
  let c32_i32 : BitVec 32 := 32#32
  let v138 : BitVec 32 := Scalar.muli arg10 c32_i32
  let v139 : BitVec 32 := v138
  let v473 : Index := Scalar.indexCast v139
  let c1792 : Index := 1792#32
  ![v473.toNat, 1792]
def k0_off66 (k0_t2 : Fin k0_t2_loop.trips) : Fin 2 → Nat :=
  let c0_i32_41 : BitVec 32 := 0#32
  let c1_i32_43 : BitVec 32 := 1#32
  let arg10 : BitVec 32 := Scf.iv c0_i32_41 c1_i32_43 k0_t2
  let c32_i32 : BitVec 32 := 32#32
  let v138 : BitVec 32 := Scalar.muli arg10 c32_i32
  let v139 : BitVec 32 := v138
  let v484 : Index := Scalar.indexCast v139
  let c1920 : Index := 1920#32
  ![v484.toNat, 1920]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2048 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x128 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x4x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== KernelIdeal.lean ====
variable {F : FTy → Type} [FloatOps F]
-- ==== ReferenceIdeal.lean ====
abbrev S14336x4096 : Shape := ⟨2, ![14336, 4096]⟩
abbrev S14336x1024x4 : Shape := ⟨3, ![14336, 1024, 4]⟩
abbrev S14336x1024x1 : Shape := ⟨3, ![14336, 1024, 1]⟩
abbrev S14336x1024 : Shape := ⟨2, ![14336, 1024]⟩
abbrev S_ : Shape := ⟨0, ![]⟩
abbrev S14336x1024x2 : Shape := ⟨3, ![14336, 1024, 2]⟩
abbrev S14336x2048 : Shape := ⟨2, ![14336, 2048]⟩
abbrev S14336 : Shape := ⟨1, ![14336]⟩
abbrev S14336x1 : Shape := ⟨2, ![14336, 1]⟩
abbrev S14336x254 : Shape := ⟨2, ![14336, 254]⟩
abbrev S28x4x128 : Shape := ⟨3, ![28, 4, 128]⟩
abbrev S14336x128x8 : Shape := ⟨3, ![14336, 128, 8]⟩
abbrev S14336x128 : Shape := ⟨2, ![14336, 128]⟩
abbrev S14336x128x1 : Shape := ⟨3, ![14336, 128, 1]⟩

abbrev nBuf : Space → Nat
  | .hbm => 245
  | .vmem => 3
  | .smem => 0
  | _ => 0

abbrev hbmTy0_0 (i : Nat) : BufTy := match i % 128 with
  | 0 => ⟨S14336x4096, .bf16⟩
  | 1 => ⟨S14336x1024x4, .bf16⟩
  | 2 => ⟨S14336x1024x1, .bf16⟩
  | 3 => ⟨S14336x1024, .bf16⟩
  | 4 => ⟨S14336x1024x1, .bf16⟩
  | 5 => ⟨S14336x1024, .bf16⟩
  | 6 => ⟨S14336x1024x1, .bf16⟩
  | 7 => ⟨S14336x1024, .bf16⟩
  | 8 => ⟨S14336x1024x1, .bf16⟩
  | 9 => ⟨S14336x1024, .bf16⟩
  | 10 => ⟨S14336x1024, .bf16⟩
  | 11 => ⟨S14336x1024, .bf16⟩
  | 12 => ⟨S14336x1024, .bf16⟩
  | 13 => ⟨S14336x1024, .bf16⟩
  | 14 => ⟨S_, .i32⟩
  | 15 => ⟨S14336x1024, .i32⟩
  | 16 => ⟨S14336x1024, .i1⟩
  | 17 => ⟨S14336x1024, .i32⟩
  | 18 => ⟨S14336x1024, .i32⟩
  | 19 => ⟨S14336x1024, .i1⟩
  | 20 => ⟨S14336x1024, .i32⟩
  | 21 => ⟨S14336x1024, .i32⟩
  | 22 => ⟨S14336x1024, .i1⟩
  | 23 => ⟨S14336x1024, .i32⟩
  | 24 => ⟨S14336x1024, .i32⟩
  | 25 => ⟨S_, .i32⟩
  | 26 => ⟨S14336x1024, .i32⟩
  | 27 => ⟨S14336x1024, .i1⟩
  | 28 => ⟨S_, .i32⟩
  | 29 => ⟨S14336x1024, .i32⟩
  | 30 => ⟨S14336x1024, .i1⟩
  | 31 => ⟨S14336x1024, .i1⟩
  | 32 => ⟨S14336x1024, .i1⟩
  | 33 => ⟨S14336x1024, .i32⟩
  | 34 => ⟨S14336x1024, .i32⟩
  | 35 => ⟨S14336x1024, .i1⟩
  | 36 => ⟨S14336x1024, .i32⟩
  | 37 => ⟨S14336x1024, .i32⟩
  | 38 => ⟨S14336x1024, .i1⟩
  | 39 => ⟨S14336x1024, .i32⟩
  | 40 => ⟨S14336x1024, .i32⟩
  | 41 => ⟨S_, .i32⟩
  | 42 => ⟨S14336x1024, .i32⟩
  | 43 => ⟨S14336x1024, .i1⟩
  | 44 => ⟨S_, .i32⟩
  | 45 => ⟨S14336x1024, .i32⟩
  | 46 => ⟨S14336x1024, .i1⟩
  | 47 => ⟨S14336x1024, .i1⟩
  | 48 => ⟨S14336x1024, .i1⟩
  | 49 => ⟨S14336x1024, .i32⟩
  | 50 => ⟨S14336x1024, .i32⟩
  | 51 => ⟨S14336x1024, .i1⟩
  | 52 => ⟨S14336x1024, .i1⟩
  | 53 => ⟨S14336x1024, .i1⟩
  | 54 => ⟨S14336x1024, .i32⟩
  | 55 => ⟨S14336x1024, .i32⟩
  | 56 => ⟨S14336x1024, .i1⟩
  | 57 => ⟨S14336x1024, .i32⟩
  | 58 => ⟨S14336x1024, .i32⟩
  | 59 => ⟨S_, .i32⟩
  | 60 => ⟨S14336x1024, .i32⟩
  | 61 => ⟨S14336x1024, .i1⟩
  | 62 => ⟨S_, .i32⟩
  | 63 => ⟨S14336x1024, .i32⟩
  | 64 => ⟨S14336x1024, .i1⟩
  | 65 => ⟨S14336x1024, .i1⟩
  | 66 => ⟨S14336x1024, .i1⟩
  | 67 => ⟨S14336x1024, .i32⟩
  | 68 => ⟨S14336x1024, .i32⟩
  | 69 => ⟨S14336x1024, .i1⟩
  | 70 => ⟨S14336x1024, .i1⟩
  | 71 => ⟨S14336x1024, .i1⟩
  | 72 => ⟨S14336x1024, .i32⟩
  | 73 => ⟨S14336x1024, .i32⟩
  | 74 => ⟨S14336x1024, .i1⟩
  | 75 => ⟨S14336x1024, .i1⟩
  | 76 => ⟨S14336x1024, .i1⟩
  | 77 => ⟨S14336x1024, .i32⟩
  | 78 => ⟨S14336x1024, .i32⟩
  | 79 => ⟨S_, .i32⟩
  | 80 => ⟨S14336x1024, .i32⟩
  | 81 => ⟨S14336x1024, .i1⟩
  | 82 => ⟨S_, .i32⟩
  | 83 => ⟨S14336x1024, .i32⟩
  | 84 => ⟨S_, .i32⟩
  | 85 => ⟨S_, .i32⟩
  | 86 => ⟨S14336x1024, .i32⟩
  | 87 => ⟨S14336x1024, .i32⟩
  | 88 => ⟨S_, .i32⟩
  | 89 => ⟨S_, .i32⟩
  | 90 => ⟨S14336x1024, .i32⟩
  | 91 => ⟨S14336x1024, .i32⟩
  | 92 => ⟨S_, .i32⟩
  | 93 => ⟨S_, .i32⟩
  | 94 => ⟨S14336x1024, .i32⟩
  | 95 => ⟨S14336x1024, .i32⟩
  | 96 => ⟨S_, .i32⟩
  | 97 => ⟨S_, .i32⟩
  | 98 => ⟨S14336x1024, .i32⟩
  | 99 => ⟨S14336x1024, .i32⟩
  | 100 => ⟨S_, .i32⟩
  | 101 => ⟨S14336x1024, .i32⟩
  | 102 => ⟨S_, .i32⟩
  | 103 => ⟨S_, .i32⟩
  | 104 => ⟨S14336x1024, .i32⟩
  | 105 => ⟨S14336x1024, .i32⟩
  | 106 => ⟨S_, .i32⟩
  | 107 => ⟨S_, .i32⟩
  | 108 => ⟨S14336x1024, .i32⟩
  | 109 => ⟨S14336x1024, .i32⟩
  | 110 => ⟨S_, .i32⟩
  | 111 => ⟨S_, .i32⟩
  | 112 => ⟨S14336x1024, .i32⟩
  | 113 => ⟨S14336x1024, .i32⟩
  | 114 => ⟨S_, .i32⟩
  | 115 => ⟨S_, .i32⟩
  | 116 => ⟨S14336x1024, .i32⟩
  | 117 => ⟨S14336x1024, .i32⟩
  | 118 => ⟨S_, .i32⟩
  | 119 => ⟨S14336x1024, .i32⟩
  | 120 => ⟨S14336x1024, .i1⟩
  | 121 => ⟨S14336x1024, .bf16⟩
  | 122 => ⟨S_, .i32⟩
  | 123 => ⟨S14336x1024, .i32⟩
  | 124 => ⟨S14336x1024, .i1⟩
  | 125 => ⟨S14336x1024, .bf16⟩
  | 126 => ⟨S_, .i32⟩
  | 127 => ⟨S14336x1024, .i32⟩
  | _ => ⟨S14336x4096, .bf16⟩

abbrev hbmTy0_1 (i : Nat) : BufTy := match i % 128 with
  | 0 => ⟨S14336x1024, .i1⟩
  | 1 => ⟨S14336x1024, .bf16⟩
  | 2 => ⟨S_, .i32⟩
  | 3 => ⟨S14336x1024, .i32⟩
  | 4 => ⟨S14336x1024, .i1⟩
  | 5 => ⟨S14336x1024, .bf16⟩
  | 6 => ⟨S_, .i32⟩
  | 7 => ⟨S14336x1024, .i32⟩
  | 8 => ⟨S14336x1024, .i1⟩
  | 9 => ⟨S14336x1024, .bf16⟩
  | 10 => ⟨S_, .i32⟩
  | 11 => ⟨S14336x1024, .i32⟩
  | 12 => ⟨S14336x1024, .i1⟩
  | 13 => ⟨S14336x1024, .bf16⟩
  | 14 => ⟨S14336x1024x1, .bf16⟩
  | 15 => ⟨S14336x1024x1, .bf16⟩
  | 16 => ⟨S14336x1024x2, .bf16⟩
  | 17 => ⟨S14336x2048, .bf16⟩
  | 18 => ⟨S14336x2048, .f32⟩
  | 19 => ⟨S14336x2048, .f32⟩
  | 20 => ⟨S_, .f32⟩
  | 21 => ⟨S14336, .f32⟩
  | 22 => ⟨S14336x1, .f32⟩
  | 23 => ⟨S_, .f32⟩
  | 24 => ⟨S14336x1, .f32⟩
  | 25 => ⟨S14336x1, .f32⟩
  | 26 => ⟨S14336x254, .i32⟩
  | 27 => ⟨S_, .i32⟩
  | 28 => ⟨S14336x254, .i32⟩
  | 29 => ⟨S14336x254, .i32⟩
  | 30 => ⟨S_, .f32⟩
  | 31 => ⟨S14336x254, .f32⟩
  | 32 => ⟨S_, .i32⟩
  | 33 => ⟨S14336x254, .i32⟩
  | 34 => ⟨S14336x254, .i32⟩
  | 35 => ⟨S14336x254, .f32⟩
  | 36 => ⟨S14336x254, .f32⟩
  | 37 => ⟨S14336x254, .f32⟩
  | 38 => ⟨S14336x254, .i1⟩
  | 39 => ⟨S14336x254, .f32⟩
  | 40 => ⟨S14336x254, .f32⟩
  | 41 => ⟨S14336x254, .f32⟩
  | 42 => ⟨S14336x254, .i1⟩
  | 43 => ⟨S14336x254, .i1⟩
  | 44 => ⟨S_, .i32⟩
  | 45 => ⟨S_, .i32⟩
  | 46 => ⟨S14336x254, .i32⟩
  | 47 => ⟨S14336x254, .i32⟩
  | 48 => ⟨S_, .i32⟩
  | 49 => ⟨S14336, .i32⟩
  | 50 => ⟨S14336x1, .i32⟩
  | 51 => ⟨S_, .f32⟩
  | 52 => ⟨S14336x1, .f32⟩
  | 53 => ⟨S14336x1, .f32⟩
  | 54 => ⟨S14336x1, .f32⟩
  | 55 => ⟨S14336x1, .i32⟩
  | 56 => ⟨S14336x1, .f32⟩
  | 57 => ⟨S14336x1, .f32⟩
  | 58 => ⟨S28x4x128, .f32⟩
  | 59 => ⟨S_, .i32⟩
  | 60 => ⟨S14336x1024, .i32⟩
  | 61 => ⟨S14336x1024, .i32⟩
  | 62 => ⟨S14336x1024, .i32⟩
  | 63 => ⟨S14336x1024, .i32⟩
  | 64 => ⟨S14336x128x8, .i32⟩
  | 65 => ⟨S_, .i32⟩
  | 66 => ⟨S14336x128, .i32⟩
  | 67 => ⟨S14336x128x1, .i32⟩
  | 68 => ⟨S14336x128, .i32⟩
  | 69 => ⟨S_, .i32⟩
  | 70 => ⟨S14336x128, .i32⟩
  | 71 => ⟨S14336x128, .i32⟩
  | 72 => ⟨S14336x128, .i32⟩
  | 73 => ⟨S14336x128x1, .i32⟩
  | 74 => ⟨S14336x128, .i32⟩
  | 75 => ⟨S_, .i32⟩
  | 76 => ⟨S14336x128, .i32⟩
  | 77 => ⟨S14336x128, .i32⟩
  | 78 => ⟨S14336x128, .i32⟩
  | 79 => ⟨S14336x128x1, .i32⟩
  | 80 => ⟨S14336x128, .i32⟩
  | 81 => ⟨S_, .i32⟩
  | 82 => ⟨S14336x128, .i32⟩
  | 83 => ⟨S14336x128, .i32⟩
  | 84 => ⟨S14336x128, .i32⟩
  | 85 => ⟨S14336x128x1, .i32⟩
  | 86 => ⟨S14336x128, .i32⟩
  | 87 => ⟨S_, .i32⟩
  | 88 => ⟨S14336x128, .i32⟩
  | 89 => ⟨S14336x128, .i32⟩
  | 90 => ⟨S14336x128, .i32⟩
  | 91 => ⟨S14336x128x1, .i32⟩
  | 92 => ⟨S14336x128, .i32⟩
  | 93 => ⟨S_, .i32⟩
  | 94 => ⟨S14336x128, .i32⟩
  | 95 => ⟨S14336x128, .i32⟩
  | 96 => ⟨S14336x128, .i32⟩
  | 97 => ⟨S14336x128x1, .i32⟩
  | 98 => ⟨S14336x128, .i32⟩
  | 99 => ⟨S_, .i32⟩
  | 100 => ⟨S14336x128, .i32⟩
  | 101 => ⟨S14336x128, .i32⟩
  | 102 => ⟨S14336x128, .i32⟩
  | 103 => ⟨S14336x128x1, .i32⟩
  | 104 => ⟨S14336x128, .i32⟩
  | 105 => ⟨S_, .i32⟩
  | 106 => ⟨S14336x128, .i32⟩
  | 107 => ⟨S14336x128, .i32⟩
  | 108 => ⟨S14336x128, .i32⟩
  | 109 => ⟨S14336x128x1, .i32⟩
  | 110 => ⟨S14336x128, .i32⟩
  | 111 => ⟨S_, .i32⟩
  | 112 => ⟨S14336x128, .i32⟩
  | 113 => ⟨S14336x128, .i32⟩
  | 114 => ⟨S14336x128, .i32⟩
  | 115 => ⟨S14336x128, .i32⟩
  | 116 => ⟨S14336x2048, .fp8e4m3⟩
  | _ => ⟨S14336x4096, .bf16⟩

abbrev hbmTy (i : Nat) : BufTy := match i / 128 with
  | 0 => hbmTy0_0 i
  | 1 => hbmTy0_1 i
  | _ => ⟨S14336x4096, .bf16⟩

abbrev bufTy : (tb : Table) → Fin (tcTables nBuf tb) → BufTy
  | .hbm, ⟨i, _⟩ => hbmTy i
  | .local _ .vmem, ⟨0, _⟩ => ⟨S14336x2048, .bf16⟩
  | .local _ .vmem, ⟨1, _⟩ => ⟨S14336x1, .f32⟩
  | .local _ .vmem, ⟨2, _⟩ => ⟨S14336x2048, .fp8e4m3⟩
  | _, _ => ⟨S14336x4096, .bf16⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩
abbrev main_v8 : Ref sig .tc := ⟨.hbm, 9, rfl⟩
abbrev main_v9 : Ref sig .tc := ⟨.hbm, 10, rfl⟩
abbrev main_v10 : Ref sig .tc := ⟨.hbm, 11, rfl⟩
abbrev main_v11 : Ref sig .tc := ⟨.hbm, 12, rfl⟩
abbrev main_v12 : Ref sig .tc := ⟨.hbm, 13, rfl⟩
abbrev main_c : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩
abbrev main_v16 : Ref sig .tc := ⟨.hbm, 18, rfl⟩
abbrev main_v17 : Ref sig .tc := ⟨.hbm, 19, rfl⟩
abbrev main_v18 : Ref sig .tc := ⟨.hbm, 20, rfl⟩
abbrev main_v19 : Ref sig .tc := ⟨.hbm, 21, rfl⟩
abbrev main_v20 : Ref sig .tc := ⟨.hbm, 22, rfl⟩
abbrev main_v21 : Ref sig .tc := ⟨.hbm, 23, rfl⟩
abbrev main_v22 : Ref sig .tc := ⟨.hbm, 24, rfl⟩
abbrev main_c_0 : Ref sig .tc := ⟨.hbm, 25, rfl⟩
abbrev main_v23 : Ref sig .tc := ⟨.hbm, 26, rfl⟩
abbrev main_v24 : Ref sig .tc := ⟨.hbm, 27, rfl⟩
abbrev main_c_1 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_v29 : Ref sig .tc := ⟨.hbm, 33, rfl⟩
abbrev main_v30 : Ref sig .tc := ⟨.hbm, 34, rfl⟩
abbrev main_v31 : Ref sig .tc := ⟨.hbm, 35, rfl⟩
abbrev main_v32 : Ref sig .tc := ⟨.hbm, 36, rfl⟩
abbrev main_v33 : Ref sig .tc := ⟨.hbm, 37, rfl⟩
abbrev main_v34 : Ref sig .tc := ⟨.hbm, 38, rfl⟩
abbrev main_v35 : Ref sig .tc := ⟨.hbm, 39, rfl⟩
abbrev main_v36 : Ref sig .tc := ⟨.hbm, 40, rfl⟩
abbrev main_c_2 : Ref sig .tc := ⟨.hbm, 41, rfl⟩
abbrev main_v37 : Ref sig .tc := ⟨.hbm, 42, rfl⟩
abbrev main_v38 : Ref sig .tc := ⟨.hbm, 43, rfl⟩
abbrev main_c_3 : Ref sig .tc := ⟨.hbm, 44, rfl⟩
abbrev main_v39 : Ref sig .tc := ⟨.hbm, 45, rfl⟩
abbrev main_v40 : Ref sig .tc := ⟨.hbm, 46, rfl⟩
abbrev main_v41 : Ref sig .tc := ⟨.hbm, 47, rfl⟩
abbrev main_v42 : Ref sig .tc := ⟨.hbm, 48, rfl⟩
abbrev main_v43 : Ref sig .tc := ⟨.hbm, 49, rfl⟩
abbrev main_v44 : Ref sig .tc := ⟨.hbm, 50, rfl⟩
abbrev main_v45 : Ref sig .tc := ⟨.hbm, 51, rfl⟩
abbrev main_v46 : Ref sig .tc := ⟨.hbm, 52, rfl⟩
abbrev main_v47 : Ref sig .tc := ⟨.hbm, 53, rfl⟩
abbrev main_v48 : Ref sig .tc := ⟨.hbm, 54, rfl⟩
abbrev main_v49 : Ref sig .tc := ⟨.hbm, 55, rfl⟩
abbrev main_v50 : Ref sig .tc := ⟨.hbm, 56, rfl⟩
abbrev main_v51 : Ref sig .tc := ⟨.hbm, 57, rfl⟩
abbrev main_v52 : Ref sig .tc := ⟨.hbm, 58, rfl⟩
abbrev main_c_4 : Ref sig .tc := ⟨.hbm, 59, rfl⟩
abbrev main_v53 : Ref sig .tc := ⟨.hbm, 60, rfl⟩
abbrev main_v54 : Ref sig .tc := ⟨.hbm, 61, rfl⟩
abbrev main_c_5 : Ref sig .tc := ⟨.hbm, 62, rfl⟩
abbrev main_v55 : Ref sig .tc := ⟨.hbm, 63, rfl⟩
abbrev main_v56 : Ref sig .tc := ⟨.hbm, 64, rfl⟩
abbrev main_v57 : Ref sig .tc := ⟨.hbm, 65, rfl⟩
abbrev main_v58 : Ref sig .tc := ⟨.hbm, 66, rfl⟩
abbrev main_v59 : Ref sig .tc := ⟨.hbm, 67, rfl⟩
abbrev main_v60 : Ref sig .tc := ⟨.hbm, 68, rfl⟩
abbrev main_v61 : Ref sig .tc := ⟨.hbm, 69, rfl⟩
abbrev main_v62 : Ref sig .tc := ⟨.hbm, 70, rfl⟩
abbrev main_v63 : Ref sig .tc := ⟨.hbm, 71, rfl⟩
abbrev main_v64 : Ref sig .tc := ⟨.hbm, 72, rfl⟩
abbrev main_v65 : Ref sig .tc := ⟨.hbm, 73, rfl⟩
abbrev main_v66 : Ref sig .tc := ⟨.hbm, 74, rfl⟩
abbrev main_v67 : Ref sig .tc := ⟨.hbm, 75, rfl⟩
abbrev main_v68 : Ref sig .tc := ⟨.hbm, 76, rfl⟩
abbrev main_v69 : Ref sig .tc := ⟨.hbm, 77, rfl⟩
abbrev main_v70 : Ref sig .tc := ⟨.hbm, 78, rfl⟩
abbrev main_c_6 : Ref sig .tc := ⟨.hbm, 79, rfl⟩
abbrev main_v71 : Ref sig .tc := ⟨.hbm, 80, rfl⟩
abbrev main_v72 : Ref sig .tc := ⟨.hbm, 81, rfl⟩
abbrev main_c_7 : Ref sig .tc := ⟨.hbm, 82, rfl⟩
abbrev main_v73 : Ref sig .tc := ⟨.hbm, 83, rfl⟩
abbrev main_c_8 : Ref sig .tc := ⟨.hbm, 84, rfl⟩
abbrev main_call0_v0 : Ref sig .tc := ⟨.hbm, 85, rfl⟩
abbrev main_call0_v1 : Ref sig .tc := ⟨.hbm, 86, rfl⟩
abbrev main_v74 : Ref sig .tc := ⟨.hbm, 87, rfl⟩
abbrev main_c_9 : Ref sig .tc := ⟨.hbm, 88, rfl⟩
abbrev main_call1_v0 : Ref sig .tc := ⟨.hbm, 89, rfl⟩
abbrev main_call1_v1 : Ref sig .tc := ⟨.hbm, 90, rfl⟩
abbrev main_v75 : Ref sig .tc := ⟨.hbm, 91, rfl⟩
abbrev main_c_10 : Ref sig .tc := ⟨.hbm, 92, rfl⟩
abbrev main_call2_v0 : Ref sig .tc := ⟨.hbm, 93, rfl⟩
abbrev main_call2_v1 : Ref sig .tc := ⟨.hbm, 94, rfl⟩
abbrev main_v76 : Ref sig .tc := ⟨.hbm, 95, rfl⟩
abbrev main_c_11 : Ref sig .tc := ⟨.hbm, 96, rfl⟩
abbrev main_call3_v0 : Ref sig .tc := ⟨.hbm, 97, rfl⟩
abbrev main_call3_v1 : Ref sig .tc := ⟨.hbm, 98, rfl⟩
abbrev main_v77 : Ref sig .tc := ⟨.hbm, 99, rfl⟩
abbrev main_c_12 : Ref sig .tc := ⟨.hbm, 100, rfl⟩
abbrev main_v78 : Ref sig .tc := ⟨.hbm, 101, rfl⟩
abbrev main_c_13 : Ref sig .tc := ⟨.hbm, 102, rfl⟩
abbrev main_call4_v0 : Ref sig .tc := ⟨.hbm, 103, rfl⟩
abbrev main_call4_v1 : Ref sig .tc := ⟨.hbm, 104, rfl⟩
abbrev main_v79 : Ref sig .tc := ⟨.hbm, 105, rfl⟩
abbrev main_c_14 : Ref sig .tc := ⟨.hbm, 106, rfl⟩
abbrev main_call5_v0 : Ref sig .tc := ⟨.hbm, 107, rfl⟩
abbrev main_call5_v1 : Ref sig .tc := ⟨.hbm, 108, rfl⟩
abbrev main_v80 : Ref sig .tc := ⟨.hbm, 109, rfl⟩
abbrev main_c_15 : Ref sig .tc := ⟨.hbm, 110, rfl⟩
abbrev main_call6_v0 : Ref sig .tc := ⟨.hbm, 111, rfl⟩
abbrev main_call6_v1 : Ref sig .tc := ⟨.hbm, 112, rfl⟩
abbrev main_v81 : Ref sig .tc := ⟨.hbm, 113, rfl⟩
abbrev main_c_16 : Ref sig .tc := ⟨.hbm, 114, rfl⟩
abbrev main_call7_v0 : Ref sig .tc := ⟨.hbm, 115, rfl⟩
abbrev main_call7_v1 : Ref sig .tc := ⟨.hbm, 116, rfl⟩
abbrev main_v82 : Ref sig .tc := ⟨.hbm, 117, rfl⟩
abbrev main_c_17 : Ref sig .tc := ⟨.hbm, 118, rfl⟩
abbrev main_v83 : Ref sig .tc := ⟨.hbm, 119, rfl⟩
abbrev main_v84 : Ref sig .tc := ⟨.hbm, 120, rfl⟩
abbrev main_v85 : Ref sig .tc := ⟨.hbm, 121, rfl⟩
abbrev main_c_18 : Ref sig .tc := ⟨.hbm, 122, rfl⟩
abbrev main_v86 : Ref sig .tc := ⟨.hbm, 123, rfl⟩
abbrev main_v87 : Ref sig .tc := ⟨.hbm, 124, rfl⟩
abbrev main_v88 : Ref sig .tc := ⟨.hbm, 125, rfl⟩
abbrev main_c_19 : Ref sig .tc := ⟨.hbm, 126, rfl⟩
abbrev main_v89 : Ref sig .tc := ⟨.hbm, 127, rfl⟩
abbrev main_v90 : Ref sig .tc := ⟨.hbm, 128, rfl⟩
abbrev main_v91 : Ref sig .tc := ⟨.hbm, 129, rfl⟩
abbrev main_c_20 : Ref sig .tc := ⟨.hbm, 130, rfl⟩
abbrev main_v92 : Ref sig .tc := ⟨.hbm, 131, rfl⟩
abbrev main_v93 : Ref sig .tc := ⟨.hbm, 132, rfl⟩
abbrev main_v94 : Ref sig .tc := ⟨.hbm, 133, rfl⟩
abbrev main_c_21 : Ref sig .tc := ⟨.hbm, 134, rfl⟩
abbrev main_v95 : Ref sig .tc := ⟨.hbm, 135, rfl⟩
abbrev main_v96 : Ref sig .tc := ⟨.hbm, 136, rfl⟩
abbrev main_v97 : Ref sig .tc := ⟨.hbm, 137, rfl⟩
abbrev main_c_22 : Ref sig .tc := ⟨.hbm, 138, rfl⟩
abbrev main_v98 : Ref sig .tc := ⟨.hbm, 139, rfl⟩
abbrev main_v99 : Ref sig .tc := ⟨.hbm, 140, rfl⟩
abbrev main_v100 : Ref sig .tc := ⟨.hbm, 141, rfl⟩
abbrev main_v101 : Ref sig .tc := ⟨.hbm, 142, rfl⟩
abbrev main_v102 : Ref sig .tc := ⟨.hbm, 143, rfl⟩
abbrev main_v103 : Ref sig .tc := ⟨.hbm, 144, rfl⟩
abbrev main_v104 : Ref sig .tc := ⟨.hbm, 145, rfl⟩
abbrev main_v105 : Ref sig .tc := ⟨.hbm, 146, rfl⟩
abbrev main_v106 : Ref sig .tc := ⟨.hbm, 147, rfl⟩
abbrev main_cst : Ref sig .tc := ⟨.hbm, 148, rfl⟩
abbrev main_v107 : Ref sig .tc := ⟨.hbm, 149, rfl⟩
abbrev main_v108 : Ref sig .tc := ⟨.hbm, 150, rfl⟩
abbrev main_cst_23 : Ref sig .tc := ⟨.hbm, 151, rfl⟩
abbrev main_v109 : Ref sig .tc := ⟨.hbm, 152, rfl⟩
abbrev main_v110 : Ref sig .tc := ⟨.hbm, 153, rfl⟩
abbrev main_v111 : Ref sig .tc := ⟨.hbm, 154, rfl⟩
abbrev main_c_24 : Ref sig .tc := ⟨.hbm, 155, rfl⟩
abbrev main_v112 : Ref sig .tc := ⟨.hbm, 156, rfl⟩
abbrev main_v113 : Ref sig .tc := ⟨.hbm, 157, rfl⟩
abbrev main_cst_25 : Ref sig .tc := ⟨.hbm, 158, rfl⟩
abbrev main_v114 : Ref sig .tc := ⟨.hbm, 159, rfl⟩
abbrev main_c_26 : Ref sig .tc := ⟨.hbm, 160, rfl⟩
abbrev main_v115 : Ref sig .tc := ⟨.hbm, 161, rfl⟩
abbrev main_v116 : Ref sig .tc := ⟨.hbm, 162, rfl⟩
abbrev main_v117 : Ref sig .tc := ⟨.hbm, 163, rfl⟩
abbrev main_v118 : Ref sig .tc := ⟨.hbm, 164, rfl⟩
abbrev main_v119 : Ref sig .tc := ⟨.hbm, 165, rfl⟩
abbrev main_v120 : Ref sig .tc := ⟨.hbm, 166, rfl⟩
abbrev main_v121 : Ref sig .tc := ⟨.hbm, 167, rfl⟩
abbrev main_v122 : Ref sig .tc := ⟨.hbm, 168, rfl⟩
abbrev main_v123 : Ref sig .tc := ⟨.hbm, 169, rfl⟩
abbrev main_v124 : Ref sig .tc := ⟨.hbm, 170, rfl⟩
abbrev main_v125 : Ref sig .tc := ⟨.hbm, 171, rfl⟩
abbrev main_c_27 : Ref sig .tc := ⟨.hbm, 172, rfl⟩
abbrev main_call14_v0 : Ref sig .tc := ⟨.hbm, 173, rfl⟩
abbrev main_call14_v1 : Ref sig .tc := ⟨.hbm, 174, rfl⟩
abbrev main_v126 : Ref sig .tc := ⟨.hbm, 175, rfl⟩
abbrev main_c_28 : Ref sig .tc := ⟨.hbm, 176, rfl⟩
abbrev main_v127 : Ref sig .tc := ⟨.hbm, 177, rfl⟩
abbrev main_v128 : Ref sig .tc := ⟨.hbm, 178, rfl⟩
abbrev main_cst_29 : Ref sig .tc := ⟨.hbm, 179, rfl⟩
abbrev main_v129 : Ref sig .tc := ⟨.hbm, 180, rfl⟩
abbrev main_v130 : Ref sig .tc := ⟨.hbm, 181, rfl⟩
abbrev main_v131 : Ref sig .tc := ⟨.hbm, 182, rfl⟩
abbrev main_v132 : Ref sig .tc := ⟨.hbm, 183, rfl⟩
abbrev main_v133 : Ref sig .tc := ⟨.hbm, 184, rfl⟩
abbrev main_v134 : Ref sig .tc := ⟨.hbm, 185, rfl⟩
abbrev main_v135 : Ref sig .tc := ⟨.hbm, 186, rfl⟩
abbrev main_c_30 : Ref sig .tc := ⟨.hbm, 187, rfl⟩
abbrev main_v136 : Ref sig .tc := ⟨.hbm, 188, rfl⟩
abbrev main_v137 : Ref sig .tc := ⟨.hbm, 189, rfl⟩
abbrev main_v138 : Ref sig .tc := ⟨.hbm, 190, rfl⟩
abbrev main_v139 : Ref sig .tc := ⟨.hbm, 191, rfl⟩
abbrev main_v140 : Ref sig .tc := ⟨.hbm, 192, rfl⟩
abbrev main_c_31 : Ref sig .tc := ⟨.hbm, 193, rfl⟩
abbrev main_v141 : Ref sig .tc := ⟨.hbm, 194, rfl⟩
abbrev main_v142 : Ref sig .tc := ⟨.hbm, 195, rfl⟩
abbrev main_v143 : Ref sig .tc := ⟨.hbm, 196, rfl⟩
abbrev main_c_32 : Ref sig .tc := ⟨.hbm, 197, rfl⟩
abbrev main_v144 : Ref sig .tc := ⟨.hbm, 198, rfl⟩
abbrev main_v145 : Ref sig .tc := ⟨.hbm, 199, rfl⟩
abbrev main_v146 : Ref sig .tc := ⟨.hbm, 200, rfl⟩
abbrev main_v147 : Ref sig .tc := ⟨.hbm, 201, rfl⟩
abbrev main_v148 : Ref sig .tc := ⟨.hbm, 202, rfl⟩
abbrev main_c_33 : Ref sig .tc := ⟨.hbm, 203, rfl⟩
abbrev main_v149 : Ref sig .tc := ⟨.hbm, 204, rfl⟩
abbrev main_v150 : Ref sig .tc := ⟨.hbm, 205, rfl⟩
abbrev main_v151 : Ref sig .tc := ⟨.hbm, 206, rfl⟩
abbrev main_v152 : Ref sig .tc := ⟨.hbm, 207, rfl⟩
abbrev main_v153 : Ref sig .tc := ⟨.hbm, 208, rfl⟩
abbrev main_c_34 : Ref sig .tc := ⟨.hbm, 209, rfl⟩
abbrev main_v154 : Ref sig .tc := ⟨.hbm, 210, rfl⟩
abbrev main_v155 : Ref sig .tc := ⟨.hbm, 211, rfl⟩
abbrev main_v156 : Ref sig .tc := ⟨.hbm, 212, rfl⟩
abbrev main_v157 : Ref sig .tc := ⟨.hbm, 213, rfl⟩
abbrev main_v158 : Ref sig .tc := ⟨.hbm, 214, rfl⟩
abbrev main_c_35 : Ref sig .tc := ⟨.hbm, 215, rfl⟩
abbrev main_v159 : Ref sig .tc := ⟨.hbm, 216, rfl⟩
abbrev main_v160 : Ref sig .tc := ⟨.hbm, 217, rfl⟩
abbrev main_v161 : Ref sig .tc := ⟨.hbm, 218, rfl⟩
abbrev main_v162 : Ref sig .tc := ⟨.hbm, 219, rfl⟩
abbrev main_v163 : Ref sig .tc := ⟨.hbm, 220, rfl⟩
abbrev main_c_36 : Ref sig .tc := ⟨.hbm, 221, rfl⟩
abbrev main_v164 : Ref sig .tc := ⟨.hbm, 222, rfl⟩
abbrev main_v165 : Ref sig .tc := ⟨.hbm, 223, rfl⟩
abbrev main_v166 : Ref sig .tc := ⟨.hbm, 224, rfl⟩
abbrev main_v167 : Ref sig .tc := ⟨.hbm, 225, rfl⟩
abbrev main_v168 : Ref sig .tc := ⟨.hbm, 226, rfl⟩
abbrev main_c_37 : Ref sig .tc := ⟨.hbm, 227, rfl⟩
abbrev main_v169 : Ref sig .tc := ⟨.hbm, 228, rfl⟩
abbrev main_v170 : Ref sig .tc := ⟨.hbm, 229, rfl⟩
abbrev main_v171 : Ref sig .tc := ⟨.hbm, 230, rfl⟩
abbrev main_v172 : Ref sig .tc := ⟨.hbm, 231, rfl⟩
abbrev main_v173 : Ref sig .tc := ⟨.hbm, 232, rfl⟩
abbrev main_c_38 : Ref sig .tc := ⟨.hbm, 233, rfl⟩
abbrev main_v174 : Ref sig .tc := ⟨.hbm, 234, rfl⟩
abbrev main_v175 : Ref sig .tc := ⟨.hbm, 235, rfl⟩
abbrev main_v176 : Ref sig .tc := ⟨.hbm, 236, rfl⟩
abbrev main_v177 : Ref sig .tc := ⟨.hbm, 237, rfl⟩
abbrev main_v178 : Ref sig .tc := ⟨.hbm, 238, rfl⟩
abbrev main_c_39 : Ref sig .tc := ⟨.hbm, 239, rfl⟩
abbrev main_v179 : Ref sig .tc := ⟨.hbm, 240, rfl⟩
abbrev main_v180 : Ref sig .tc := ⟨.hbm, 241, rfl⟩
abbrev main_v181 : Ref sig .tc := ⟨.hbm, 242, rfl⟩
abbrev main_v182 : Ref sig .tc := ⟨.hbm, 243, rfl⟩
abbrev main_v183 : Ref sig .tc := ⟨.hbm, 244, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := .none

abbrev stage0_0 : Fin 1 → Memref sig .tc .vmem S14336x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S14336x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S14336x2048 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== Proof.BCover.lean ====
/- What the first loop leaves in each scratch buffer does not depend on what the buffer held: its pieces cover it. -/
module

public import proofs.«01_k».proof.Proof.Gen.Kernel.Frame.Runs

@[expose] public section

-- membership in a rectangle of production extents (`View.cover_of_tiled`): the elaborator's structural look
-- recurses once per coordinate of the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [BitOps F]

local notation "𝕄" => MT nD τ sig Unit (Elt F) ℕ (UR sig nD τ) ℕ

/-- A whole buffer after pieces that cover it does not depend on what it held. -/
theorem rebase_of_cover {κ : Kind} {sp : Space} {s : Shape} {e : EltTy} {mr : Memref sig κ sp s e} (hw : mr.IsWhole)
    (f : mr.view.ty.Contents (Elt F)) (L : List (View.Piece (Elt F) s e)) (hc : ∀ y, ∃ p ∈ L, y ∈ p.1.set) :
    mr.view.writes (Elt F) f L = mr.view.writes (Elt F) mr.view.junk L := by
  obtain ⟨b, rfl, rfl, rfl, h⟩ := hw; cases h
  funext y
  exact View.read_writes_apply_eq (View.whole b) f (View.whole b) (View.whole b).junk y L (hc y)

variable (𝒱 : Variants) (c : Dev nD) (bd : Option 𝒱.V) (i : grid0.Coords) (arg1 : Memref sig .tc .vmem S512x4096 .bf16) (harg1 : arg1.IsWhole) (arg2 : Memref sig .tc .vmem S1024x256 .bf16) (harg2 : arg2.IsWhole) (arg3 : Memref sig .tc .vmem S512x2048 .fp8e4m3) (harg3 : arg3.IsWhole) (arg4 : Memref sig .tc .vmem S512x128 .i32) (harg4 : arg4.IsWhole) (arg5 : Memref sig .tc .vmem S1x4x128 .f32) (harg5 : arg5.IsWhole) (arg6 : Memref sig .tc .vmem S512x1024 .bf16) (harg6 : arg6.IsWhole) (arg7 : Memref sig .tc .vmem S512x1024 .bf16) (harg7 : arg7.IsWhole) (arg8 : Memref sig .tc .vmem S512x1024 .bf16) (harg8 : arg8.IsWhole) (arg9 : Memref sig .tc .vmem S512x128 .bf16) (harg9 : arg9.IsWhole) (X_arg1 : BufTy.Contents (Elt F) arg1.view.ty)

theorem cover6 (y : S512x1024.Idx) : ∃ p ∈ (pb_k0_t1 (F := F) 𝒱 c bd i arg1 harg1 arg2 harg2 arg3 harg3 arg4 harg4 arg5 harg5 arg6 harg6 arg7 harg7 arg8 harg8 arg9 harg9 X_arg1 (Scf.trips k0_t1_loop.lb k0_t1_loop.ub k0_t1_loop.st)).1, y ∈ p.1.set :=
  View.cover_of_tiledL (pb_k0_t1 (F := F) 𝒱 c bd i arg1 harg1 arg2 harg2 arg3 harg3 arg4 harg4 arg5 harg5 arg6 harg6 arg7 harg7 arg8 harg8 arg9 harg9 X_arg1 (Scf.trips k0_t1_loop.lb k0_t1_loop.ub k0_t1_loop.st)).1 S32x128.size (by sl_kernel_rfl) y
theorem rebase6 (f : BufTy.Contents (Elt F) arg6.view.ty) :
    arg6.view.writes (Elt F) f (pb_k0_t1 (F := F) 𝒱 c bd i arg1 harg1 arg2 harg2 arg3 harg3 arg4 harg4 arg5 harg5 arg6 harg6 arg7 harg7 arg8 harg8 arg9 harg9 X_arg1 (Scf.trips k0_t1_loop.lb k0_t1_loop.ub k0_t1_loop.st)).1 = arg6.view.writes (Elt F) arg6.view.junk (pb_k0_t1 (F := F) 𝒱 c bd i arg1 harg1 arg2 harg2 arg3 harg3 arg4 harg4 arg5 harg5 arg6 harg6 arg7 harg7 arg8 harg8 arg9 harg9 X_arg1 (Scf.trips k0_t1_loop.lb k0_t1_loop.ub k0_t1_loop.st)).1 := by
  exact rebase_of_cover harg6 f _ (cover6 𝒱 c bd i arg1 harg1 arg2 harg2 arg3 harg3 arg4 harg4 arg5 harg5 arg6 harg6 arg7 harg7 arg8 harg8 arg9 harg9 X_arg1)

theorem cover7 (y : S512x1024.Idx) : ∃ p ∈ (pb_k0_t1 (F := F) 𝒱 c bd i arg1 harg1 arg2 harg2 arg3 harg3 arg4 harg4 arg5 harg5 arg6 harg6 arg7 harg7 arg8 harg8 arg9 harg9 X_arg1 (Scf.trips k0_t1_loop.lb k0_t1_loop.ub k0_t1_loop.st)).2.1, y ∈ p.1.set :=
  View.cover_of_tiledL (pb_k0_t1 (F := F) 𝒱 c bd i arg1 harg1 arg2 harg2 arg3 harg3 arg4 harg4 arg5 harg5 arg6 harg6 arg7 harg7 arg8 harg8 arg9 harg9 X_arg1 (Scf.trips k0_t1_loop.lb k0_t1_loop.ub k0_t1_loop.st)).2.1 S32x128.size (by sl_kernel_rfl) y
theorem rebase7 (f : BufTy.Contents (Elt F) arg7.view.ty) :
    arg7.view.writes (Elt F) f (pb_k0_t1 (F := F) 𝒱 c bd i arg1 harg1 arg2 harg2 arg3 harg3 arg4 harg4 arg5 harg5 arg6 harg6 arg7 harg7 arg8 harg8 arg9 harg9 X_arg1 (Scf.trips k0_t1_loop.lb k0_t1_loop.ub k0_t1_loop.st)).2.1 = arg7.view.writes (Elt F) arg7.view.junk (pb_k0_t1 (F := F) 𝒱 c bd i arg1 harg1 arg2 harg2 arg3 harg3 arg4 harg4 arg5 harg5 arg6 harg6 arg7 harg7 arg8 harg8 arg9 harg9 X_arg1 (Scf.trips k0_t1_loop.lb k0_t1_loop.ub k0_t1_loop.st)).2.1 := by
  exact rebase_of_cover harg7 f _ (cover7 𝒱 c bd i arg1 harg1 arg2 harg2 arg3 harg3 arg4 harg4 arg5 harg5 arg6 harg6 arg7 harg7 arg8 harg8 arg9 harg9 X_arg1)

theorem cover8 (y : S512x1024.Idx) : ∃ p ∈ (pb_k0_t1 (F := F) 𝒱 c bd i arg1 harg1 arg2 harg2 arg3 harg3 arg4 harg4 arg5 harg5 arg6 harg6 arg7 harg7 arg8 harg8 arg9 harg9 X_arg1 (Scf.trips k0_t1_loop.lb k0_t1_loop.ub k0_t1_loop.st)).2.2.1, y ∈ p.1.set :=
  View.cover_of_tiledL (pb_k0_t1 (F := F) 𝒱 c bd i arg1 harg1 arg2 harg2 arg3 harg3 arg4 harg4 arg5 harg5 arg6 harg6 arg7 harg7 arg8 harg8 arg9 harg9 X_arg1 (Scf.trips k0_t1_loop.lb k0_t1_loop.ub k0_t1_loop.st)).2.2.1 S32x128.size (by sl_kernel_rfl) y
theorem rebase8 (f : BufTy.Contents (Elt F) arg8.view.ty) :
    arg8.view.writes (Elt F) f (pb_k0_t1 (F := F) 𝒱 c bd i arg1 harg1 arg2 harg2 arg3 harg3 arg4 harg4 arg5 harg5 arg6 harg6 arg7 harg7 arg8 harg8 arg9 harg9 X_arg1 (Scf.trips k0_t1_loop.lb k0_t1_loop.ub k0_t1_loop.st)).2.2.1 = arg8.view.writes (Elt F) arg8.view.junk (pb_k0_t1 (F := F) 𝒱 c bd i arg1 harg1 arg2 harg2 arg3 harg3 arg4 harg4 arg5 harg5 arg6 harg6 arg7 harg7 arg8 harg8 arg9 harg9 X_arg1 (Scf.trips k0_t1_loop.lb k0_t1_loop.ub k0_t1_loop.st)).2.2.1 := by
  exact rebase_of_cover harg8 f _ (cover8 𝒱 c bd i arg1 harg1 arg2 harg2 arg3 harg3 arg4 harg4 arg5 harg5 arg6 harg6 arg7 harg7 arg8 harg8 arg9 harg9 X_arg1)

theorem cover9 (y : S512x128.Idx) : ∃ p ∈ (pb_k0_t1 (F := F) 𝒱 c bd i arg1 harg1 arg2 harg2 arg3 harg3 arg4 harg4 arg5 harg5 arg6 harg6 arg7 harg7 arg8 harg8 arg9 harg9 X_arg1 (Scf.trips k0_t1_loop.lb k0_t1_loop.ub k0_t1_loop.st)).2.2.2, y ∈ p.1.set :=
  View.cover_of_tiledL (pb_k0_t1 (F := F) 𝒱 c bd i arg1 harg1 arg2 harg2 arg3 harg3 arg4 harg4 arg5 harg5 arg6 harg6 arg7 harg7 arg8 harg8 arg9 harg9 X_arg1 (Scf.trips k0_t1_loop.lb k0_t1_loop.ub k0_t1_loop.st)).2.2.2 S32x128.size (by sl_kernel_rfl) y
theorem rebase9 (f : BufTy.Contents (Elt F) arg9.view.ty) :
    arg9.view.writes (Elt F) f (pb_k0_t1 (F := F) 𝒱 c bd i arg1 harg1 arg2 harg2 arg3 harg3 arg4 harg4 arg5 harg5 arg6 harg6 arg7 harg7 arg8 harg8 arg9 harg9 X_arg1 (Scf.trips k0_t1_loop.lb k0_t1_loop.ub k0_t1_loop.st)).2.2.2 = arg9.view.writes (Elt F) arg9.view.junk (pb_k0_t1 (F := F) 𝒱 c bd i arg1 harg1 arg2 harg2 arg3 harg3 arg4 harg4 arg5 harg5 arg6 harg6 arg7 harg7 arg8 harg8 arg9 harg9 X_arg1 (Scf.trips k0_t1_loop.lb k0_t1_loop.ub k0_t1_loop.st)).2.2.2 := by
  exact rebase_of_cover harg9 f _ (cover9 𝒱 c bd i arg1 harg1 arg2 harg2 arg3 harg3 arg4 harg4 arg5 harg5 arg6 harg6 arg7 harg7 arg8 harg8 arg9 harg9 X_arg1)

end Cert.Kernel.Gen

end
-- ==== Proof.BRunA.lean ====
/- The run of the printed kernel's body, as in RunA.lean. -/
module

public import proofs.«01_k».proof.Proof.BCover

@[expose] public section

-- membership in a rectangle of production extents (`View.cover_of_tiled`): the elaborator's structural look
-- recurses once per coordinate of the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option backward.proofsInPublic true in
set_option maxHeartbeats 4000000 in
/-- What the body's stores leave in each output's staging memref, as pieces (last first), WITH the
    proof that on whole staging memrefs — the inputs' at their contents, the other outputs' at
    anything, the scratch buffers at anything, the body runs to the continuation holding the inputs' as they were,
    the scratch at some contents, each output's buffer with its pieces written: the printed functions are their skeletons
    (`Gen.*_eq_skeleton`), which `sl_exec` runs (Lib/Exec.lean); the pieces are
    the witness that run finds (assigned when `iexact` hands the buffer to the continuation). -/
noncomputable def kernelRun0_A (c : Dev nD) (i : grid0.Coords) (arg1 : Memref sig .tc .vmem S512x4096 .bf16) (harg1 : arg1.IsWhole) (arg2 : Memref sig .tc .vmem S1024x256 .bf16) (harg2 : arg2.IsWhole) (arg3 : Memref sig .tc .vmem S512x2048 .fp8e4m3) (harg3 : arg3.IsWhole) (arg4 : Memref sig .tc .vmem S512x128 .i32) (harg4 : arg4.IsWhole) (arg5 : Memref sig .tc .vmem S1x4x128 .f32) (harg5 : arg5.IsWhole) (arg6 : Memref sig .tc .vmem S512x1024 .bf16) (harg6 : arg6.IsWhole) (arg7 : Memref sig .tc .vmem S512x1024 .bf16) (harg7 : arg7.IsWhole) (arg8 : Memref sig .tc .vmem S512x1024 .bf16) (harg8 : arg8.IsWhole) (arg9 : Memref sig .tc .vmem S512x128 .bf16) (harg9 : arg9.IsWhole)
    (x0 : Vec F S512x4096 .bf16) (x1 : Vec F S1024x256 .bf16) :
    Σ' (L2 : List (View.Piece (Elt F) S512x2048 .fp8e4m3)), Σ' (L3 : List (View.Piece (Elt F) S512x128 .i32)), { L4 : List (View.Piece (Elt F) S1x4x128 .f32) //
      ∀ (E : Set ℕ) (K : PUnit → sProp 𝕄),
        iprop(owns (c : Thread nD τ) arg1 fullShare x0 ∗ owns (c : Thread nD τ) arg2 fullShare x1 ∗ (∃ d, owns (c : Thread nD τ) arg3 fullShare d) ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d)
            ∗ (iprop(owns (c : Thread nD τ) arg1 fullShare x0 ∗ owns (c : Thread nD τ) arg2 fullShare x1 ∗ (∃ f, arg3.view.loc (c : Thread nD τ) ↦[arg3.view.set]{fullShare} arg3.view.writes (Elt F) f L2) ∗ (∃ f, arg4.view.loc (c : Thread nD τ) ↦[arg4.view.set]{fullShare} arg4.view.writes (Elt F) f L3) ∗ (∃ f, arg5.view.loc (c : Thread nD τ) ↦[arg5.view.set]{fullShare} arg5.view.writes (Elt F) f L4) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d)) -∗ K ⟨⟩))
          ⊢ wp frame (wpE (defs₀ (F := F)) Variants.none c none) E (cc0_sparse24_compress i arg1 harg1 arg2 harg2 arg3 harg3 arg4 harg4 arg5 harg5 arg6 harg6 arg7 harg7 arg8 harg8 arg9 harg9) K } := by
  refine ⟨?_, ?_, ?_, fun E K => ?run⟩
  case run =>
    simp only [cc0_sparse24_compress_eq_skeleton]; unfold cc0_sparse24_compress_skel
    simp only [k0_part22_eq_skeleton, k0_part23_eq_skeleton, k0_part24_eq_skeleton]
    unfold owns
    iintro ⟨⟨%f0, %hf0, H0⟩, ⟨%f1, %hf1, H1⟩, ⟨%d2, %f2, -, H2⟩, ⟨%d3, %f3, -, H3⟩, ⟨%d4, %f4, -, H4⟩, ⟨%ds0, %fs0, -, HS0⟩, ⟨%ds1, %fs1, -, HS1⟩, ⟨%ds2, %fs2, -, HS2⟩, ⟨%ds3, %fs3, -, HS3⟩, Hk⟩
    obtain rfl := harg1.eq_unread hf0; obtain rfl := harg2.eq_unread hf1
    have hrd0 : ∀ (𝒱 : Variants) (c : Dev nD) (bd : Option 𝒱.V) (i : grid0.Coords) (arg1 : Memref sig .tc .vmem S512x4096 .bf16) (harg1 : arg1.IsWhole) (arg2 : Memref sig .tc .vmem S1024x256 .bf16) (harg2 : arg2.IsWhole) (arg3 : Memref sig .tc .vmem S512x2048 .fp8e4m3) (harg3 : arg3.IsWhole) (arg4 : Memref sig .tc .vmem S512x128 .i32) (harg4 : arg4.IsWhole) (arg5 : Memref sig .tc .vmem S1x4x128 .f32) (harg5 : arg5.IsWhole) (arg6 : Memref sig .tc .vmem S512x1024 .bf16) (harg6 : arg6.IsWhole) (arg7 : Memref sig .tc .vmem S512x1024 .bf16) (harg7 : arg7.IsWhole) (arg8 : Memref sig .tc .vmem S512x1024 .bf16) (harg8 : arg8.IsWhole) (arg9 : Memref sig .tc .vmem S512x128 .bf16) (harg9 : arg9.IsWhole) (X_arg1 : BufTy.Contents (Elt F) arg1.view.ty) (hrdF : BufTy.Contents (Elt F) arg9.view.ty) (hrdB : LoadRect S512x128), arg9.view.readAt (Elt F) hrdB (arg9.view.writes (Elt F) hrdF (pb_k0_t1 (F := F) 𝒱 c bd i arg1 harg1 arg2 harg2 arg3 harg3 arg4 harg4 arg5 harg5 arg6 harg6 arg7 harg7 arg8 harg8 arg9 harg9 X_arg1 (Scf.trips k0_t1_loop.lb k0_t1_loop.ub k0_t1_loop.st)).2.2.2) = arg9.view.readCov (pb_k0_t1 (F := F) 𝒱 c bd i arg1 harg1 arg2 harg2 arg3 harg3 arg4 harg4 arg5 harg5 arg6 harg6 arg7 harg7 arg8 harg8 arg9 harg9 X_arg1 (Scf.trips k0_t1_loop.lb k0_t1_loop.ub k0_t1_loop.st)).2.2.2 hrdB := fun 𝒱 c bd i arg1 harg1 arg2 harg2 arg3 harg3 arg4 harg4 arg5 harg5 arg6 harg6 arg7 harg7 arg8 harg8 arg9 harg9 X_arg1 hrdF hrdB => View.readAt_writes_of_cover _ hrdF _ hrdB (fun hrdJ => View.cover_of_tiledL (pb_k0_t1 (F := F) 𝒱 c bd i arg1 harg1 arg2 harg2 arg3 harg3 arg4 harg4 arg5 harg5 arg6 harg6 arg7 harg7 arg8 harg8 arg9 harg9 X_arg1 (Scf.trips k0_t1_loop.lb k0_t1_loop.ub k0_t1_loop.st)).2.2.2 S32x128.size (by sl_kernel_rfl) (hrdB.idx hrdJ))
    have hrd1 : ∀ (𝒱 : Variants) (c : Dev nD) (bd : Option 𝒱.V) (i : grid0.Coords) (arg1 : Memref sig .tc .vmem S512x4096 .bf16) (harg1 : arg1.IsWhole) (arg2 : Memref sig .tc .vmem S1024x256 .bf16) (harg2 : arg2.IsWhole) (arg3 : Memref sig .tc .vmem S512x2048 .fp8e4m3) (harg3 : arg3.IsWhole) (arg4 : Memref sig .tc .vmem S512x128 .i32) (harg4 : arg4.IsWhole) (arg5 : Memref sig .tc .vmem S1x4x128 .f32) (harg5 : arg5.IsWhole) (arg6 : Memref sig .tc .vmem S512x1024 .bf16) (harg6 : arg6.IsWhole) (arg7 : Memref sig .tc .vmem S512x1024 .bf16) (harg7 : arg7.IsWhole) (arg8 : Memref sig .tc .vmem S512x1024 .bf16) (harg8 : arg8.IsWhole) (arg9 : Memref sig .tc .vmem S512x128 .bf16) (harg9 : arg9.IsWhole) (X_arg1 : BufTy.Contents (Elt F) arg1.view.ty) (hrdF : BufTy.Contents (Elt F) arg8.view.ty) (hrdB : LoadRect S512x1024), arg8.view.readAt (Elt F) hrdB (arg8.view.writes (Elt F) hrdF (pb_k0_t1 (F := F) 𝒱 c bd i arg1 harg1 arg2 harg2 arg3 harg3 arg4 harg4 arg5 harg5 arg6 harg6 arg7 harg7 arg8 harg8 arg9 harg9 X_arg1 (Scf.trips k0_t1_loop.lb k0_t1_loop.ub k0_t1_loop.st)).2.2.1) = arg8.view.readCov (pb_k0_t1 (F := F) 𝒱 c bd i arg1 harg1 arg2 harg2 arg3 harg3 arg4 harg4 arg5 harg5 arg6 harg6 arg7 harg7 arg8 harg8 arg9 harg9 X_arg1 (Scf.trips k0_t1_loop.lb k0_t1_loop.ub k0_t1_loop.st)).2.2.1 hrdB := fun 𝒱 c bd i arg1 harg1 arg2 harg2 arg3 harg3 arg4 harg4 arg5 harg5 arg6 harg6 arg7 harg7 arg8 harg8 arg9 harg9 X_arg1 hrdF hrdB => View.readAt_writes_of_cover _ hrdF _ hrdB (fun hrdJ => View.cover_of_tiledL (pb_k0_t1 (F := F) 𝒱 c bd i arg1 harg1 arg2 harg2 arg3 harg3 arg4 harg4 arg5 harg5 arg6 harg6 arg7 harg7 arg8 harg8 arg9 harg9 X_arg1 (Scf.trips k0_t1_loop.lb k0_t1_loop.ub k0_t1_loop.st)).2.2.1 S32x128.size (by sl_kernel_rfl) (hrdB.idx hrdJ))
    sl_exec
    sl_step
    rw [rebase6 (f := fs0), rebase7 (f := fs1)]
    iapply Hk
    isplitl [H0]
    · iexists _; isplitr; · ipureintro; exact harg1.read_unread _
      iexact H0
    isplitl [H1]
    · iexists _; isplitr; · ipureintro; exact harg2.read_unread _
      iexact H1
    isplitl [H2]; · iexists _; iexact H2
    isplitl [H3]; · iexists _; iexact H3
    isplitl [H4]; · iexists _; iexact H4
    isplitl [HS0]
    · iexists _, _; isplitr; swap; · iexact HS0
      ipureintro; rfl
    isplitl [HS1]
    · iexists _, _; isplitr; swap; · iexact HS1
      ipureintro; rfl
    isplitl [HS2]
    · iexists _, _; isplitr; swap; · iexact HS2
      ipureintro; rfl
    iexists _, _; isplitr; swap; · iexact HS3
    ipureintro; rfl

end Cert.Kernel.Gen

end
-- ==== Proof.BFrame.lean ====
/- The generated frame certificate of the printed kernel, over the run of BRunA.lean. -/
module

public import proofs.«01_k».proof.Proof.BRunA
public import Idealize.ShloMosaic.Lib.Claim

@[expose] public section

-- membership in a rectangle of production extents (`View.cover_of_tiled`): the elaborator's structural look
-- recurses once per coordinate of the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (UR sig nD τ) ℕ

variable (m : (ℓ : Loc nD τ sig) → Buf (Elt F) ℓ) (ρ : Dev nD → PrngReg)
/-- The run's pieces for output 2 tile its block (256 stores of `S32x128`, checked by the kernel's evaluation: Lib/Ring.lean `Piece.tiledL`, linear in the pieces, through a loop's `@[irreducible]` trip theorem too), so they cover it. -/
theorem cover0_A_2 (c : Dev nD) (i : grid0.Coords) (arg1 : Memref sig .tc .vmem S512x4096 .bf16) (harg1 : arg1.IsWhole) (arg2 : Memref sig .tc .vmem S1024x256 .bf16) (harg2 : arg2.IsWhole) (arg3 : Memref sig .tc .vmem S512x2048 .fp8e4m3) (harg3 : arg3.IsWhole) (arg4 : Memref sig .tc .vmem S512x128 .i32) (harg4 : arg4.IsWhole) (arg5 : Memref sig .tc .vmem S1x4x128 .f32) (harg5 : arg5.IsWhole) (arg6 : Memref sig .tc .vmem S512x1024 .bf16) (harg6 : arg6.IsWhole) (arg7 : Memref sig .tc .vmem S512x1024 .bf16) (harg7 : arg7.IsWhole) (arg8 : Memref sig .tc .vmem S512x1024 .bf16) (harg8 : arg8.IsWhole) (arg9 : Memref sig .tc .vmem S512x128 .bf16) (harg9 : arg9.IsWhole)
    (x0 : Vec F S512x4096 .bf16) (x1 : Vec F S1024x256 .bf16) (y : S512x2048.Idx) :
    ∃ pc ∈ (kernelRun0_A c i arg1 harg1 arg2 harg2 arg3 harg3 arg4 harg4 arg5 harg5 arg6 harg6 arg7 harg7 arg8 harg8 arg9 harg9 x0 x1).1, y ∈ pc.1.set :=
  View.cover_of_tiledL (kernelRun0_A c i arg1 harg1 arg2 harg2 arg3 harg3 arg4 harg4 arg5 harg5 arg6 harg6 arg7 harg7 arg8 harg8 arg9 harg9 x0 x1).1 S32x128.size (by sl_kernel_rfl) y

/-- What the run leaves in output 2's staging buffer: its pieces read back over junk. -/
def out0_A_2 (c : Dev nD) (i : grid0.Coords) (arg1 : Memref sig .tc .vmem S512x4096 .bf16) (harg1 : arg1.IsWhole) (arg2 : Memref sig .tc .vmem S1024x256 .bf16) (harg2 : arg2.IsWhole) (arg3 : Memref sig .tc .vmem S512x2048 .fp8e4m3) (harg3 : arg3.IsWhole) (arg4 : Memref sig .tc .vmem S512x128 .i32) (harg4 : arg4.IsWhole) (arg5 : Memref sig .tc .vmem S1x4x128 .f32) (harg5 : arg5.IsWhole) (arg6 : Memref sig .tc .vmem S512x1024 .bf16) (harg6 : arg6.IsWhole) (arg7 : Memref sig .tc .vmem S512x1024 .bf16) (harg7 : arg7.IsWhole) (arg8 : Memref sig .tc .vmem S512x1024 .bf16) (harg8 : arg8.IsWhole) (arg9 : Memref sig .tc .vmem S512x128 .bf16) (harg9 : arg9.IsWhole)
    (x0 : Vec F S512x4096 .bf16) (x1 : Vec F S1024x256 .bf16) : Vec F S512x2048 .fp8e4m3 :=
  VO0_2.read (Elt F) (VO0_2.writes (Elt F) VO0_2.junk (kernelRun0_A c i arg1 harg1 arg2 harg2 arg3 harg3 arg4 harg4 arg5 harg5 arg6 harg6 arg7 harg7 arg8 harg8 arg9 harg9 x0 x1).1)

/-- The run's pieces for output 3 tile its block (1 store of `S512x128`, checked by the kernel's evaluation: Lib/Ring.lean `Piece.tiledL`, linear in the pieces, through a loop's `@[irreducible]` trip theorem too), so they cover it. -/
theorem cover0_A_3 (c : Dev nD) (i : grid0.Coords) (arg1 : Memref sig .tc .vmem S512x4096 .bf16) (harg1 : arg1.IsWhole) (arg2 : Memref sig .tc .vmem S1024x256 .bf16) (harg2 : arg2.IsWhole) (arg3 : Memref sig .tc .vmem S512x2048 .fp8e4m3) (harg3 : arg3.IsWhole) (arg4 : Memref sig .tc .vmem S512x128 .i32) (harg4 : arg4.IsWhole) (arg5 : Memref sig .tc .vmem S1x4x128 .f32) (harg5 : arg5.IsWhole) (arg6 : Memref sig .tc .vmem S512x1024 .bf16) (harg6 : arg6.IsWhole) (arg7 : Memref sig .tc .vmem S512x1024 .bf16) (harg7 : arg7.IsWhole) (arg8 : Memref sig .tc .vmem S512x1024 .bf16) (harg8 : arg8.IsWhole) (arg9 : Memref sig .tc .vmem S512x128 .bf16) (harg9 : arg9.IsWhole)
    (x0 : Vec F S512x4096 .bf16) (x1 : Vec F S1024x256 .bf16) (y : S512x128.Idx) :
    ∃ pc ∈ (kernelRun0_A c i arg1 harg1 arg2 harg2 arg3 harg3 arg4 harg4 arg5 harg5 arg6 harg6 arg7 harg7 arg8 harg8 arg9 harg9 x0 x1).2.1, y ∈ pc.1.set :=
  View.cover_of_tiledL (kernelRun0_A c i arg1 harg1 arg2 harg2 arg3 harg3 arg4 harg4 arg5 harg5 arg6 harg6 arg7 harg7 arg8 harg8 arg9 harg9 x0 x1).2.1 S512x128.size (by sl_kernel_rfl) y

/-- What the run leaves in output 3's staging buffer: its pieces read back over junk. -/
def out0_A_3 (c : Dev nD) (i : grid0.Coords) (arg1 : Memref sig .tc .vmem S512x4096 .bf16) (harg1 : arg1.IsWhole) (arg2 : Memref sig .tc .vmem S1024x256 .bf16) (harg2 : arg2.IsWhole) (arg3 : Memref sig .tc .vmem S512x2048 .fp8e4m3) (harg3 : arg3.IsWhole) (arg4 : Memref sig .tc .vmem S512x128 .i32) (harg4 : arg4.IsWhole) (arg5 : Memref sig .tc .vmem S1x4x128 .f32) (harg5 : arg5.IsWhole) (arg6 : Memref sig .tc .vmem S512x1024 .bf16) (harg6 : arg6.IsWhole) (arg7 : Memref sig .tc .vmem S512x1024 .bf16) (harg7 : arg7.IsWhole) (arg8 : Memref sig .tc .vmem S512x1024 .bf16) (harg8 : arg8.IsWhole) (arg9 : Memref sig .tc .vmem S512x128 .bf16) (harg9 : arg9.IsWhole)
    (x0 : Vec F S512x4096 .bf16) (x1 : Vec F S1024x256 .bf16) : Vec F S512x128 .i32 :=
  VO0_3.read (Elt F) (VO0_3.writes (Elt F) VO0_3.junk (kernelRun0_A c i arg1 harg1 arg2 harg2 arg3 harg3 arg4 harg4 arg5 harg5 arg6 harg6 arg7 harg7 arg8 harg8 arg9 harg9 x0 x1).2.1)

/-- The run's pieces for output 4 tile its block (4 stores of `S1x1x128`, checked by the kernel's evaluation: Lib/Ring.lean `Piece.tiledL`, linear in the pieces, through a loop's `@[irreducible]` trip theorem too), so they cover it. -/
theorem cover0_A_4 (c : Dev nD) (i : grid0.Coords) (arg1 : Memref sig .tc .vmem S512x4096 .bf16) (harg1 : arg1.IsWhole) (arg2 : Memref sig .tc .vmem S1024x256 .bf16) (harg2 : arg2.IsWhole) (arg3 : Memref sig .tc .vmem S512x2048 .fp8e4m3) (harg3 : arg3.IsWhole) (arg4 : Memref sig .tc .vmem S512x128 .i32) (harg4 : arg4.IsWhole) (arg5 : Memref sig .tc .vmem S1x4x128 .f32) (harg5 : arg5.IsWhole) (arg6 : Memref sig .tc .vmem S512x1024 .bf16) (harg6 : arg6.IsWhole) (arg7 : Memref sig .tc .vmem S512x1024 .bf16) (harg7 : arg7.IsWhole) (arg8 : Memref sig .tc .vmem S512x1024 .bf16) (harg8 : arg8.IsWhole) (arg9 : Memref sig .tc .vmem S512x128 .bf16) (harg9 : arg9.IsWhole)
    (x0 : Vec F S512x4096 .bf16) (x1 : Vec F S1024x256 .bf16) (y : S1x4x128.Idx) :
    ∃ pc ∈ (kernelRun0_A c i arg1 harg1 arg2 harg2 arg3 harg3 arg4 harg4 arg5 harg5 arg6 harg6 arg7 harg7 arg8 harg8 arg9 harg9 x0 x1).2.2.1, y ∈ pc.1.set :=
  View.cover_of_tiledL (kernelRun0_A c i arg1 harg1 arg2 harg2 arg3 harg3 arg4 harg4 arg5 harg5 arg6 harg6 arg7 harg7 arg8 harg8 arg9 harg9 x0 x1).2.2.1 S1x1x128.size (by sl_kernel_rfl) y

/-- What the run leaves in output 4's staging buffer: its pieces read back over junk. -/
def out0_A_4 (c : Dev nD) (i : grid0.Coords) (arg1 : Memref sig .tc .vmem S512x4096 .bf16) (harg1 : arg1.IsWhole) (arg2 : Memref sig .tc .vmem S1024x256 .bf16) (harg2 : arg2.IsWhole) (arg3 : Memref sig .tc .vmem S512x2048 .fp8e4m3) (harg3 : arg3.IsWhole) (arg4 : Memref sig .tc .vmem S512x128 .i32) (harg4 : arg4.IsWhole) (arg5 : Memref sig .tc .vmem S1x4x128 .f32) (harg5 : arg5.IsWhole) (arg6 : Memref sig .tc .vmem S512x1024 .bf16) (harg6 : arg6.IsWhole) (arg7 : Memref sig .tc .vmem S512x1024 .bf16) (harg7 : arg7.IsWhole) (arg8 : Memref sig .tc .vmem S512x1024 .bf16) (harg8 : arg8.IsWhole) (arg9 : Memref sig .tc .vmem S512x128 .bf16) (harg9 : arg9.IsWhole)
    (x0 : Vec F S512x4096 .bf16) (x1 : Vec F S1024x256 .bf16) : Vec F S1x4x128 .f32 :=
  VO0_4.read (Elt F) (VO0_4.writes (Elt F) VO0_4.junk (kernelRun0_A c i arg1 harg1 arg2 harg2 arg3 harg3 arg4 harg4 arg5 harg5 arg6 harg6 arg7 harg7 arg8 harg8 arg9 harg9 x0 x1).2.2.1)

/-! ## What the outputs hold after each point -/

/-- What the outputs' staging buffers hold after the body at point `t` (as a tuple, in window order): the run's contents at
    the point's memrefs and input blocks. -/
def outsAt0 (c : Dev nD) (t : Fin cfg0.N) : Vec F S512x2048 .fp8e4m3 × Vec F S512x128 .i32 × Vec F S1x4x128 .f32 :=
  (out0_A_2 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) (iblk m c 0 t) (iblk m c 1 t), out0_A_3 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) (iblk m c 0 t) (iblk m c 1 t), out0_A_4 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) (iblk m c 0 t) (iblk m c 1 t))

/-! ## The pipeline's proof data -/

/-- The proof data of the one pipeline on core `c`: the arrays as the region finds them (`V`); after the body at
    point `t` each input's buffer at its block and the outputs' at `outsAt0`; the invariant the class's
    (Lib/Pipeline/Frame.lean `ΦA`: the scoped rest and the generator register); nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => (outsAt0 m c t).1
    | ⟨3, _⟩ => (outsAt0 m c t).2.1
    | ⟨4, _⟩ => (outsAt0 m c t).2.2
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = (outsAt0 m c t).1 := by dsimp only [dats]
theorem after0_3 (c : Dev nD) (t : Fin cfg0.N) : (dats m 0 c).after 3 t = (outsAt0 m c t).2.1 := by dsimp only [dats]
theorem after0_4 (c : Dev nD) (t : Fin cfg0.N) : (dats m 0 c).after 4 t = (outsAt0 m c t).2.2 := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t))

set_option maxHeartbeats 800000 in
/-- The body at any point: the inputs' memrefs hold their blocks (`before0_W`); so the
    run applies; the invariant hands the body its scratch buffers at some contents (and the generator register) and takes them back at some contents (`PhiA_eq`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).Φ t.succ = (dats m 0 c).Φ t.castSucc from rfl,
    show (dats m 0 c).owesAt () t.succ = (dats m 0 c).owesAt () t.castSucc from rfl,
    after0_0, after0_1, after0_2, after0_3, after0_4]
  rw [show (dats m 0 c).Φ t.castSucc = Pipeline.ΦA spec0 c from rfl, PhiA0_eq]
  unfold outsAt0
  unfold out0_A_2 out0_A_3 out0_A_4; (try dsimp only)
  iintro ⟨⟨⟨HS0, HS1, HS2, HS3⟩, Hg⟩, Ho, ⟨%d0, H0⟩, ⟨%d1, H1⟩, ⟨%d2, H2⟩, ⟨%d3, H3⟩, ⟨%d4, H4⟩⟩
  iapply ((kernelRun0_A c (grid0.coords t) _ _ _ _ _ _ _ _ _ _ _ _ _ _ _ _ _ _ (iblk m c 0 t) (iblk m c 1 t)).2.2.2 Set.univ _)
  isplitl [H0]; · iexact H0
  isplitl [H1]; · iexact H1
  isplitl [H2]; · iexists _; iexact H2
  isplitl [H3]; · iexists _; iexact H3
  isplitl [H4]; · iexists _; iexact H4
  isplitl [HS0]; · iexact HS0
  isplitl [HS1]; · iexact HS1
  isplitl [HS2]; · iexact HS2
  isplitl [HS3]; · iexact HS3
  iintro ⟨H0, H1, ⟨%e2, H2⟩, ⟨%e3, H3⟩, ⟨%e4, H4⟩, HS0, HS1, HS2, HS3⟩
  isplitl [HS0 HS1 HS2 HS3 Hg]
  · isplitl [HS0 HS1 HS2 HS3]
    · isplitl [HS0]
      · iexact HS0
      isplitl [HS1]
      · iexact HS1
      isplitl [HS2]
      · iexact HS2
      iexact HS3
    iexact Hg
  isplitl [Ho]; · iexact Ho
  isplitl [H0]; · iexact H0
  isplitl [H1]; · iexact H1
  isplitl [H2]
  · unfold owns; iexists _; isplitr
    swap; · iexact H2
    ipureintro; exact View.read_writes_of_cover _ _ _ _ _ (cover0_A_2 c _ _ _ _ _ _ _ _ _ _ _ _ _ _ _ _ _ _ _ _ _)
  isplitl [H3]
  · unfold owns; iexists _; isplitr
    swap; · iexact H3
    ipureintro; exact View.read_writes_of_cover _ _ _ _ _ (cover0_A_3 c _ _ _ _ _ _ _ _ _ _ _ _ _ _ _ _ _ _ _ _ _)
  unfold owns; iexists _; isplitr
  swap; · iexact H4
  ipureintro; exact View.read_writes_of_cover _ _ _ _ _ (cover0_A_4 c _ _ _ _ _ _ _ _ _ _ _ _ _ _ _ _ _ _ _ _ _)

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

-- `θ_run_frame`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)) :=
  frame_of m ρ (dats m) (A_eq m) (run_main m ρ)

/-- THE FRAME: `Cert.quiescent_Kernel`'s statement (Defs.lean) at any `F` — Proof.lean cites it at `Bits`:
    `theorem Cert.Proof.claim : Cert.Claim := ⟨Cert.Kernel.Gen.facts, fun m ρ _ => Cert.Kernel.Gen.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0))
      ∧ r.2.sem = fun _ => 0) :=
  θ_run_and (unchanged m ρ) ((θ_run defs _ _).mono (fun _ h => h.2) (run_main_quiescent m ρ))

end Cert.Kernel.Gen

end
-- ==== Proof.Cover.lean ====
/- What the first loop leaves in each scratch buffer does not depend on what the buffer held: its pieces cover it. -/
module

public import proofs.«01_k».proof.Proof.Gen.KernelIdeal.Frame.Runs

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- A whole buffer after pieces that cover it does not depend on what it held. -/
theorem rebase_of_cover {κ : Kind} {sp : Space} {s : Shape} {e : EltTy} {mr : Memref sig κ sp s e} (hw : mr.IsWhole)
    (f : mr.view.ty.Contents (Elt F)) (L : List (View.Piece (Elt F) s e)) (hc : ∀ y, ∃ p ∈ L, y ∈ p.1.set) :
    mr.view.writes (Elt F) f L = mr.view.writes (Elt F) mr.view.junk L := by
  obtain ⟨b, rfl, rfl, rfl, h⟩ := hw; cases h
  funext y
  exact View.read_writes_apply_eq (View.whole b) f (View.whole b) (View.whole b).junk y L (hc y)

variable (𝒱 : Variants) (c : Dev nD) (bd : Option 𝒱.V) (i : grid0.Coords) (arg1 : Memref sig .tc .vmem S512x4096 .bf16) (harg1 : arg1.IsWhole) (arg2 : Memref sig .tc .vmem S1024x256 .bf16) (harg2 : arg2.IsWhole) (arg3 : Memref sig .tc .vmem S512x2048 .fp8e4m3) (harg3 : arg3.IsWhole) (arg4 : Memref sig .tc .vmem S512x128 .i32) (harg4 : arg4.IsWhole) (arg5 : Memref sig .tc .vmem S1x4x128 .f32) (harg5 : arg5.IsWhole) (arg6 : Memref sig .tc .vmem S512x1024 .bf16) (harg6 : arg6.IsWhole) (arg7 : Memref sig .tc .vmem S512x1024 .bf16) (harg7 : arg7.IsWhole) (arg8 : Memref sig .tc .vmem S512x1024 .bf16) (harg8 : arg8.IsWhole) (arg9 : Memref sig .tc .vmem S512x128 .bf16) (harg9 : arg9.IsWhole) (X_arg1 : BufTy.Contents (Elt F) arg1.view.ty)

theorem cover6 (y : S512x1024.Idx) : ∃ p ∈ (pb_k0_t1 (F := F) 𝒱 c bd i arg1 harg1 arg2 harg2 arg3 harg3 arg4 harg4 arg5 harg5 arg6 harg6 arg7 harg7 arg8 harg8 arg9 harg9 X_arg1 (Scf.trips k0_t1_loop.lb k0_t1_loop.ub k0_t1_loop.st)).1, y ∈ p.1.set :=
  View.cover_of_tiledL (pb_k0_t1 (F := F) 𝒱 c bd i arg1 harg1 arg2 harg2 arg3 harg3 arg4 harg4 arg5 harg5 arg6 harg6 arg7 harg7 arg8 harg8 arg9 harg9 X_arg1 (Scf.trips k0_t1_loop.lb k0_t1_loop.ub k0_t1_loop.st)).1 S32x128.size (by sl_kernel_rfl) y
theorem rebase6 (f : BufTy.Contents (Elt F) arg6.view.ty) :
    arg6.view.writes (Elt F) f (pb_k0_t1 (F := F) 𝒱 c bd i arg1 harg1 arg2 harg2 arg3 harg3 arg4 harg4 arg5 harg5 arg6 harg6 arg7 harg7 arg8 harg8 arg9 harg9 X_arg1 (Scf.trips k0_t1_loop.lb k0_t1_loop.ub k0_t1_loop.st)).1 = arg6.view.writes (Elt F) arg6.view.junk (pb_k0_t1 (F := F) 𝒱 c bd i arg1 harg1 arg2 harg2 arg3 harg3 arg4 harg4 arg5 harg5 arg6 harg6 arg7 harg7 arg8 harg8 arg9 harg9 X_arg1 (Scf.trips k0_t1_loop.lb k0_t1_loop.ub k0_t1_loop.st)).1 := by
  exact rebase_of_cover harg6 f _ (cover6 𝒱 c bd i arg1 harg1 arg2 harg2 arg3 harg3 arg4 harg4 arg5 harg5 arg6 harg6 arg7 harg7 arg8 harg8 arg9 harg9 X_arg1)

theorem cover7 (y : S512x1024.Idx) : ∃ p ∈ (pb_k0_t1 (F := F) 𝒱 c bd i arg1 harg1 arg2 harg2 arg3 harg3 arg4 harg4 arg5 harg5 arg6 harg6 arg7 harg7 arg8 harg8 arg9 harg9 X_arg1 (Scf.trips k0_t1_loop.lb k0_t1_loop.ub k0_t1_loop.st)).2.1, y ∈ p.1.set :=
  View.cover_of_tiledL (pb_k0_t1 (F := F) 𝒱 c bd i arg1 harg1 arg2 harg2 arg3 harg3 arg4 harg4 arg5 harg5 arg6 harg6 arg7 harg7 arg8 harg8 arg9 harg9 X_arg1 (Scf.trips k0_t1_loop.lb k0_t1_loop.ub k0_t1_loop.st)).2.1 S32x128.size (by sl_kernel_rfl) y
theorem rebase7 (f : BufTy.Contents (Elt F) arg7.view.ty) :
    arg7.view.writes (Elt F) f (pb_k0_t1 (F := F) 𝒱 c bd i arg1 harg1 arg2 harg2 arg3 harg3 arg4 harg4 arg5 harg5 arg6 harg6 arg7 harg7 arg8 harg8 arg9 harg9 X_arg1 (Scf.trips k0_t1_loop.lb k0_t1_loop.ub k0_t1_loop.st)).2.1 = arg7.view.writes (Elt F) arg7.view.junk (pb_k0_t1 (F := F) 𝒱 c bd i arg1 harg1 arg2 harg2 arg3 harg3 arg4 harg4 arg5 harg5 arg6 harg6 arg7 harg7 arg8 harg8 arg9 harg9 X_arg1 (Scf.trips k0_t1_loop.lb k0_t1_loop.ub k0_t1_loop.st)).2.1 := by
  exact rebase_of_cover harg7 f _ (cover7 𝒱 c bd i arg1 harg1 arg2 harg2 arg3 harg3 arg4 harg4 arg5 harg5 arg6 harg6 arg7 harg7 arg8 harg8 arg9 harg9 X_arg1)

theorem cover8 (y : S512x1024.Idx) : ∃ p ∈ (pb_k0_t1 (F := F) 𝒱 c bd i arg1 harg1 arg2 harg2 arg3 harg3 arg4 harg4 arg5 harg5 arg6 harg6 arg7 harg7 arg8 harg8 arg9 harg9 X_arg1 (Scf.trips k0_t1_loop.lb k0_t1_loop.ub k0_t1_loop.st)).2.2.1, y ∈ p.1.set :=
  View.cover_of_tiledL (pb_k0_t1 (F := F) 𝒱 c bd i arg1 harg1 arg2 harg2 arg3 harg3 arg4 harg4 arg5 harg5 arg6 harg6 arg7 harg7 arg8 harg8 arg9 harg9 X_arg1 (Scf.trips k0_t1_loop.lb k0_t1_loop.ub k0_t1_loop.st)).2.2.1 S32x128.size (by sl_kernel_rfl) y
theorem rebase8 (f : BufTy.Contents (Elt F) arg8.view.ty) :
    arg8.view.writes (Elt F) f (pb_k0_t1 (F := F) 𝒱 c bd i arg1 harg1 arg2 harg2 arg3 harg3 arg4 harg4 arg5 harg5 arg6 harg6 arg7 harg7 arg8 harg8 arg9 harg9 X_arg1 (Scf.trips k0_t1_loop.lb k0_t1_loop.ub k0_t1_loop.st)).2.2.1 = arg8.view.writes (Elt F) arg8.view.junk (pb_k0_t1 (F := F) 𝒱 c bd i arg1 harg1 arg2 harg2 arg3 harg3 arg4 harg4 arg5 harg5 arg6 harg6 arg7 harg7 arg8 harg8 arg9 harg9 X_arg1 (Scf.trips k0_t1_loop.lb k0_t1_loop.ub k0_t1_loop.st)).2.2.1 := by
  exact rebase_of_cover harg8 f _ (cover8 𝒱 c bd i arg1 harg1 arg2 harg2 arg3 harg3 arg4 harg4 arg5 harg5 arg6 harg6 arg7 harg7 arg8 harg8 arg9 harg9 X_arg1)

theorem cover9 (y : S512x128.Idx) : ∃ p ∈ (pb_k0_t1 (F := F) 𝒱 c bd i arg1 harg1 arg2 harg2 arg3 harg3 arg4 harg4 arg5 harg5 arg6 harg6 arg7 harg7 arg8 harg8 arg9 harg9 X_arg1 (Scf.trips k0_t1_loop.lb k0_t1_loop.ub k0_t1_loop.st)).2.2.2, y ∈ p.1.set :=
  View.cover_of_tiledL (pb_k0_t1 (F := F) 𝒱 c bd i arg1 harg1 arg2 harg2 arg3 harg3 arg4 harg4 arg5 harg5 arg6 harg6 arg7 harg7 arg8 harg8 arg9 harg9 X_arg1 (Scf.trips k0_t1_loop.lb k0_t1_loop.ub k0_t1_loop.st)).2.2.2 S32x128.size (by sl_kernel_rfl) y
theorem rebase9 (f : BufTy.Contents (Elt F) arg9.view.ty) :
    arg9.view.writes (Elt F) f (pb_k0_t1 (F := F) 𝒱 c bd i arg1 harg1 arg2 harg2 arg3 harg3 arg4 harg4 arg5 harg5 arg6 harg6 arg7 harg7 arg8 harg8 arg9 harg9 X_arg1 (Scf.trips k0_t1_loop.lb k0_t1_loop.ub k0_t1_loop.st)).2.2.2 = arg9.view.writes (Elt F) arg9.view.junk (pb_k0_t1 (F := F) 𝒱 c bd i arg1 harg1 arg2 harg2 arg3 harg3 arg4 harg4 arg5 harg5 arg6 harg6 arg7 harg7 arg8 harg8 arg9 harg9 X_arg1 (Scf.trips k0_t1_loop.lb k0_t1_loop.ub k0_t1_loop.st)).2.2.2 := by
  exact rebase_of_cover harg9 f _ (cover9 𝒱 c bd i arg1 harg1 arg2 harg2 arg3 harg3 arg4 harg4 arg5 harg5 arg6 harg6 arg7 harg7 arg8 harg8 arg9 harg9 X_arg1)

end Cert.KernelIdeal.Gen

end
-- ==== Proof.RunA.lean ====
/- The run of the kernel body with what it leaves in each output, as pieces: the generated run, with one step more —
   after the first loop the two scratch buffers the second loop reads are restated over fixed contents (Cover.lean). -/
module

public import proofs.«01_k».proof.Proof.Cover

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option backward.proofsInPublic true in
set_option maxHeartbeats 4000000 in
/-- What the body's stores leave in each output's staging memref, as pieces (last first), WITH the
    proof that on whole staging memrefs — the inputs' at their contents, the other outputs' at
    anything, the scratch buffers at anything, the body runs to the continuation holding the inputs' as they were,
    the scratch at some contents, each output's buffer with its pieces written: the printed functions are their skeletons
    (`Gen.*_eq_skeleton`), which `sl_exec` runs (Lib/Exec.lean); the pieces are
    the witness that run finds (assigned when `iexact` hands the buffer to the continuation). -/
noncomputable def kernelRun0_A (c : Dev nD) (i : grid0.Coords) (arg1 : Memref sig .tc .vmem S512x4096 .bf16) (harg1 : arg1.IsWhole) (arg2 : Memref sig .tc .vmem S1024x256 .bf16) (harg2 : arg2.IsWhole) (arg3 : Memref sig .tc .vmem S512x2048 .fp8e4m3) (harg3 : arg3.IsWhole) (arg4 : Memref sig .tc .vmem S512x128 .i32) (harg4 : arg4.IsWhole) (arg5 : Memref sig .tc .vmem S1x4x128 .f32) (harg5 : arg5.IsWhole) (arg6 : Memref sig .tc .vmem S512x1024 .bf16) (harg6 : arg6.IsWhole) (arg7 : Memref sig .tc .vmem S512x1024 .bf16) (harg7 : arg7.IsWhole) (arg8 : Memref sig .tc .vmem S512x1024 .bf16) (harg8 : arg8.IsWhole) (arg9 : Memref sig .tc .vmem S512x128 .bf16) (harg9 : arg9.IsWhole)
    (x0 : Vec F S512x4096 .bf16) (x1 : Vec F S1024x256 .bf16) :
    Σ' (L2 : List (View.Piece (Elt F) S512x2048 .fp8e4m3)), Σ' (L3 : List (View.Piece (Elt F) S512x128 .i32)), { L4 : List (View.Piece (Elt F) S1x4x128 .f32) //
      ∀ (E : Set ℕ) (K : PUnit → sProp 𝕄),
        iprop(owns (c : Thread nD τ) arg1 fullShare x0 ∗ owns (c : Thread nD τ) arg2 fullShare x1 ∗ (∃ d, owns (c : Thread nD τ) arg3 fullShare d) ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d)
            ∗ (iprop(owns (c : Thread nD τ) arg1 fullShare x0 ∗ owns (c : Thread nD τ) arg2 fullShare x1 ∗ (∃ f, arg3.view.loc (c : Thread nD τ) ↦[arg3.view.set]{fullShare} arg3.view.writes (Elt F) f L2) ∗ (∃ f, arg4.view.loc (c : Thread nD τ) ↦[arg4.view.set]{fullShare} arg4.view.writes (Elt F) f L3) ∗ (∃ f, arg5.view.loc (c : Thread nD τ) ↦[arg5.view.set]{fullShare} arg5.view.writes (Elt F) f L4) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d)) -∗ K ⟨⟩))
          ⊢ wp frame (wpE (defs₀ (F := F)) Variants.none c none) E (cc0_sparse24_compress i arg1 harg1 arg2 harg2 arg3 harg3 arg4 harg4 arg5 harg5 arg6 harg6 arg7 harg7 arg8 harg8 arg9 harg9) K } := by
  refine ⟨?_, ?_, ?_, fun E K => ?run⟩
  case run =>
    simp only [cc0_sparse24_compress_eq_skeleton]; unfold cc0_sparse24_compress_skel
    simp only [k0_part25_eq_skeleton, k0_part26_eq_skeleton, k0_part27_eq_skeleton]
    unfold owns
    iintro ⟨⟨%f0, %hf0, H0⟩, ⟨%f1, %hf1, H1⟩, ⟨%d2, %f2, -, H2⟩, ⟨%d3, %f3, -, H3⟩, ⟨%d4, %f4, -, H4⟩, ⟨%ds0, %fs0, -, HS0⟩, ⟨%ds1, %fs1, -, HS1⟩, ⟨%ds2, %fs2, -, HS2⟩, ⟨%ds3, %fs3, -, HS3⟩, Hk⟩
    obtain rfl := harg1.eq_unread hf0; obtain rfl := harg2.eq_unread hf1
    have hrd0 : ∀ (𝒱 : Variants) (c : Dev nD) (bd : Option 𝒱.V) (i : grid0.Coords) (arg1 : Memref sig .tc .vmem S512x4096 .bf16) (harg1 : arg1.IsWhole) (arg2 : Memref sig .tc .vmem S1024x256 .bf16) (harg2 : arg2.IsWhole) (arg3 : Memref sig .tc .vmem S512x2048 .fp8e4m3) (harg3 : arg3.IsWhole) (arg4 : Memref sig .tc .vmem S512x128 .i32) (harg4 : arg4.IsWhole) (arg5 : Memref sig .tc .vmem S1x4x128 .f32) (harg5 : arg5.IsWhole) (arg6 : Memref sig .tc .vmem S512x1024 .bf16) (harg6 : arg6.IsWhole) (arg7 : Memref sig .tc .vmem S512x1024 .bf16) (harg7 : arg7.IsWhole) (arg8 : Memref sig .tc .vmem S512x1024 .bf16) (harg8 : arg8.IsWhole) (arg9 : Memref sig .tc .vmem S512x128 .bf16) (harg9 : arg9.IsWhole) (X_arg1 : BufTy.Contents (Elt F) arg1.view.ty) (hrdF : BufTy.Contents (Elt F) arg9.view.ty) (hrdB : LoadRect S512x128), arg9.view.readAt (Elt F) hrdB (arg9.view.writes (Elt F) hrdF (pb_k0_t1 (F := F) 𝒱 c bd i arg1 harg1 arg2 harg2 arg3 harg3 arg4 harg4 arg5 harg5 arg6 harg6 arg7 harg7 arg8 harg8 arg9 harg9 X_arg1 (Scf.trips k0_t1_loop.lb k0_t1_loop.ub k0_t1_loop.st)).2.2.2) = arg9.view.readCov (pb_k0_t1 (F := F) 𝒱 c bd i arg1 harg1 arg2 harg2 arg3 harg3 arg4 harg4 arg5 harg5 arg6 harg6 arg7 harg7 arg8 harg8 arg9 harg9 X_arg1 (Scf.trips k0_t1_loop.lb k0_t1_loop.ub k0_t1_loop.st)).2.2.2 hrdB := fun 𝒱 c bd i arg1 harg1 arg2 harg2 arg3 harg3 arg4 harg4 arg5 harg5 arg6 harg6 arg7 harg7 arg8 harg8 arg9 harg9 X_arg1 hrdF hrdB => View.readAt_writes_of_cover _ hrdF _ hrdB (fun hrdJ => View.cover_of_tiledL (pb_k0_t1 (F := F) 𝒱 c bd i arg1 harg1 arg2 harg2 arg3 harg3 arg4 harg4 arg5 harg5 arg6 harg6 arg7 harg7 arg8 harg8 arg9 harg9 X_arg1 (Scf.trips k0_t1_loop.lb k0_t1_loop.ub k0_t1_loop.st)).2.2.2 S32x128.size (by sl_kernel_rfl) (hrdB.idx hrdJ))
    have hrd1 : ∀ (𝒱 : Variants) (c : Dev nD) (bd : Option 𝒱.V) (i : grid0.Coords) (arg1 : Memref sig .tc .vmem S512x4096 .bf16) (harg1 : arg1.IsWhole) (arg2 : Memref sig .tc .vmem S1024x256 .bf16) (harg2 : arg2.IsWhole) (arg3 : Memref sig .tc .vmem S512x2048 .fp8e4m3) (harg3 : arg3.IsWhole) (arg4 : Memref sig .tc .vmem S512x128 .i32) (harg4 : arg4.IsWhole) (arg5 : Memref sig .tc .vmem S1x4x128 .f32) (harg5 : arg5.IsWhole) (arg6 : Memref sig .tc .vmem S512x1024 .bf16) (harg6 : arg6.IsWhole) (arg7 : Memref sig .tc .vmem S512x1024 .bf16) (harg7 : arg7.IsWhole) (arg8 : Memref sig .tc .vmem S512x1024 .bf16) (harg8 : arg8.IsWhole) (arg9 : Memref sig .tc .vmem S512x128 .bf16) (harg9 : arg9.IsWhole) (X_arg1 : BufTy.Contents (Elt F) arg1.view.ty) (hrdF : BufTy.Contents (Elt F) arg8.view.ty) (hrdB : LoadRect S512x1024), arg8.view.readAt (Elt F) hrdB (arg8.view.writes (Elt F) hrdF (pb_k0_t1 (F := F) 𝒱 c bd i arg1 harg1 arg2 harg2 arg3 harg3 arg4 harg4 arg5 harg5 arg6 harg6 arg7 harg7 arg8 harg8 arg9 harg9 X_arg1 (Scf.trips k0_t1_loop.lb k0_t1_loop.ub k0_t1_loop.st)).2.2.1) = arg8.view.readCov (pb_k0_t1 (F := F) 𝒱 c bd i arg1 harg1 arg2 harg2 arg3 harg3 arg4 harg4 arg5 harg5 arg6 harg6 arg7 harg7 arg8 harg8 arg9 harg9 X_arg1 (Scf.trips k0_t1_loop.lb k0_t1_loop.ub k0_t1_loop.st)).2.2.1 hrdB := fun 𝒱 c bd i arg1 harg1 arg2 harg2 arg3 harg3 arg4 harg4 arg5 harg5 arg6 harg6 arg7 harg7 arg8 harg8 arg9 harg9 X_arg1 hrdF hrdB => View.readAt_writes_of_cover _ hrdF _ hrdB (fun hrdJ => View.cover_of_tiledL (pb_k0_t1 (F := F) 𝒱 c bd i arg1 harg1 arg2 harg2 arg3 harg3 arg4 harg4 arg5 harg5 arg6 harg6 arg7 harg7 arg8 harg8 arg9 harg9 X_arg1 (Scf.trips k0_t1_loop.lb k0_t1_loop.ub k0_t1_loop.st)).2.2.1 S32x128.size (by sl_kernel_rfl) (hrdB.idx hrdJ))
    sl_exec
    sl_step
    rw [rebase6 (f := fs0), rebase7 (f := fs1)]
    iapply Hk
    isplitl [H0]
    · iexists _; isplitr; · ipureintro; exact harg1.read_unread _
      iexact H0
    isplitl [H1]
    · iexists _; isplitr; · ipureintro; exact harg2.read_unread _
      iexact H1
    isplitl [H2]; · iexists _; iexact H2
    isplitl [H3]; · iexists _; iexact H3
    isplitl [H4]; · iexists _; iexact H4
    isplitl [HS0]
    · iexists _, _; isplitr; swap; · iexact HS0
      ipureintro; rfl
    isplitl [HS1]
    · iexists _, _; isplitr; swap; · iexact HS1
      ipureintro; rfl
    isplitl [HS2]
    · iexists _, _; isplitr; swap; · iexact HS2
      ipureintro; rfl
    iexists _, _; isplitr; swap; · iexact HS3
    ipureintro; rfl

end Cert.KernelIdeal.Gen

end
-- ==== Proof.KFrame.lean ====
/- The generated frame certificate of the kernel read exactly, over the run of RunA.lean. -/
module

public import proofs.«01_k».proof.Proof.RunA
public import Idealize.ShloMosaic.Lib.Claim

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-- The run's pieces for output 2 tile its block (256 stores of `S32x128`, checked by the kernel's evaluation: Lib/Ring.lean `Piece.tiledL`, linear in the pieces, through a loop's `@[irreducible]` trip theorem too), so they cover it. -/
theorem cover0_A_2 (c : Dev nD) (i : grid0.Coords) (arg1 : Memref sig .tc .vmem S512x4096 .bf16) (harg1 : arg1.IsWhole) (arg2 : Memref sig .tc .vmem S1024x256 .bf16) (harg2 : arg2.IsWhole) (arg3 : Memref sig .tc .vmem S512x2048 .fp8e4m3) (harg3 : arg3.IsWhole) (arg4 : Memref sig .tc .vmem S512x128 .i32) (harg4 : arg4.IsWhole) (arg5 : Memref sig .tc .vmem S1x4x128 .f32) (harg5 : arg5.IsWhole) (arg6 : Memref sig .tc .vmem S512x1024 .bf16) (harg6 : arg6.IsWhole) (arg7 : Memref sig .tc .vmem S512x1024 .bf16) (harg7 : arg7.IsWhole) (arg8 : Memref sig .tc .vmem S512x1024 .bf16) (harg8 : arg8.IsWhole) (arg9 : Memref sig .tc .vmem S512x128 .bf16) (harg9 : arg9.IsWhole)
    (x0 : Vec F S512x4096 .bf16) (x1 : Vec F S1024x256 .bf16) (y : S512x2048.Idx) :
    ∃ pc ∈ (kernelRun0_A c i arg1 harg1 arg2 harg2 arg3 harg3 arg4 harg4 arg5 harg5 arg6 harg6 arg7 harg7 arg8 harg8 arg9 harg9 x0 x1).1, y ∈ pc.1.set :=
  View.cover_of_tiledL (kernelRun0_A c i arg1 harg1 arg2 harg2 arg3 harg3 arg4 harg4 arg5 harg5 arg6 harg6 arg7 harg7 arg8 harg8 arg9 harg9 x0 x1).1 S32x128.size (by sl_kernel_rfl) y

/-- What the run leaves in output 2's staging buffer: its pieces read back over junk. -/
def out0_A_2 (c : Dev nD) (i : grid0.Coords) (arg1 : Memref sig .tc .vmem S512x4096 .bf16) (harg1 : arg1.IsWhole) (arg2 : Memref sig .tc .vmem S1024x256 .bf16) (harg2 : arg2.IsWhole) (arg3 : Memref sig .tc .vmem S512x2048 .fp8e4m3) (harg3 : arg3.IsWhole) (arg4 : Memref sig .tc .vmem S512x128 .i32) (harg4 : arg4.IsWhole) (arg5 : Memref sig .tc .vmem S1x4x128 .f32) (harg5 : arg5.IsWhole) (arg6 : Memref sig .tc .vmem S512x1024 .bf16) (harg6 : arg6.IsWhole) (arg7 : Memref sig .tc .vmem S512x1024 .bf16) (harg7 : arg7.IsWhole) (arg8 : Memref sig .tc .vmem S512x1024 .bf16) (harg8 : arg8.IsWhole) (arg9 : Memref sig .tc .vmem S512x128 .bf16) (harg9 : arg9.IsWhole)
    (x0 : Vec F S512x4096 .bf16) (x1 : Vec F S1024x256 .bf16) : Vec F S512x2048 .fp8e4m3 :=
  VO0_2.read (Elt F) (VO0_2.writes (Elt F) VO0_2.junk (kernelRun0_A c i arg1 harg1 arg2 harg2 arg3 harg3 arg4 harg4 arg5 harg5 arg6 harg6 arg7 harg7 arg8 harg8 arg9 harg9 x0 x1).1)

/-- The run's pieces for output 3 tile its block (1 store of `S512x128`, checked by the kernel's evaluation: Lib/Ring.lean `Piece.tiledL`, linear in the pieces, through a loop's `@[irreducible]` trip theorem too), so they cover it. -/
theorem cover0_A_3 (c : Dev nD) (i : grid0.Coords) (arg1 : Memref sig .tc .vmem S512x4096 .bf16) (harg1 : arg1.IsWhole) (arg2 : Memref sig .tc .vmem S1024x256 .bf16) (harg2 : arg2.IsWhole) (arg3 : Memref sig .tc .vmem S512x2048 .fp8e4m3) (harg3 : arg3.IsWhole) (arg4 : Memref sig .tc .vmem S512x128 .i32) (harg4 : arg4.IsWhole) (arg5 : Memref sig .tc .vmem S1x4x128 .f32) (harg5 : arg5.IsWhole) (arg6 : Memref sig .tc .vmem S512x1024 .bf16) (harg6 : arg6.IsWhole) (arg7 : Memref sig .tc .vmem S512x1024 .bf16) (harg7 : arg7.IsWhole) (arg8 : Memref sig .tc .vmem S512x1024 .bf16) (harg8 : arg8.IsWhole) (arg9 : Memref sig .tc .vmem S512x128 .bf16) (harg9 : arg9.IsWhole)
    (x0 : Vec F S512x4096 .bf16) (x1 : Vec F S1024x256 .bf16) (y : S512x128.Idx) :
    ∃ pc ∈ (kernelRun0_A c i arg1 harg1 arg2 harg2 arg3 harg3 arg4 harg4 arg5 harg5 arg6 harg6 arg7 harg7 arg8 harg8 arg9 harg9 x0 x1).2.1, y ∈ pc.1.set :=
  View.cover_of_tiledL (kernelRun0_A c i arg1 harg1 arg2 harg2 arg3 harg3 arg4 harg4 arg5 harg5 arg6 harg6 arg7 harg7 arg8 harg8 arg9 harg9 x0 x1).2.1 S512x128.size (by sl_kernel_rfl) y

/-- What the run leaves in output 3's staging buffer: its pieces read back over junk. -/
def out0_A_3 (c : Dev nD) (i : grid0.Coords) (arg1 : Memref sig .tc .vmem S512x4096 .bf16) (harg1 : arg1.IsWhole) (arg2 : Memref sig .tc .vmem S1024x256 .bf16) (harg2 : arg2.IsWhole) (arg3 : Memref sig .tc .vmem S512x2048 .fp8e4m3) (harg3 : arg3.IsWhole) (arg4 : Memref sig .tc .vmem S512x128 .i32) (harg4 : arg4.IsWhole) (arg5 : Memref sig .tc .vmem S1x4x128 .f32) (harg5 : arg5.IsWhole) (arg6 : Memref sig .tc .vmem S512x1024 .bf16) (harg6 : arg6.IsWhole) (arg7 : Memref sig .tc .vmem S512x1024 .bf16) (harg7 : arg7.IsWhole) (arg8 : Memref sig .tc .vmem S512x1024 .bf16) (harg8 : arg8.IsWhole) (arg9 : Memref sig .tc .vmem S512x128 .bf16) (harg9 : arg9.IsWhole)
    (x0 : Vec F S512x4096 .bf16) (x1 : Vec F S1024x256 .bf16) : Vec F S512x128 .i32 :=
  VO0_3.read (Elt F) (VO0_3.writes (Elt F) VO0_3.junk (kernelRun0_A c i arg1 harg1 arg2 harg2 arg3 harg3 arg4 harg4 arg5 harg5 arg6 harg6 arg7 harg7 arg8 harg8 arg9 harg9 x0 x1).2.1)

/-- The run's pieces for output 4 tile its block (4 stores of `S1x1x128`, checked by the kernel's evaluation: Lib/Ring.lean `Piece.tiledL`, linear in the pieces, through a loop's `@[irreducible]` trip theorem too), so they cover it. -/
theorem cover0_A_4 (c : Dev nD) (i : grid0.Coords) (arg1 : Memref sig .tc .vmem S512x4096 .bf16) (harg1 : arg1.IsWhole) (arg2 : Memref sig .tc .vmem S1024x256 .bf16) (harg2 : arg2.IsWhole) (arg3 : Memref sig .tc .vmem S512x2048 .fp8e4m3) (harg3 : arg3.IsWhole) (arg4 : Memref sig .tc .vmem S512x128 .i32) (harg4 : arg4.IsWhole) (arg5 : Memref sig .tc .vmem S1x4x128 .f32) (harg5 : arg5.IsWhole) (arg6 : Memref sig .tc .vmem S512x1024 .bf16) (harg6 : arg6.IsWhole) (arg7 : Memref sig .tc .vmem S512x1024 .bf16) (harg7 : arg7.IsWhole) (arg8 : Memref sig .tc .vmem S512x1024 .bf16) (harg8 : arg8.IsWhole) (arg9 : Memref sig .tc .vmem S512x128 .bf16) (harg9 : arg9.IsWhole)
    (x0 : Vec F S512x4096 .bf16) (x1 : Vec F S1024x256 .bf16) (y : S1x4x128.Idx) :
    ∃ pc ∈ (kernelRun0_A c i arg1 harg1 arg2 harg2 arg3 harg3 arg4 harg4 arg5 harg5 arg6 harg6 arg7 harg7 arg8 harg8 arg9 harg9 x0 x1).2.2.1, y ∈ pc.1.set :=
  View.cover_of_tiledL (kernelRun0_A c i arg1 harg1 arg2 harg2 arg3 harg3 arg4 harg4 arg5 harg5 arg6 harg6 arg7 harg7 arg8 harg8 arg9 harg9 x0 x1).2.2.1 S1x1x128.size (by sl_kernel_rfl) y

/-- What the run leaves in output 4's staging buffer: its pieces read back over junk. -/
def out0_A_4 (c : Dev nD) (i : grid0.Coords) (arg1 : Memref sig .tc .vmem S512x4096 .bf16) (harg1 : arg1.IsWhole) (arg2 : Memref sig .tc .vmem S1024x256 .bf16) (harg2 : arg2.IsWhole) (arg3 : Memref sig .tc .vmem S512x2048 .fp8e4m3) (harg3 : arg3.IsWhole) (arg4 : Memref sig .tc .vmem S512x128 .i32) (harg4 : arg4.IsWhole) (arg5 : Memref sig .tc .vmem S1x4x128 .f32) (harg5 : arg5.IsWhole) (arg6 : Memref sig .tc .vmem S512x1024 .bf16) (harg6 : arg6.IsWhole) (arg7 : Memref sig .tc .vmem S512x1024 .bf16) (harg7 : arg7.IsWhole) (arg8 : Memref sig .tc .vmem S512x1024 .bf16) (harg8 : arg8.IsWhole) (arg9 : Memref sig .tc .vmem S512x128 .bf16) (harg9 : arg9.IsWhole)
    (x0 : Vec F S512x4096 .bf16) (x1 : Vec F S1024x256 .bf16) : Vec F S1x4x128 .f32 :=
  VO0_4.read (Elt F) (VO0_4.writes (Elt F) VO0_4.junk (kernelRun0_A c i arg1 harg1 arg2 harg2 arg3 harg3 arg4 harg4 arg5 harg5 arg6 harg6 arg7 harg7 arg8 harg8 arg9 harg9 x0 x1).2.2.1)

/-! ## What the outputs hold after each point -/

/-- What the outputs' staging buffers hold after the body at point `t` (as a tuple, in window order): the run's contents at
    the point's memrefs and input blocks. -/
def outsAt0 (c : Dev nD) (t : Fin cfg0.N) : Vec F S512x2048 .fp8e4m3 × Vec F S512x128 .i32 × Vec F S1x4x128 .f32 :=
  (out0_A_2 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) (iblk m c 0 t) (iblk m c 1 t), out0_A_3 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) (iblk m c 0 t) (iblk m c 1 t), out0_A_4 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) (iblk m c 0 t) (iblk m c 1 t))

/-! ## The pipeline's proof data -/

/-- The proof data of the one pipeline on core `c`: the arrays as the region finds them (`V`); after the body at
    point `t` each input's buffer at its block and the outputs' at `outsAt0`; the invariant the class's
    (Lib/Pipeline/Frame.lean `ΦA`: the scoped rest and the generator register); nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => (outsAt0 m c t).1
    | ⟨3, _⟩ => (outsAt0 m c t).2.1
    | ⟨4, _⟩ => (outsAt0 m c t).2.2
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = (outsAt0 m c t).1 := by dsimp only [dats]
theorem after0_3 (c : Dev nD) (t : Fin cfg0.N) : (dats m 0 c).after 3 t = (outsAt0 m c t).2.1 := by dsimp only [dats]
theorem after0_4 (c : Dev nD) (t : Fin cfg0.N) : (dats m 0 c).after 4 t = (outsAt0 m c t).2.2 := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t))

set_option maxHeartbeats 800000 in
/-- The body at any point: the inputs' memrefs hold their blocks (`before0_W`); so the
    run applies; the invariant hands the body its scratch buffers at some contents (and the generator register) and takes them back at some contents (`PhiA_eq`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).Φ t.succ = (dats m 0 c).Φ t.castSucc from rfl,
    show (dats m 0 c).owesAt () t.succ = (dats m 0 c).owesAt () t.castSucc from rfl,
    after0_0, after0_1, after0_2, after0_3, after0_4]
  rw [show (dats m 0 c).Φ t.castSucc = Pipeline.ΦA spec0 c from rfl, PhiA0_eq]
  unfold outsAt0
  unfold out0_A_2 out0_A_3 out0_A_4; (try dsimp only)
  iintro ⟨⟨⟨HS0, HS1, HS2, HS3⟩, Hg⟩, Ho, ⟨%d0, H0⟩, ⟨%d1, H1⟩, ⟨%d2, H2⟩, ⟨%d3, H3⟩, ⟨%d4, H4⟩⟩
  iapply ((kernelRun0_A c (grid0.coords t) _ _ _ _ _ _ _ _ _ _ _ _ _ _ _ _ _ _ (iblk m c 0 t) (iblk m c 1 t)).2.2.2 Set.univ _)
  isplitl [H0]; · iexact H0
  isplitl [H1]; · iexact H1
  isplitl [H2]; · iexists _; iexact H2
  isplitl [H3]; · iexists _; iexact H3
  isplitl [H4]; · iexists _; iexact H4
  isplitl [HS0]; · iexact HS0
  isplitl [HS1]; · iexact HS1
  isplitl [HS2]; · iexact HS2
  isplitl [HS3]; · iexact HS3
  iintro ⟨H0, H1, ⟨%e2, H2⟩, ⟨%e3, H3⟩, ⟨%e4, H4⟩, HS0, HS1, HS2, HS3⟩
  isplitl [HS0 HS1 HS2 HS3 Hg]
  · isplitl [HS0 HS1 HS2 HS3]
    · isplitl [HS0]
      · iexact HS0
      isplitl [HS1]
      · iexact HS1
      isplitl [HS2]
      · iexact HS2
      iexact HS3
    iexact Hg
  isplitl [Ho]; · iexact Ho
  isplitl [H0]; · iexact H0
  isplitl [H1]; · iexact H1
  isplitl [H2]
  · unfold owns; iexists _; isplitr
    swap; · iexact H2
    ipureintro; exact View.read_writes_of_cover _ _ _ _ _ (cover0_A_2 c _ _ _ _ _ _ _ _ _ _ _ _ _ _ _ _ _ _ _ _ _)
  isplitl [H3]
  · unfold owns; iexists _; isplitr
    swap; · iexact H3
    ipureintro; exact View.read_writes_of_cover _ _ _ _ _ (cover0_A_3 c _ _ _ _ _ _ _ _ _ _ _ _ _ _ _ _ _ _ _ _ _)
  unfold owns; iexists _; isplitr
  swap; · iexact H4
  ipureintro; exact View.read_writes_of_cover _ _ _ _ _ (cover0_A_4 c _ _ _ _ _ _ _ _ _ _ _ _ _ _ _ _ _ _ _ _ _)

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

-- `θ_run_frame`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)) :=
  frame_of m ρ (dats m) (A_eq m) (run_main m ρ)

/-- THE FRAME: `Cert.quiescent_KernelIdeal`'s statement (Defs.lean) at any `F` — Proof.lean cites it at `Bits`:
    `theorem Cert.Proof.claim : Cert.Claim := ⟨Cert.KernelIdeal.Gen.facts, fun m ρ _ => Cert.KernelIdeal.Gen.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0))
      ∧ r.2.sem = fun _ => 0) :=
  θ_run_and (unchanged m ρ) ((θ_run defs _ _).mono (fun _ h => h.2) (run_main_quiescent m ρ))

end Cert.KernelIdeal.Gen

end
-- ==== Proof.KValue.lean ====
/- The generated value statements of the kernel read exactly, over the frame of KFrame.lean. -/
module

public import proofs.«01_k».proof.Proof.KFrame
public import Idealize.ShloMosaic.Lib.Pipeline.Value

@[expose] public section

noncomputable section

namespace Cert.KernelIdeal.Value

open Cert.KernelIdeal Cert.KernelIdeal.Gen Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

/-! ## Blockwise: what each point writes back, and the final array block by block -/

/-- WHAT POINT `t` WRITES BACK to output window 2's array: the run's contents for that window after the body (`Gen.outsAt0`: its component 0), read through the window's block. -/
theorem flushed2 (c : Dev nD) (t : Fin cfg0.N) :
    (dats m 0 c).flushed 2 t = (cfg0.win 2).cut (grid0.coords t) ((outsAt0 m c t).1) := by
  show (cfg0.win 2).cut (grid0.coords t) ((dats m 0 c).after 2 t) = _
  rw [after0_2]

/-- … so at a point where case A runs, what its write-back would write is that case's NAMED TERM for the window (`Gen.out0_A_2`: the pieces
    its run found, read back) at the point's memrefs and input blocks, and for an output the case reads back what the point before left (`Gen.outsAt0` at `t - 1`) — the kernel's one case, `Gen.outsAt0` by definition. -/
theorem flushed2_A (c : Dev nD) (t : Fin cfg0.N) :
    (dats m 0 c).flushed 2 t = (cfg0.win 2).cut (grid0.coords t) (out0_A_2 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) (iblk m c 0 t) (iblk m c 1 t)) := by
  simp only [flushed2, outsAt0]

/-- The index map sends distinct grid points to distinct block indices (decided over the 28 points). -/
theorem idx_inj2 : ∀ t t' : Fin cfg0.N, win0_2.index t = win0_2.index t' → t = t' :=
  (by decide +kernel : ∀ t t' : Fin grid0.N, win0_2.index t = win0_2.index t' → t = t')

/-- So two flushing points' blocks share no array index (Lib/Pipeline/Cells.lean `Window.disjoint_blk`). -/
theorem disjoint2 : ∀ t t' : Fin cfg0.N, (cfg0.win 2).flush t = true → (cfg0.win 2).flush t' = true → t ≠ t' →
    Disjoint ((cfg0.win 2).blk t).view.set ((cfg0.win 2).blk t').view.set :=
  fun t t' _ _ hne => (cfg0.win 2).disjoint_blk fun h => hne (idx_inj2 t t' h)

/-- BLOCK `t` OF THE FINAL ARRAY, read back through the window, is what point `t` wrote back (`flushed2`), for every
    point that writes back: no other point's block meets it. -/
theorem blocks2 (c : Dev nD) (t : Fin cfg0.N) (hf : (cfg0.win 2).flush t = true) :
    ((cfg0.win 2).blk t).view.read (Elt F) ((dats m 0 c).arrAt 2 cfg0.N) = (dats m 0 c).flushed 2 t :=
  (dats m 0 c).read_blk_arrAt_eq_flushed 2 disjoint2 cfg0.N t t.isLt hf

/-- An index that no flushing point's block covers keeps output window 2's array contents at region entry. -/
theorem entry2 (c : Dev nD) (i : S14336x2048.Idx) (h : ∀ t : Fin cfg0.N, (cfg0.win 2).flush t = true → i ∉ ((cfg0.win 2).blk t).view.set) :
    (dats m 0 c).arrAt 2 cfg0.N i = V m c (Pipeline.arrRef spec0 2) i := by
  rw [(dats m 0 c).arrAt_apply_of_forall_not_mem 2 cfg0.N i (fun t _ hf => h t hf), A_eq]

/-- WHAT POINT `t` WRITES BACK to output window 3's array: the run's contents for that window after the body (`Gen.outsAt0`: its component 1), read through the window's block. -/
theorem flushed3 (c : Dev nD) (t : Fin cfg0.N) :
    (dats m 0 c).flushed 3 t = (cfg0.win 3).cut (grid0.coords t) ((outsAt0 m c t).2.1) := by
  show (cfg0.win 3).cut (grid0.coords t) ((dats m 0 c).after 3 t) = _
  rw [after0_3]

/-- … so at a point where case A runs, what its write-back would write is that case's NAMED TERM for the window (`Gen.out0_A_3`: the pieces
    its run found, read back) at the point's memrefs and input blocks, and for an output the case reads back what the point before left (`Gen.outsAt0` at `t - 1`) — the kernel's one case, `Gen.outsAt0` by definition. -/
theorem flushed3_A (c : Dev nD) (t : Fin cfg0.N) :
    (dats m 0 c).flushed 3 t = (cfg0.win 3).cut (grid0.coords t) (out0_A_3 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) (iblk m c 0 t) (iblk m c 1 t)) := by
  simp only [flushed3, outsAt0]

/-- The index map sends distinct grid points to distinct block indices (decided over the 28 points). -/
theorem idx_inj3 : ∀ t t' : Fin cfg0.N, win0_3.index t = win0_3.index t' → t = t' :=
  (by decide +kernel : ∀ t t' : Fin grid0.N, win0_3.index t = win0_3.index t' → t = t')

/-- So two flushing points' blocks share no array index (Lib/Pipeline/Cells.lean `Window.disjoint_blk`). -/
theorem disjoint3 : ∀ t t' : Fin cfg0.N, (cfg0.win 3).flush t = true → (cfg0.win 3).flush t' = true → t ≠ t' →
    Disjoint ((cfg0.win 3).blk t).view.set ((cfg0.win 3).blk t').view.set :=
  fun t t' _ _ hne => (cfg0.win 3).disjoint_blk fun h => hne (idx_inj3 t t' h)

/-- BLOCK `t` OF THE FINAL ARRAY, read back through the window, is what point `t` wrote back (`flushed3`), for every
    point that writes back: no other point's block meets it. -/
theorem blocks3 (c : Dev nD) (t : Fin cfg0.N) (hf : (cfg0.win 3).flush t = true) :
    ((cfg0.win 3).blk t).view.read (Elt F) ((dats m 0 c).arrAt 3 cfg0.N) = (dats m 0 c).flushed 3 t :=
  (dats m 0 c).read_blk_arrAt_eq_flushed 3 disjoint3 cfg0.N t t.isLt hf

/-- An index that no flushing point's block covers keeps output window 3's array contents at region entry. -/
theorem entry3 (c : Dev nD) (i : S14336x128.Idx) (h : ∀ t : Fin cfg0.N, (cfg0.win 3).flush t = true → i ∉ ((cfg0.win 3).blk t).view.set) :
    (dats m 0 c).arrAt 3 cfg0.N i = V m c (Pipeline.arrRef spec0 3) i := by
  rw [(dats m 0 c).arrAt_apply_of_forall_not_mem 3 cfg0.N i (fun t _ hf => h t hf), A_eq]

/-- WHAT POINT `t` WRITES BACK to output window 4's array: the run's contents for that window after the body (`Gen.outsAt0`: its component 2), read through the window's block. -/
theorem flushed4 (c : Dev nD) (t : Fin cfg0.N) :
    (dats m 0 c).flushed 4 t = (cfg0.win 4).cut (grid0.coords t) ((outsAt0 m c t).2.2) := by
  show (cfg0.win 4).cut (grid0.coords t) ((dats m 0 c).after 4 t) = _
  rw [after0_4]

/-- … so at a point where case A runs, what its write-back would write is that case's NAMED TERM for the window (`Gen.out0_A_4`: the pieces
    its run found, read back) at the point's memrefs and input blocks, and for an output the case reads back what the point before left (`Gen.outsAt0` at `t - 1`) — the kernel's one case, `Gen.outsAt0` by definition. -/
theorem flushed4_A (c : Dev nD) (t : Fin cfg0.N) :
    (dats m 0 c).flushed 4 t = (cfg0.win 4).cut (grid0.coords t) (out0_A_4 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) (iblk m c 0 t) (iblk m c 1 t)) := by
  simp only [flushed4, outsAt0]

/-- The index map sends distinct grid points to distinct block indices (decided over the 28 points). -/
theorem idx_inj4 : ∀ t t' : Fin cfg0.N, win0_4.index t = win0_4.index t' → t = t' :=
  (by decide +kernel : ∀ t t' : Fin grid0.N, win0_4.index t = win0_4.index t' → t = t')

/-- So two flushing points' blocks share no array index (Lib/Pipeline/Cells.lean `Window.disjoint_blk`). -/
theorem disjoint4 : ∀ t t' : Fin cfg0.N, (cfg0.win 4).flush t = true → (cfg0.win 4).flush t' = true → t ≠ t' →
    Disjoint ((cfg0.win 4).blk t).view.set ((cfg0.win 4).blk t').view.set :=
  fun t t' _ _ hne => (cfg0.win 4).disjoint_blk fun h => hne (idx_inj4 t t' h)

/-- BLOCK `t` OF THE FINAL ARRAY, read back through the window, is what point `t` wrote back (`flushed4`), for every
    point that writes back: no other point's block meets it. -/
theorem blocks4 (c : Dev nD) (t : Fin cfg0.N) (hf : (cfg0.win 4).flush t = true) :
    ((cfg0.win 4).blk t).view.read (Elt F) ((dats m 0 c).arrAt 4 cfg0.N) = (dats m 0 c).flushed 4 t :=
  (dats m 0 c).read_blk_arrAt_eq_flushed 4 disjoint4 cfg0.N t t.isLt hf

/-- An index that no flushing point's block covers keeps output window 4's array contents at region entry. -/
theorem entry4 (c : Dev nD) (i : S28x4x128.Idx) (h : ∀ t : Fin cfg0.N, (cfg0.win 4).flush t = true → i ∉ ((cfg0.win 4).blk t).view.set) :
    (dats m 0 c).arrAt 4 cfg0.N i = V m c (Pipeline.arrRef spec0 4) i := by
  rw [(dats m 0 c).arrAt_apply_of_forall_not_mem 4 cfg0.N i (fun t _ hf => h t hf), A_eq]

/-- After the frame run, output window 2's array is `(dats m 0 c).arrAt 2 N`. -/
theorem post2 (r : PUnit × MemSt nD τ sig (Elt F)) (h : Pipeline.FramePost cfgs (dats m) 0 (V m) r) (c : Dev nD) :
    r.2.mem ((c : Thread nD τ).loc main_v35_0) = (dats m 0 c).arrAt 2 cfg0.N :=
  (h c).1 2

/-- After the frame run, output window 3's array is `(dats m 0 c).arrAt 3 N`. -/
theorem post3 (r : PUnit × MemSt nD τ sig (Elt F)) (h : Pipeline.FramePost cfgs (dats m) 0 (V m) r) (c : Dev nD) :
    r.2.mem ((c : Thread nD τ).loc main_v35_1) = (dats m 0 c).arrAt 3 cfg0.N :=
  (h c).1 3

/-- After the frame run, output window 4's array is `(dats m 0 c).arrAt 4 N`. -/
theorem post4 (r : PUnit × MemSt nD τ sig (Elt F)) (h : Pipeline.FramePost cfgs (dats m) 0 (V m) r) (c : Dev nD) :
    r.2.mem ((c : Thread nD τ).loc main_v35_2) = (dats m 0 c).arrAt 4 cfg0.N :=
  (h c).1 4

/-- After the frame run, argument `main_arg0` is as launched: input window 0 stages it and never writes it back. -/
theorem kept_main_arg0 (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).1 0).trans (((dats m 0 c).arrAt_in 0 rfl _).trans ((A_eq m c 0).trans (V_main_arg0 m c)))

/-- The frame run with each output array after the run NAMED — `(dats m 0 c).arrAt w N`, which `blocks_w` / `entry_w` read —,
    the arguments unchanged. -/
theorem run_blocks : θ_run defs (onTc (τ := τ) (main (F := F))) ⟨m, fun _ => 0, ρ⟩ fun r => ∀ c : Dev nD,
      r.2.mem ((c : Thread nD τ).loc main_v35_0) = (dats m 0 c).arrAt 2 cfg0.N
      ∧ r.2.mem ((c : Thread nD τ).loc main_v35_1) = (dats m 0 c).arrAt 3 cfg0.N
      ∧ r.2.mem ((c : Thread nD τ).loc main_v35_2) = (dats m 0 c).arrAt 4 cfg0.N
      ∧ r.2.mem ((c : Thread nD τ).loc main_arg0) = m ((c : Thread nD τ).loc main_arg0) :=
  (θ_run defs _ _).mono (fun r h c => ⟨post2 m r h c,
      post3 m r h c,
      post4 m r h c,
      kept_main_arg0 m r h c⟩)
    (run_main m ρ)

end Cert.KernelIdeal.Value

end
-- ==== Proof.Model.lean ====
/- One set of 512 columns of the kernel's first loop: the four planes it forms from four 32×128 loads, read at an index. -/
module

public import proofs.«01_k».proof.Proof.Gen.KernelIdeal.Loops
public import Idealize.ShloMosaic.Lib.Pointwise

@[expose] public section

set_option maxRecDepth 16384

noncomputable section

namespace Cert.KernelIdeal.Hand

open Cert.KernelIdeal Cert.KernelIdeal.Gen Idealize.ShloMosaic Idealize.ShloMosaic.TcCoe

/-- A 32×128 block of bfloat16 values. -/
abbrev B := FVec Ideal S32x128 .bf16
abbrev H := FVec Ideal S16x128 .bf16

def quarter : IVec S16x128 32 := andi (iota .tc S16x128 32 [1] iota_S16x128_d1_w32) (broadcast S16x128 3#32)
def oddM : IVec S16x128 1 := cmpi .eq (andi quarter (broadcast S16x128 1#32)) (broadcast S16x128 1#32)
def upM : IVec S16x128 1 := cmpi .eq (andi quarter (broadcast S16x128 2#32)) (broadcast S16x128 2#32)
def half (p : Fin 2) (x : B) : H := rowsOfParity p S16x128 x bitcasts_S32x128_w16_S16x128_w32
def rot (n : BitVec 32) (x : H) : H := dynamicRotate 1 n none x rotates_S16x128_d1
def ev0 (p : Fin 2) (x0 x1 x2 x3 : B) : H := select upM (rot 2#32 (half p x2)) (half p x0)
def ev1 (p : Fin 2) (x0 x1 x2 x3 : B) : H := select upM (rot 3#32 (half p x3)) (rot 1#32 (half p x1))
def ev2 (p : Fin 2) (x0 x1 x2 x3 : B) : H := select upM (half p x0) (rot 2#32 (half p x2))
def ev3 (p : Fin 2) (x0 x1 x2 x3 : B) : H := select upM (rot 1#32 (half p x1)) (rot 3#32 (half p x3))
def join (lo hi : H) : B := interleaveRows S32x128 lo hi bitcasts_S32x128_w16_S16x128_w32
def pl0 (x0 x1 x2 x3 : B) : B :=
  join (select oddM (ev1 0 x0 x1 x2 x3) (ev0 0 x0 x1 x2 x3)) (select oddM (ev1 1 x0 x1 x2 x3) (ev0 1 x0 x1 x2 x3))
def pl1 (x0 x1 x2 x3 : B) : B :=
  join (rot 127#32 (select oddM (ev0 0 x0 x1 x2 x3) (ev3 0 x0 x1 x2 x3))) (rot 127#32 (select oddM (ev0 1 x0 x1 x2 x3) (ev3 1 x0 x1 x2 x3)))
def pl2 (x0 x1 x2 x3 : B) : B :=
  join (rot 126#32 (select oddM (ev3 0 x0 x1 x2 x3) (ev2 0 x0 x1 x2 x3))) (rot 126#32 (select oddM (ev3 1 x0 x1 x2 x3) (ev2 1 x0 x1 x2 x3)))
def pl3 (x0 x1 x2 x3 : B) : B :=
  join (rot 125#32 (select oddM (ev2 0 x0 x1 x2 x3) (ev1 0 x0 x1 x2 x3))) (rot 125#32 (select oddM (ev2 1 x0 x1 x2 x3) (ev1 1 x0 x1 x2 x3)))

/-- Which of four things lane `l` takes: the one at position `l mod 4`. -/
def pick4 {α : Type} (l : Nat) (a b c d : α) : α :=
  if l % 4 = 0 then a else if l % 4 = 1 then b else if l % 4 = 2 then c else d

theorem oddM_lane : ∀ l : Fin 128, IntOp.cmpi .eq (IntOp.andi (IntOp.andi (BitVec.ofNat 32 l.val) 3#32) 1#32) 1#32 = BitVec.ofNat 1 (l.val % 2) := by decide +kernel
theorem upM_lane : ∀ l : Fin 128, IntOp.cmpi .eq (IntOp.andi (IntOp.andi (BitVec.ofNat 32 l.val) 3#32) 2#32) 2#32 = BitVec.ofNat 1 (l.val / 2 % 2) := by decide +kernel

theorem oddM_apply (j : S16x128.Idx) : oddM j = BitVec.ofNat 1 ((j 1).val % 2) := by
  unfold oddM quarter; pointwise; exact oddM_lane (j 1)
theorem upM_apply (j : S16x128.Idx) : upM j = BitVec.ofNat 1 ((j 1).val / 2 % 2) := by
  unfold upM quarter; pointwise; exact upM_lane (j 1)
theorem half_apply (p : Fin 2) (x : B) (j : S16x128.Idx) : half p x j = x (ix2 ⟨2 * (j 0).val + p.val, by have := (j 0).isLt; have := p.isLt; simp at *; omega⟩ (j 1)) := by
  unfold half; pointwise
theorem rot_apply1 (x : H) (j : S16x128.Idx) : rot 1#32 x j = x (ix2 (j 0) ⟨((j 1).val + 128 - 1) % 128, Nat.mod_lt _ (by decide)⟩) := by
  unfold rot; pointwise
theorem rot_apply2 (x : H) (j : S16x128.Idx) : rot 2#32 x j = x (ix2 (j 0) ⟨((j 1).val + 128 - 2) % 128, Nat.mod_lt _ (by decide)⟩) := by
  unfold rot; pointwise
theorem rot_apply3 (x : H) (j : S16x128.Idx) : rot 3#32 x j = x (ix2 (j 0) ⟨((j 1).val + 128 - 3) % 128, Nat.mod_lt _ (by decide)⟩) := by
  unfold rot; pointwise
theorem rot_apply127 (x : H) (j : S16x128.Idx) : rot 127#32 x j = x (ix2 (j 0) ⟨((j 1).val + 128 - 127) % 128, Nat.mod_lt _ (by decide)⟩) := by
  unfold rot; pointwise
theorem rot_apply126 (x : H) (j : S16x128.Idx) : rot 126#32 x j = x (ix2 (j 0) ⟨((j 1).val + 128 - 126) % 128, Nat.mod_lt _ (by decide)⟩) := by
  unfold rot; pointwise
theorem rot_apply125 (x : H) (j : S16x128.Idx) : rot 125#32 x j = x (ix2 (j 0) ⟨((j 1).val + 128 - 125) % 128, Nat.mod_lt _ (by decide)⟩) := by
  unfold rot; pointwise
theorem join_apply (lo hi : H) (a : Fin 32) (l : Fin 128) : join lo hi (ix2 a l) = if a.val % 2 = 0 then lo (ix2 ⟨a.val / 2, by omega⟩ l) else hi (ix2 ⟨a.val / 2, by omega⟩ l) := by
  unfold join; pointwise

theorem sel1 (n : Nat) {α : Type} (a b : α) : Scalar.select (BitVec.ofNat 1 (n % 2)) a b = if n % 2 = 1 then a else b := by
  rcases Nat.mod_two_eq_zero_or_one n with h | h <;> rw [h] <;> rfl

theorem ix2_eq {n0 n1 : Nat} {a a' : Fin n0} {b b' : Fin n1} (ha : a.val = a'.val) (hb : b.val = b'.val) : ix2 a b = ix2 a' b' := by
  rw [Fin.ext ha, Fin.ext hb]

theorem pl0_apply (x0 x1 x2 x3 : B) (a : Fin 32) (l : Fin 128) :
    pl0 x0 x1 x2 x3 (ix2 a l) = pick4 l.val x0 x1 x2 x3 (ix2 a ⟨l.val / 4 * 4 + 0, by omega⟩) := by
  have hl := l.isLt
  unfold pl0 pick4
  rw [join_apply]
  simp only [select, ev0, ev1, ev2, ev3, half_apply, rot_apply1, rot_apply2, rot_apply3, rot_apply125, rot_apply126, rot_apply127, oddM_apply, upM_apply, sel1, ix2_0, ix2_1]
  split_ifs <;> first
    | omega
    | exact congrArg _ (ix2_eq (by simp only [Fin.val_zero, Fin.val_one]; omega) (by simp only []; omega))
    | exact congrArg _ (ix2_eq (by omega) (by omega))
    | skip

theorem pl1_apply (x0 x1 x2 x3 : B) (a : Fin 32) (l : Fin 128) :
    pl1 x0 x1 x2 x3 (ix2 a l) = pick4 l.val x0 x1 x2 x3 (ix2 a ⟨l.val / 4 * 4 + 1, by omega⟩) := by
  have hl := l.isLt
  unfold pl1 pick4
  rw [join_apply]
  simp only [select, ev0, ev1, ev2, ev3, half_apply, rot_apply1, rot_apply2, rot_apply3, rot_apply125, rot_apply126, rot_apply127, oddM_apply, upM_apply, sel1, ix2_0, ix2_1]
  split_ifs <;> first
    | omega
    | exact congrArg _ (ix2_eq (by simp only [Fin.val_zero, Fin.val_one]; omega) (by simp only []; omega))
    | exact congrArg _ (ix2_eq (by omega) (by omega))
    | skip

theorem pl2_apply (x0 x1 x2 x3 : B) (a : Fin 32) (l : Fin 128) :
    pl2 x0 x1 x2 x3 (ix2 a l) = pick4 l.val x0 x1 x2 x3 (ix2 a ⟨l.val / 4 * 4 + 2, by omega⟩) := by
  have hl := l.isLt
  unfold pl2 pick4
  rw [join_apply]
  simp only [select, ev0, ev1, ev2, ev3, half_apply, rot_apply1, rot_apply2, rot_apply3, rot_apply125, rot_apply126, rot_apply127, oddM_apply, upM_apply, sel1, ix2_0, ix2_1]
  split_ifs <;> first
    | omega
    | exact congrArg _ (ix2_eq (by simp only [Fin.val_zero, Fin.val_one]; omega) (by simp only []; omega))
    | exact congrArg _ (ix2_eq (by omega) (by omega))
    | skip

theorem pl3_apply (x0 x1 x2 x3 : B) (a : Fin 32) (l : Fin 128) :
    pl3 x0 x1 x2 x3 (ix2 a l) = pick4 l.val x0 x1 x2 x3 (ix2 a ⟨l.val / 4 * 4 + 3, by omega⟩) := by
  have hl := l.isLt
  unfold pl3 pick4
  rw [join_apply]
  simp only [select, ev0, ev1, ev2, ev3, half_apply, rot_apply1, rot_apply2, rot_apply3, rot_apply125, rot_apply126, rot_apply127, oddM_apply, upM_apply, sel1, ix2_0, ix2_1]
  split_ifs <;> first
    | omega
    | exact congrArg _ (ix2_eq (by simp only [Fin.val_zero, Fin.val_one]; omega) (by simp only []; omega))
    | exact congrArg _ (ix2_eq (by omega) (by omega))
    | skip

/-! ### The selection on blocks -/

abbrev M := IVec S32x128 1
def both01B (a b c d : B) : M := cmpf .oge (minimumf (absf a) (absf b)) (maximumf (absf c) (absf d))
def both23B (a b c d : B) : M := cmpf .ogt (minimumf (absf c) (absf d)) (maximumf (absf a) (absf b))
def firstB (a b c d : B) : M := ori (cmpf .oge (absf a) (absf b)) (both01B a b c d)
def thirdB (a b c d : B) : M := andi (cmpf .oge (absf c) (absf d)) (xori (both23B a b c d) (constantI S32x128 1 1#1))
def v0B (a b c d : B) : B := select (both23B a b c d) c (select (firstB a b c d) a b)
def v1B (a b c d : B) : B := select (both01B a b c d) b (select (thirdB a b c d) c d)
/-- The constant block of a bfloat16 word. -/
def bfB (w : BitVec 16) : B := broadcast S32x128 (Scalar.ofBits .bf16 w)
def codeB (a b c d : B) : B :=
  addf (select (both23B a b c d) (bfB 0x4000#16) (select (firstB a b c d) (bfB 0x0000#16) (bfB 0x3F80#16)))
    (select (both01B a b c d) (bfB 0x4080#16) (select (thirdB a b c d) (bfB 0x4100#16) (bfB 0x4140#16)))
def hiB (a b c d : B) : B := maximumf (maximumf (absf a) (absf b)) (maximumf (absf c) (absf d))
/-- Any of the above on the planes of four loads. -/
def onPl (f : B → B → B → B → B) (u0 u1 u2 u3 : B) : B := f (pl0 u0 u1 u2 u3) (pl1 u0 u1 u2 u3) (pl2 u0 u1 u2 u3) (pl3 u0 u1 u2 u3)
def castB (x : B) : B := shapeCast S32x128 x shapeCasts_S32x128_S32x128

end Cert.KernelIdeal.Hand
end
-- ==== Proof.Trip1.lean ====
/- What one trip of the first loop stores, block by block: the generated pieces are the selection on the planes of four loads. -/
module

public import proofs.«01_k».proof.Proof.Model
public import Idealize.ShloMosaic.Lib.Tactic

@[expose] public section

set_option maxRecDepth 65536

noncomputable section

namespace Cert.KernelIdeal.Hand

open Cert.KernelIdeal Cert.KernelIdeal.Gen Idealize.ShloMosaic Idealize.ShloMosaic.TcCoe Idealize.ShloMosaic.Tactic

variable (𝒱 : Variants) (c : Dev nD) (bd : Option 𝒱.V) (i : grid0.Coords) (arg1 : Memref sig .tc .vmem S512x4096 .bf16) (harg1 : arg1.IsWhole) (arg2 : Memref sig .tc .vmem S1024x256 .bf16) (harg2 : arg2.IsWhole) (arg3 : Memref sig .tc .vmem S512x2048 .fp8e4m3) (harg3 : arg3.IsWhole) (arg4 : Memref sig .tc .vmem S512x128 .i32) (harg4 : arg4.IsWhole) (arg5 : Memref sig .tc .vmem S1x4x128 .f32) (harg5 : arg5.IsWhole) (arg6 : Memref sig .tc .vmem S512x1024 .bf16) (harg6 : arg6.IsWhole) (arg7 : Memref sig .tc .vmem S512x1024 .bf16) (harg7 : arg7.IsWhole) (arg8 : Memref sig .tc .vmem S512x1024 .bf16) (harg8 : arg8.IsWhole) (arg9 : Memref sig .tc .vmem S512x128 .bf16) (harg9 : arg9.IsWhole) (X : BufTy.Contents (Elt Ideal) arg1.view.ty) (k : Fin k0_t1_loop.trips)

abbrev ld0_0 : B := View.readAt (Elt Ideal) arg1.view (Rect.unit (s := S512x4096) (k0_off1 k) S32x128.size (k0_off1_inb k)).toLoadRect X
abbrev ld0_1 : B := View.readAt (Elt Ideal) arg1.view (Rect.unit (s := S512x4096) (k0_off2 k) S32x128.size (k0_off2_inb k)).toLoadRect X
abbrev ld0_2 : B := View.readAt (Elt Ideal) arg1.view (Rect.unit (s := S512x4096) (k0_off3 k) S32x128.size (k0_off3_inb k)).toLoadRect X
abbrev ld0_3 : B := View.readAt (Elt Ideal) arg1.view (Rect.unit (s := S512x4096) (k0_off4 k) S32x128.size (k0_off4_inb k)).toLoadRect X
abbrev ld1_0 : B := View.readAt (Elt Ideal) arg1.view (Rect.unit (s := S512x4096) (k0_off6 k) S32x128.size (k0_off6_inb k)).toLoadRect X
abbrev ld1_1 : B := View.readAt (Elt Ideal) arg1.view (Rect.unit (s := S512x4096) (k0_off7 k) S32x128.size (k0_off7_inb k)).toLoadRect X
abbrev ld1_2 : B := View.readAt (Elt Ideal) arg1.view (Rect.unit (s := S512x4096) (k0_off8 k) S32x128.size (k0_off8_inb k)).toLoadRect X
abbrev ld1_3 : B := View.readAt (Elt Ideal) arg1.view (Rect.unit (s := S512x4096) (k0_off9 k) S32x128.size (k0_off9_inb k)).toLoadRect X
abbrev ld2_0 : B := View.readAt (Elt Ideal) arg1.view (Rect.unit (s := S512x4096) (k0_off11 k) S32x128.size (k0_off11_inb k)).toLoadRect X
abbrev ld2_1 : B := View.readAt (Elt Ideal) arg1.view (Rect.unit (s := S512x4096) (k0_off12 k) S32x128.size (k0_off12_inb k)).toLoadRect X
abbrev ld2_2 : B := View.readAt (Elt Ideal) arg1.view (Rect.unit (s := S512x4096) (k0_off13 k) S32x128.size (k0_off13_inb k)).toLoadRect X
abbrev ld2_3 : B := View.readAt (Elt Ideal) arg1.view (Rect.unit (s := S512x4096) (k0_off14 k) S32x128.size (k0_off14_inb k)).toLoadRect X
abbrev ld3_0 : B := View.readAt (Elt Ideal) arg1.view (Rect.unit (s := S512x4096) (k0_off16 k) S32x128.size (k0_off16_inb k)).toLoadRect X
abbrev ld3_1 : B := View.readAt (Elt Ideal) arg1.view (Rect.unit (s := S512x4096) (k0_off17 k) S32x128.size (k0_off17_inb k)).toLoadRect X
abbrev ld3_2 : B := View.readAt (Elt Ideal) arg1.view (Rect.unit (s := S512x4096) (k0_off18 k) S32x128.size (k0_off18_inb k)).toLoadRect X
abbrev ld3_3 : B := View.readAt (Elt Ideal) arg1.view (Rect.unit (s := S512x4096) (k0_off19 k) S32x128.size (k0_off19_inb k)).toLoadRect X
abbrev ld4_0 : B := View.readAt (Elt Ideal) arg1.view (Rect.unit (s := S512x4096) (k0_off21 k) S32x128.size (k0_off21_inb k)).toLoadRect X
abbrev ld4_1 : B := View.readAt (Elt Ideal) arg1.view (Rect.unit (s := S512x4096) (k0_off22 k) S32x128.size (k0_off22_inb k)).toLoadRect X
abbrev ld4_2 : B := View.readAt (Elt Ideal) arg1.view (Rect.unit (s := S512x4096) (k0_off23 k) S32x128.size (k0_off23_inb k)).toLoadRect X
abbrev ld4_3 : B := View.readAt (Elt Ideal) arg1.view (Rect.unit (s := S512x4096) (k0_off24 k) S32x128.size (k0_off24_inb k)).toLoadRect X
abbrev ld5_0 : B := View.readAt (Elt Ideal) arg1.view (Rect.unit (s := S512x4096) (k0_off26 k) S32x128.size (k0_off26_inb k)).toLoadRect X
abbrev ld5_1 : B := View.readAt (Elt Ideal) arg1.view (Rect.unit (s := S512x4096) (k0_off27 k) S32x128.size (k0_off27_inb k)).toLoadRect X
abbrev ld5_2 : B := View.readAt (Elt Ideal) arg1.view (Rect.unit (s := S512x4096) (k0_off28 k) S32x128.size (k0_off28_inb k)).toLoadRect X
abbrev ld5_3 : B := View.readAt (Elt Ideal) arg1.view (Rect.unit (s := S512x4096) (k0_off29 k) S32x128.size (k0_off29_inb k)).toLoadRect X
abbrev ld6_0 : B := View.readAt (Elt Ideal) arg1.view (Rect.unit (s := S512x4096) (k0_off31 k) S32x128.size (k0_off31_inb k)).toLoadRect X
abbrev ld6_1 : B := View.readAt (Elt Ideal) arg1.view (Rect.unit (s := S512x4096) (k0_off32 k) S32x128.size (k0_off32_inb k)).toLoadRect X
abbrev ld6_2 : B := View.readAt (Elt Ideal) arg1.view (Rect.unit (s := S512x4096) (k0_off33 k) S32x128.size (k0_off33_inb k)).toLoadRect X
abbrev ld6_3 : B := View.readAt (Elt Ideal) arg1.view (Rect.unit (s := S512x4096) (k0_off34 k) S32x128.size (k0_off34_inb k)).toLoadRect X
abbrev ld7_0 : B := View.readAt (Elt Ideal) arg1.view (Rect.unit (s := S512x4096) (k0_off36 k) S32x128.size (k0_off36_inb k)).toLoadRect X
abbrev ld7_1 : B := View.readAt (Elt Ideal) arg1.view (Rect.unit (s := S512x4096) (k0_off37 k) S32x128.size (k0_off37_inb k)).toLoadRect X
abbrev ld7_2 : B := View.readAt (Elt Ideal) arg1.view (Rect.unit (s := S512x4096) (k0_off38 k) S32x128.size (k0_off38_inb k)).toLoadRect X
abbrev ld7_3 : B := View.readAt (Elt Ideal) arg1.view (Rect.unit (s := S512x4096) (k0_off39 k) S32x128.size (k0_off39_inb k)).toLoadRect X

theorem trip6 : (trip_k0_t1 (F := Ideal) 𝒱 c bd i arg1 harg1 arg2 harg2 arg3 harg3 arg4 harg4 arg5 harg5 arg6 harg6 arg7 harg7 arg8 harg8 arg9 harg9 X k).1 =
    [⟨Rect.unit (s := S512x1024) (k0_off40 k) S32x128.size (k0_off40_inb k), castB (onPl v0B (ld7_0 arg1 X k) (ld7_1 arg1 X k) (ld7_2 arg1 X k) (ld7_3 arg1 X k))⟩,
     ⟨Rect.unit (s := S512x1024) (k0_off35 k) S32x128.size (k0_off35_inb k), castB (onPl v0B (ld6_0 arg1 X k) (ld6_1 arg1 X k) (ld6_2 arg1 X k) (ld6_3 arg1 X k))⟩,
     ⟨Rect.unit (s := S512x1024) (k0_off30 k) S32x128.size (k0_off30_inb k), castB (onPl v0B (ld5_0 arg1 X k) (ld5_1 arg1 X k) (ld5_2 arg1 X k) (ld5_3 arg1 X k))⟩,
     ⟨Rect.unit (s := S512x1024) (k0_off25 k) S32x128.size (k0_off25_inb k), castB (onPl v0B (ld4_0 arg1 X k) (ld4_1 arg1 X k) (ld4_2 arg1 X k) (ld4_3 arg1 X k))⟩,
     ⟨Rect.unit (s := S512x1024) (k0_off20 k) S32x128.size (k0_off20_inb k), castB (onPl v0B (ld3_0 arg1 X k) (ld3_1 arg1 X k) (ld3_2 arg1 X k) (ld3_3 arg1 X k))⟩,
     ⟨Rect.unit (s := S512x1024) (k0_off15 k) S32x128.size (k0_off15_inb k), castB (onPl v0B (ld2_0 arg1 X k) (ld2_1 arg1 X k) (ld2_2 arg1 X k) (ld2_3 arg1 X k))⟩,
     ⟨Rect.unit (s := S512x1024) (k0_off10 k) S32x128.size (k0_off10_inb k), castB (onPl v0B (ld1_0 arg1 X k) (ld1_1 arg1 X k) (ld1_2 arg1 X k) (ld1_3 arg1 X k))⟩,
     ⟨Rect.unit (s := S512x1024) (k0_off5 k) S32x128.size (k0_off5_inb k), castB (onPl v0B (ld0_0 arg1 X k) (ld0_1 arg1 X k) (ld0_2 arg1 X k) (ld0_3 arg1 X k))⟩] := by
  sl_kernel_rfl

theorem trip7 : (trip_k0_t1 (F := Ideal) 𝒱 c bd i arg1 harg1 arg2 harg2 arg3 harg3 arg4 harg4 arg5 harg5 arg6 harg6 arg7 harg7 arg8 harg8 arg9 harg9 X k).2.1 =
    [⟨Rect.unit (s := S512x1024) (k0_off40 k) S32x128.size (k0_off40_inb k), castB (onPl v1B (ld7_0 arg1 X k) (ld7_1 arg1 X k) (ld7_2 arg1 X k) (ld7_3 arg1 X k))⟩,
     ⟨Rect.unit (s := S512x1024) (k0_off35 k) S32x128.size (k0_off35_inb k), castB (onPl v1B (ld6_0 arg1 X k) (ld6_1 arg1 X k) (ld6_2 arg1 X k) (ld6_3 arg1 X k))⟩,
     ⟨Rect.unit (s := S512x1024) (k0_off30 k) S32x128.size (k0_off30_inb k), castB (onPl v1B (ld5_0 arg1 X k) (ld5_1 arg1 X k) (ld5_2 arg1 X k) (ld5_3 arg1 X k))⟩,
     ⟨Rect.unit (s := S512x1024) (k0_off25 k) S32x128.size (k0_off25_inb k), castB (onPl v1B (ld4_0 arg1 X k) (ld4_1 arg1 X k) (ld4_2 arg1 X k) (ld4_3 arg1 X k))⟩,
     ⟨Rect.unit (s := S512x1024) (k0_off20 k) S32x128.size (k0_off20_inb k), castB (onPl v1B (ld3_0 arg1 X k) (ld3_1 arg1 X k) (ld3_2 arg1 X k) (ld3_3 arg1 X k))⟩,
     ⟨Rect.unit (s := S512x1024) (k0_off15 k) S32x128.size (k0_off15_inb k), castB (onPl v1B (ld2_0 arg1 X k) (ld2_1 arg1 X k) (ld2_2 arg1 X k) (ld2_3 arg1 X k))⟩,
     ⟨Rect.unit (s := S512x1024) (k0_off10 k) S32x128.size (k0_off10_inb k), castB (onPl v1B (ld1_0 arg1 X k) (ld1_1 arg1 X k) (ld1_2 arg1 X k) (ld1_3 arg1 X k))⟩,
     ⟨Rect.unit (s := S512x1024) (k0_off5 k) S32x128.size (k0_off5_inb k), castB (onPl v1B (ld0_0 arg1 X k) (ld0_1 arg1 X k) (ld0_2 arg1 X k) (ld0_3 arg1 X k))⟩] := by
  sl_kernel_rfl

theorem trip8 : (trip_k0_t1 (F := Ideal) 𝒱 c bd i arg1 harg1 arg2 harg2 arg3 harg3 arg4 harg4 arg5 harg5 arg6 harg6 arg7 harg7 arg8 harg8 arg9 harg9 X k).2.2.1 =
    [⟨Rect.unit (s := S512x1024) (k0_off40 k) S32x128.size (k0_off40_inb k), castB (onPl codeB (ld7_0 arg1 X k) (ld7_1 arg1 X k) (ld7_2 arg1 X k) (ld7_3 arg1 X k))⟩,
     ⟨Rect.unit (s := S512x1024) (k0_off35 k) S32x128.size (k0_off35_inb k), castB (onPl codeB (ld6_0 arg1 X k) (ld6_1 arg1 X k) (ld6_2 arg1 X k) (ld6_3 arg1 X k))⟩,
     ⟨Rect.unit (s := S512x1024) (k0_off30 k) S32x128.size (k0_off30_inb k), castB (onPl codeB (ld5_0 arg1 X k) (ld5_1 arg1 X k) (ld5_2 arg1 X k) (ld5_3 arg1 X k))⟩,
     ⟨Rect.unit (s := S512x1024) (k0_off25 k) S32x128.size (k0_off25_inb k), castB (onPl codeB (ld4_0 arg1 X k) (ld4_1 arg1 X k) (ld4_2 arg1 X k) (ld4_3 arg1 X k))⟩,
     ⟨Rect.unit (s := S512x1024) (k0_off20 k) S32x128.size (k0_off20_inb k), castB (onPl codeB (ld3_0 arg1 X k) (ld3_1 arg1 X k) (ld3_2 arg1 X k) (ld3_3 arg1 X k))⟩,
     ⟨Rect.unit (s := S512x1024) (k0_off15 k) S32x128.size (k0_off15_inb k), castB (onPl codeB (ld2_0 arg1 X k) (ld2_1 arg1 X k) (ld2_2 arg1 X k) (ld2_3 arg1 X k))⟩,
     ⟨Rect.unit (s := S512x1024) (k0_off10 k) S32x128.size (k0_off10_inb k), castB (onPl codeB (ld1_0 arg1 X k) (ld1_1 arg1 X k) (ld1_2 arg1 X k) (ld1_3 arg1 X k))⟩,
     ⟨Rect.unit (s := S512x1024) (k0_off5 k) S32x128.size (k0_off5_inb k), castB (onPl codeB (ld0_0 arg1 X k) (ld0_1 arg1 X k) (ld0_2 arg1 X k) (ld0_3 arg1 X k))⟩] := by
  sl_kernel_rfl

theorem trip9 : (trip_k0_t1 (F := Ideal) 𝒱 c bd i arg1 harg1 arg2 harg2 arg3 harg3 arg4 harg4 arg5 harg5 arg6 harg6 arg7 harg7 arg8 harg8 arg9 harg9 X k).2.2.2.1 =
    [⟨Rect.unit (s := S512x128) (k0_off41 k) S32x128.size (k0_off41_inb k), castB (maximumf (maximumf (maximumf (maximumf (maximumf (maximumf (maximumf (maximumf (bfB 0x0000#16) (onPl hiB (ld0_0 arg1 X k) (ld0_1 arg1 X k) (ld0_2 arg1 X k) (ld0_3 arg1 X k))) (onPl hiB (ld1_0 arg1 X k) (ld1_1 arg1 X k) (ld1_2 arg1 X k) (ld1_3 arg1 X k))) (onPl hiB (ld2_0 arg1 X k) (ld2_1 arg1 X k) (ld2_2 arg1 X k) (ld2_3 arg1 X k))) (onPl hiB (ld3_0 arg1 X k) (ld3_1 arg1 X k) (ld3_2 arg1 X k) (ld3_3 arg1 X k))) (onPl hiB (ld4_0 arg1 X k) (ld4_1 arg1 X k) (ld4_2 arg1 X k) (ld4_3 arg1 X k))) (onPl hiB (ld5_0 arg1 X k) (ld5_1 arg1 X k) (ld5_2 arg1 X k) (ld5_3 arg1 X k))) (onPl hiB (ld6_0 arg1 X k) (ld6_1 arg1 X k) (ld6_2 arg1 X k) (ld6_3 arg1 X k))) (onPl hiB (ld7_0 arg1 X k) (ld7_1 arg1 X k) (ld7_2 arg1 X k) (ld7_3 arg1 X k)))⟩] := by
  sl_kernel_rfl

end Cert.KernelIdeal.Hand
end
-- ==== Proof.Scratch.lean ====
/- What the first loop leaves in its four scratch buffers: at every group of four columns the two kept entries and their
   code, and per lane the largest magnitude among the groups that share it. -/
module

public import proofs.«01_k».proof.Proof.Trip1
public import proofs.«01_k».proof.Proof.Cover

@[expose] public section

set_option maxRecDepth 16384

noncomputable section

namespace Cert.KernelIdeal.Hand

open Cert.KernelIdeal Cert.KernelIdeal.Gen Idealize.ShloMosaic Idealize.ShloMosaic.TcCoe Idealize.ShloMosaic.Tactic

/-- The selection on four numbers. -/
def both01 (a b c d : EReal) : BitVec 1 := Ideal.cmp .oge (min (max a (-a)) (max b (-b))) (max (max c (-c)) (max d (-d)))
def both23 (a b c d : EReal) : BitVec 1 := Ideal.cmp .ogt (min (max c (-c)) (max d (-d))) (max (max a (-a)) (max b (-b)))
def firstE (a b c d : EReal) : BitVec 1 := Ideal.cmp .oge (max a (-a)) (max b (-b)) ||| both01 a b c d
def thirdE (a b c d : EReal) : BitVec 1 := Ideal.cmp .oge (max c (-c)) (max d (-d)) &&& (both23 a b c d ^^^ 1#1)
def selE (m : BitVec 1) (x y : EReal) : EReal := Scalar.select m x y
def v0E (a b c d : EReal) : EReal := selE (both23 a b c d) c (selE (firstE a b c d) a b)
def v1E (a b c d : EReal) : EReal := selE (both01 a b c d) b (selE (thirdE a b c d) c d)
def bfE (w : BitVec 16) : EReal := Ideal.ofBits .bf16 w
def codeE (a b c d : EReal) : EReal :=
  selE (both23 a b c d) (bfE 0x4000#16) (selE (firstE a b c d) (bfE 0x0000#16) (bfE 0x3F80#16)) +
    selE (both01 a b c d) (bfE 0x4080#16) (selE (thirdE a b c d) (bfE 0x4100#16) (bfE 0x4140#16))
def hiE (a b c d : EReal) : EReal := max (max (max a (-a)) (max b (-b))) (max (max c (-c)) (max d (-d)))

/-- A block function that acts entry by entry. -/
def Entrywise (f : B → B → B → B → B) (g : EReal → EReal → EReal → EReal → EReal) : Prop :=
  ∀ a b c d j, f a b c d j = g (a j) (b j) (c j) (d j)
theorem v0B_entry : Entrywise v0B v0E := fun _ _ _ _ _ => rfl
theorem v1B_entry : Entrywise v1B v1E := fun _ _ _ _ _ => rfl
theorem codeB_entry : Entrywise codeB codeE := fun _ _ _ _ _ => rfl
theorem hiB_entry : Entrywise hiB hiE := fun _ _ _ _ _ => rfl

/-- The source column of entry `p` of the group kept at scratch column `g`. -/
def srcCol (p g : Nat) : Nat := 512 * (g / 128) + 128 * (g % 4) + g % 128 / 4 * 4 + p
theorem srcCol_lt (p : Fin 4) {g : Nat} (h : g < 1024) : srcCol p.val g < 4096 := by unfold srcCol; omega
abbrev W := Vec Ideal S512x4096 .bf16
def src (x0 : W) (p : Fin 4) (r : Fin 512) (g : Fin 1024) : EReal := x0 (ix2 r ⟨srcCol p.val g.val, srcCol_lt p g.isLt⟩)
/-- An entrywise selection over a whole row block. -/
def onSrc (g : EReal → EReal → EReal → EReal → EReal) (x0 : W) (r : Fin 512) (c : Fin 1024) : EReal :=
  g (src x0 0 r c) (src x0 1 r c) (src x0 2 r c) (src x0 3 r c)

theorem castB_eq (x : B) : castB x = x := by
  funext j; rw [eq_ix2 j]; unfold castB; pointwise

/-- A load of a 32×128 block, read at an index. -/
theorem ld_apply {arg1 : Memref sig .tc .vmem S512x4096 .bf16} (harg1 : arg1.IsWhole) (x0 : W) (n C : Nat) (o : Fin 2 → Nat)
    (h : ∀ a, o a + S32x128.size a ≤ S512x4096.size a) (ho : o = ![32 * n, C]) (a : Fin 32) (l : Fin 128) (hr : 32 * n + a.val < 512) (hc : C + l.val < 4096) :
    View.readAt (Elt Ideal) arg1.view (Rect.unit (s := S512x4096) o S32x128.size h).toLoadRect (harg1.unread x0) (ix2 a l)
      = x0 (ix2 ⟨32 * n + a.val, hr⟩ ⟨C + l.val, hc⟩) := by
  subst ho
  rw [View.readAt_apply, harg1.read_unread]
  refine congrArg x0 (funext fun d => Fin.ext ?_)
  match d with
  | ⟨0, _⟩ => show 32 * n + 1 * a.val = _; simp
  | ⟨1, _⟩ => show C + 1 * l.val = _; simp

/-- One set of columns: a block function on the planes of the set's four loads is the selection at the source columns. -/
theorem set_apply {arg1 : Memref sig .tc .vmem S512x4096 .bf16} (harg1 : arg1.IsWhole) (x0 : W) (n s : Nat) (hn : n < 16) (hs : s < 8)
    {f : B → B → B → B → B} {g : EReal → EReal → EReal → EReal → EReal} (hf : Entrywise f g)
    (o0 o1 o2 o3 : Fin 2 → Nat)
    (h0 : ∀ a, o0 a + S32x128.size a ≤ S512x4096.size a) (h1 : ∀ a, o1 a + S32x128.size a ≤ S512x4096.size a)
    (h2 : ∀ a, o2 a + S32x128.size a ≤ S512x4096.size a) (h3 : ∀ a, o3 a + S32x128.size a ≤ S512x4096.size a)
    (e0 : o0 = ![32 * n, 512 * s]) (e1 : o1 = ![32 * n, 512 * s + 128]) (e2 : o2 = ![32 * n, 512 * s + 256]) (e3 : o3 = ![32 * n, 512 * s + 384])
    (a : Fin 32) (l : Fin 128) (r : Fin 512) (c : Fin 1024) (hr : r.val = 32 * n + a.val) (hc : c.val = 128 * s + l.val) :
    onPl f (View.readAt (Elt Ideal) arg1.view (Rect.unit (s := S512x4096) o0 S32x128.size h0).toLoadRect (harg1.unread x0))
        (View.readAt (Elt Ideal) arg1.view (Rect.unit (s := S512x4096) o1 S32x128.size h1).toLoadRect (harg1.unread x0))
        (View.readAt (Elt Ideal) arg1.view (Rect.unit (s := S512x4096) o2 S32x128.size h2).toLoadRect (harg1.unread x0))
        (View.readAt (Elt Ideal) arg1.view (Rect.unit (s := S512x4096) o3 S32x128.size h3).toLoadRect (harg1.unread x0)) (ix2 a l)
      = onSrc g x0 r c := by
  have hl := l.isLt
  have ha := a.isLt
  unfold onPl onSrc
  rw [hf, pl0_apply, pl1_apply, pl2_apply, pl3_apply]
  unfold pick4
  split_ifs <;>
  (congr 1 <;>
    (first
      | rw [ld_apply harg1 x0 n (512 * s) o0 h0 e0 _ _ (by omega) (by simp only []; omega)]
      | rw [ld_apply harg1 x0 n (512 * s + 128) o1 h1 e1 _ _ (by omega) (by simp only []; omega)]
      | rw [ld_apply harg1 x0 n (512 * s + 256) o2 h2 e2 _ _ (by omega) (by simp only []; omega)]
      | rw [ld_apply harg1 x0 n (512 * s + 384) o3 h3 e3 _ _ (by omega) (by simp only []; omega)]) <;>
    exact congrArg x0 (ix2_eq hr.symm (by simp only [srcCol, hc]; simp; omega)))

/-- A piece of a scratch buffer agrees with the function `G` of its row and column. -/
def Agrees {n : Nat} (G : Fin 512 → Fin n → EReal) (p : View.Piece (Elt Ideal) ⟨2, ![512, n]⟩ .bf16) : Prop :=
  ∀ x, p.2 x = G (p.1.emb x 0) (p.1.emb x 1)

theorem agrees_unit {n : Nat} (G : Fin 512 → Fin n → EReal) (o : Fin 2 → Nat) (h : ∀ a, o a + S32x128.size a ≤ (⟨2, ![512, n]⟩ : Shape).size a) (v : B)
    (H : ∀ (a : Fin 32) (l : Fin 128) (r : Fin 512) (c : Fin n), r.val = o 0 + a.val → c.val = o 1 + l.val → v (ix2 a l) = G r c) :
    Agrees G ⟨Rect.unit (s := ⟨2, ![512, n]⟩) o S32x128.size h, v⟩ := by
  intro x
  refine (congrArg v (eq_ix2 (n0 := 32) (n1 := 128) x)).trans (H (x 0) (x 1) _ _ ?_ ?_)
  · show o 0 + 1 * _ = _; rw [Nat.one_mul]
  · show o 1 + 1 * _ = _; rw [Nat.one_mul]

variable (𝒱 : Variants) (c : Dev nD) (bd : Option 𝒱.V) (i : grid0.Coords) (arg1 : Memref sig .tc .vmem S512x4096 .bf16) (harg1 : arg1.IsWhole) (arg2 : Memref sig .tc .vmem S1024x256 .bf16) (harg2 : arg2.IsWhole) (arg3 : Memref sig .tc .vmem S512x2048 .fp8e4m3) (harg3 : arg3.IsWhole) (arg4 : Memref sig .tc .vmem S512x128 .i32) (harg4 : arg4.IsWhole) (arg5 : Memref sig .tc .vmem S1x4x128 .f32) (harg5 : arg5.IsWhole) (arg6 : Memref sig .tc .vmem S512x1024 .bf16) (harg6 : arg6.IsWhole) (arg7 : Memref sig .tc .vmem S512x1024 .bf16) (harg7 : arg7.IsWhole) (arg8 : Memref sig .tc .vmem S512x1024 .bf16) (harg8 : arg8.IsWhole) (arg9 : Memref sig .tc .vmem S512x128 .bf16) (harg9 : arg9.IsWhole) (x0 : W)

theorem tripL6 (X) (k : Fin k0_t1_loop.trips) : (tripL_k0_t1 (F := Ideal) 𝒱 c bd i arg1 harg1 arg2 harg2 arg3 harg3 arg4 harg4 arg5 harg5 arg6 harg6 arg7 harg7 arg8 harg8 arg9 harg9 X k).1 = (trip_k0_t1 (F := Ideal) 𝒱 c bd i arg1 harg1 arg2 harg2 arg3 harg3 arg4 harg4 arg5 harg5 arg6 harg6 arg7 harg7 arg8 harg8 arg9 harg9 X k).1 := by
  unfold tripL_k0_t1; rfl
theorem agree6_trip (k : Fin k0_t1_loop.trips) : ∀ p ∈ (tripL_k0_t1 (F := Ideal) 𝒱 c bd i arg1 harg1 arg2 harg2 arg3 harg3 arg4 harg4 arg5 harg5 arg6 harg6 arg7 harg7 arg8 harg8 arg9 harg9 (harg1.unread x0) k).1, Agrees (onSrc v0E x0) p := by
  have hk : k.val < 16 := k.isLt
  rw [tripL6, trip6]
  simp only [castB_eq, List.forall_mem_cons]
  refine ⟨agrees_unit _ _ _ _ fun a l r g hr hc => ?_, agrees_unit _ _ _ _ fun a l r g hr hc => ?_, agrees_unit _ _ _ _ fun a l r g hr hc => ?_, agrees_unit _ _ _ _ fun a l r g hr hc => ?_, agrees_unit _ _ _ _ fun a l r g hr hc => ?_, agrees_unit _ _ _ _ fun a l r g hr hc => ?_, agrees_unit _ _ _ _ fun a l r g hr hc => ?_, agrees_unit _ _ _ _ fun a l r g hr hc => ?_, by simp⟩
  · exact set_apply harg1 x0 k.val 7 hk (by decide) v0B_entry _ _ _ _ _ _ _ _ (k0_off36_eq k) (k0_off37_eq k) (k0_off38_eq k) (k0_off39_eq k) _ _ _ _
      (by rw [hr, k0_off40_eq k]; rfl) (by rw [hc, k0_off40_eq k]; rfl)
  · exact set_apply harg1 x0 k.val 6 hk (by decide) v0B_entry _ _ _ _ _ _ _ _ (k0_off31_eq k) (k0_off32_eq k) (k0_off33_eq k) (k0_off34_eq k) _ _ _ _
      (by rw [hr, k0_off35_eq k]; rfl) (by rw [hc, k0_off35_eq k]; rfl)
  · exact set_apply harg1 x0 k.val 5 hk (by decide) v0B_entry _ _ _ _ _ _ _ _ (k0_off26_eq k) (k0_off27_eq k) (k0_off28_eq k) (k0_off29_eq k) _ _ _ _
      (by rw [hr, k0_off30_eq k]; rfl) (by rw [hc, k0_off30_eq k]; rfl)
  · exact set_apply harg1 x0 k.val 4 hk (by decide) v0B_entry _ _ _ _ _ _ _ _ (k0_off21_eq k) (k0_off22_eq k) (k0_off23_eq k) (k0_off24_eq k) _ _ _ _
      (by rw [hr, k0_off25_eq k]; rfl) (by rw [hc, k0_off25_eq k]; rfl)
  · exact set_apply harg1 x0 k.val 3 hk (by decide) v0B_entry _ _ _ _ _ _ _ _ (k0_off16_eq k) (k0_off17_eq k) (k0_off18_eq k) (k0_off19_eq k) _ _ _ _
      (by rw [hr, k0_off20_eq k]; rfl) (by rw [hc, k0_off20_eq k]; rfl)
  · exact set_apply harg1 x0 k.val 2 hk (by decide) v0B_entry _ _ _ _ _ _ _ _ (k0_off11_eq k) (k0_off12_eq k) (k0_off13_eq k) (k0_off14_eq k) _ _ _ _
      (by rw [hr, k0_off15_eq k]; rfl) (by rw [hc, k0_off15_eq k]; rfl)
  · exact set_apply harg1 x0 k.val 1 hk (by decide) v0B_entry _ _ _ _ _ _ _ _ (k0_off6_eq k) (k0_off7_eq k) (k0_off8_eq k) (k0_off9_eq k) _ _ _ _
      (by rw [hr, k0_off10_eq k]; rfl) (by rw [hc, k0_off10_eq k]; rfl)
  · exact set_apply harg1 x0 k.val 0 hk (by decide) v0B_entry _ _ _ _ _ _ _ _ (k0_off1_eq k) (k0_off2_eq k) (k0_off3_eq k) (k0_off4_eq k) _ _ _ _
      (by rw [hr, k0_off5_eq k]; rfl) (by rw [hc, k0_off5_eq k]; rfl)
theorem agree6 (n : Nat) (hn : n ≤ k0_t1_loop.trips) : ∀ p ∈ (pb_k0_t1 (F := Ideal) 𝒱 c bd i arg1 harg1 arg2 harg2 arg3 harg3 arg4 harg4 arg5 harg5 arg6 harg6 arg7 harg7 arg8 harg8 arg9 harg9 (harg1.unread x0) n).1, Agrees (onSrc v0E x0) p := by
  induction n with
  | zero => intro p hp; simp [pb_k0_t1] at hp
  | succ n ih =>
    intro p hp
    rw [pb_k0_t1_succ 𝒱 c bd i arg1 harg1 arg2 harg2 arg3 harg3 arg4 harg4 arg5 harg5 arg6 harg6 arg7 harg7 arg8 harg8 arg9 harg9 _ ⟨n, hn⟩] at hp
    rcases List.mem_append.1 hp with h | h
    · exact agree6_trip 𝒱 c bd i arg1 harg1 arg2 harg2 arg3 harg3 arg4 harg4 arg5 harg5 arg6 harg6 arg7 harg7 arg8 harg8 arg9 harg9 x0 ⟨n, hn⟩ p h
    · exact ih (by omega) p h
/-- What scratch buffer 6 reads as after the first loop. -/
theorem read6 (r : Fin 512) (g : Fin 1024) : arg6.view.read (Elt Ideal) (arg6.view.writes (Elt Ideal) arg6.view.junk (pb_k0_t1 (F := Ideal) 𝒱 c bd i arg1 harg1 arg2 harg2 arg3 harg3 arg4 harg4 arg5 harg5 arg6 harg6 arg7 harg7 arg8 harg8 arg9 harg9 (harg1.unread x0) (Scf.trips k0_t1_loop.lb k0_t1_loop.ub k0_t1_loop.st)).1) (ix2 r g)
    = onSrc v0E x0 r g :=
  View.read_writes_apply_of_pieces (Val := Elt Ideal) arg6.view _ (fun y => onSrc v0E x0 (y 0) (y 1)) _ (agree6 𝒱 c bd i arg1 harg1 arg2 harg2 arg3 harg3 arg4 harg4 arg5 harg5 arg6 harg6 arg7 harg7 arg8 harg8 arg9 harg9 x0 _ le_rfl) (ix2 r g) (cover6 (F := Ideal) 𝒱 c bd i arg1 harg1 arg2 harg2 arg3 harg3 arg4 harg4 arg5 harg5 arg6 harg6 arg7 harg7 arg8 harg8 arg9 harg9 _ _)

theorem tripL7 (X) (k : Fin k0_t1_loop.trips) : (tripL_k0_t1 (F := Ideal) 𝒱 c bd i arg1 harg1 arg2 harg2 arg3 harg3 arg4 harg4 arg5 harg5 arg6 harg6 arg7 harg7 arg8 harg8 arg9 harg9 X k).2.1 = (trip_k0_t1 (F := Ideal) 𝒱 c bd i arg1 harg1 arg2 harg2 arg3 harg3 arg4 harg4 arg5 harg5 arg6 harg6 arg7 harg7 arg8 harg8 arg9 harg9 X k).2.1 := by
  unfold tripL_k0_t1; rfl
theorem agree7_trip (k : Fin k0_t1_loop.trips) : ∀ p ∈ (tripL_k0_t1 (F := Ideal) 𝒱 c bd i arg1 harg1 arg2 harg2 arg3 harg3 arg4 harg4 arg5 harg5 arg6 harg6 arg7 harg7 arg8 harg8 arg9 harg9 (harg1.unread x0) k).2.1, Agrees (onSrc v1E x0) p := by
  have hk : k.val < 16 := k.isLt
  rw [tripL7, trip7]
  simp only [castB_eq, List.forall_mem_cons]
  refine ⟨agrees_unit _ _ _ _ fun a l r g hr hc => ?_, agrees_unit _ _ _ _ fun a l r g hr hc => ?_, agrees_unit _ _ _ _ fun a l r g hr hc => ?_, agrees_unit _ _ _ _ fun a l r g hr hc => ?_, agrees_unit _ _ _ _ fun a l r g hr hc => ?_, agrees_unit _ _ _ _ fun a l r g hr hc => ?_, agrees_unit _ _ _ _ fun a l r g hr hc => ?_, agrees_unit _ _ _ _ fun a l r g hr hc => ?_, by simp⟩
  · exact set_apply harg1 x0 k.val 7 hk (by decide) v1B_entry _ _ _ _ _ _ _ _ (k0_off36_eq k) (k0_off37_eq k) (k0_off38_eq k) (k0_off39_eq k) _ _ _ _
      (by rw [hr, k0_off40_eq k]; rfl) (by rw [hc, k0_off40_eq k]; rfl)
  · exact set_apply harg1 x0 k.val 6 hk (by decide) v1B_entry _ _ _ _ _ _ _ _ (k0_off31_eq k) (k0_off32_eq k) (k0_off33_eq k) (k0_off34_eq k) _ _ _ _
      (by rw [hr, k0_off35_eq k]; rfl) (by rw [hc, k0_off35_eq k]; rfl)
  · exact set_apply harg1 x0 k.val 5 hk (by decide) v1B_entry _ _ _ _ _ _ _ _ (k0_off26_eq k) (k0_off27_eq k) (k0_off28_eq k) (k0_off29_eq k) _ _ _ _
      (by rw [hr, k0_off30_eq k]; rfl) (by rw [hc, k0_off30_eq k]; rfl)
  · exact set_apply harg1 x0 k.val 4 hk (by decide) v1B_entry _ _ _ _ _ _ _ _ (k0_off21_eq k) (k0_off22_eq k) (k0_off23_eq k) (k0_off24_eq k) _ _ _ _
      (by rw [hr, k0_off25_eq k]; rfl) (by rw [hc, k0_off25_eq k]; rfl)
  · exact set_apply harg1 x0 k.val 3 hk (by decide) v1B_entry _ _ _ _ _ _ _ _ (k0_off16_eq k) (k0_off17_eq k) (k0_off18_eq k) (k0_off19_eq k) _ _ _ _
      (by rw [hr, k0_off20_eq k]; rfl) (by rw [hc, k0_off20_eq k]; rfl)
  · exact set_apply harg1 x0 k.val 2 hk (by decide) v1B_entry _ _ _ _ _ _ _ _ (k0_off11_eq k) (k0_off12_eq k) (k0_off13_eq k) (k0_off14_eq k) _ _ _ _
      (by rw [hr, k0_off15_eq k]; rfl) (by rw [hc, k0_off15_eq k]; rfl)
  · exact set_apply harg1 x0 k.val 1 hk (by decide) v1B_entry _ _ _ _ _ _ _ _ (k0_off6_eq k) (k0_off7_eq k) (k0_off8_eq k) (k0_off9_eq k) _ _ _ _
      (by rw [hr, k0_off10_eq k]; rfl) (by rw [hc, k0_off10_eq k]; rfl)
  · exact set_apply harg1 x0 k.val 0 hk (by decide) v1B_entry _ _ _ _ _ _ _ _ (k0_off1_eq k) (k0_off2_eq k) (k0_off3_eq k) (k0_off4_eq k) _ _ _ _
      (by rw [hr, k0_off5_eq k]; rfl) (by rw [hc, k0_off5_eq k]; rfl)
theorem agree7 (n : Nat) (hn : n ≤ k0_t1_loop.trips) : ∀ p ∈ (pb_k0_t1 (F := Ideal) 𝒱 c bd i arg1 harg1 arg2 harg2 arg3 harg3 arg4 harg4 arg5 harg5 arg6 harg6 arg7 harg7 arg8 harg8 arg9 harg9 (harg1.unread x0) n).2.1, Agrees (onSrc v1E x0) p := by
  induction n with
  | zero => intro p hp; simp [pb_k0_t1] at hp
  | succ n ih =>
    intro p hp
    rw [pb_k0_t1_succ 𝒱 c bd i arg1 harg1 arg2 harg2 arg3 harg3 arg4 harg4 arg5 harg5 arg6 harg6 arg7 harg7 arg8 harg8 arg9 harg9 _ ⟨n, hn⟩] at hp
    rcases List.mem_append.1 hp with h | h
    · exact agree7_trip 𝒱 c bd i arg1 harg1 arg2 harg2 arg3 harg3 arg4 harg4 arg5 harg5 arg6 harg6 arg7 harg7 arg8 harg8 arg9 harg9 x0 ⟨n, hn⟩ p h
    · exact ih (by omega) p h
/-- What scratch buffer 7 reads as after the first loop. -/
theorem read7 (r : Fin 512) (g : Fin 1024) : arg7.view.read (Elt Ideal) (arg7.view.writes (Elt Ideal) arg7.view.junk (pb_k0_t1 (F := Ideal) 𝒱 c bd i arg1 harg1 arg2 harg2 arg3 harg3 arg4 harg4 arg5 harg5 arg6 harg6 arg7 harg7 arg8 harg8 arg9 harg9 (harg1.unread x0) (Scf.trips k0_t1_loop.lb k0_t1_loop.ub k0_t1_loop.st)).2.1) (ix2 r g)
    = onSrc v1E x0 r g :=
  View.read_writes_apply_of_pieces (Val := Elt Ideal) arg7.view _ (fun y => onSrc v1E x0 (y 0) (y 1)) _ (agree7 𝒱 c bd i arg1 harg1 arg2 harg2 arg3 harg3 arg4 harg4 arg5 harg5 arg6 harg6 arg7 harg7 arg8 harg8 arg9 harg9 x0 _ le_rfl) (ix2 r g) (cover7 (F := Ideal) 𝒱 c bd i arg1 harg1 arg2 harg2 arg3 harg3 arg4 harg4 arg5 harg5 arg6 harg6 arg7 harg7 arg8 harg8 arg9 harg9 _ _)

theorem tripL8 (X) (k : Fin k0_t1_loop.trips) : (tripL_k0_t1 (F := Ideal) 𝒱 c bd i arg1 harg1 arg2 harg2 arg3 harg3 arg4 harg4 arg5 harg5 arg6 harg6 arg7 harg7 arg8 harg8 arg9 harg9 X k).2.2.1 = (trip_k0_t1 (F := Ideal) 𝒱 c bd i arg1 harg1 arg2 harg2 arg3 harg3 arg4 harg4 arg5 harg5 arg6 harg6 arg7 harg7 arg8 harg8 arg9 harg9 X k).2.2.1 := by
  unfold tripL_k0_t1; rfl
theorem agree8_trip (k : Fin k0_t1_loop.trips) : ∀ p ∈ (tripL_k0_t1 (F := Ideal) 𝒱 c bd i arg1 harg1 arg2 harg2 arg3 harg3 arg4 harg4 arg5 harg5 arg6 harg6 arg7 harg7 arg8 harg8 arg9 harg9 (harg1.unread x0) k).2.2.1, Agrees (onSrc codeE x0) p := by
  have hk : k.val < 16 := k.isLt
  rw [tripL8, trip8]
  simp only [castB_eq, List.forall_mem_cons]
  refine ⟨agrees_unit _ _ _ _ fun a l r g hr hc => ?_, agrees_unit _ _ _ _ fun a l r g hr hc => ?_, agrees_unit _ _ _ _ fun a l r g hr hc => ?_, agrees_unit _ _ _ _ fun a l r g hr hc => ?_, agrees_unit _ _ _ _ fun a l r g hr hc => ?_, agrees_unit _ _ _ _ fun a l r g hr hc => ?_, agrees_unit _ _ _ _ fun a l r g hr hc => ?_, agrees_unit _ _ _ _ fun a l r g hr hc => ?_, by simp⟩
  · exact set_apply harg1 x0 k.val 7 hk (by decide) codeB_entry _ _ _ _ _ _ _ _ (k0_off36_eq k) (k0_off37_eq k) (k0_off38_eq k) (k0_off39_eq k) _ _ _ _
      (by rw [hr, k0_off40_eq k]; rfl) (by rw [hc, k0_off40_eq k]; rfl)
  · exact set_apply harg1 x0 k.val 6 hk (by decide) codeB_entry _ _ _ _ _ _ _ _ (k0_off31_eq k) (k0_off32_eq k) (k0_off33_eq k) (k0_off34_eq k) _ _ _ _
      (by rw [hr, k0_off35_eq k]; rfl) (by rw [hc, k0_off35_eq k]; rfl)
  · exact set_apply harg1 x0 k.val 5 hk (by decide) codeB_entry _ _ _ _ _ _ _ _ (k0_off26_eq k) (k0_off27_eq k) (k0_off28_eq k) (k0_off29_eq k) _ _ _ _
      (by rw [hr, k0_off30_eq k]; rfl) (by rw [hc, k0_off30_eq k]; rfl)
  · exact set_apply harg1 x0 k.val 4 hk (by decide) codeB_entry _ _ _ _ _ _ _ _ (k0_off21_eq k) (k0_off22_eq k) (k0_off23_eq k) (k0_off24_eq k) _ _ _ _
      (by rw [hr, k0_off25_eq k]; rfl) (by rw [hc, k0_off25_eq k]; rfl)
  · exact set_apply harg1 x0 k.val 3 hk (by decide) codeB_entry _ _ _ _ _ _ _ _ (k0_off16_eq k) (k0_off17_eq k) (k0_off18_eq k) (k0_off19_eq k) _ _ _ _
      (by rw [hr, k0_off20_eq k]; rfl) (by rw [hc, k0_off20_eq k]; rfl)
  · exact set_apply harg1 x0 k.val 2 hk (by decide) codeB_entry _ _ _ _ _ _ _ _ (k0_off11_eq k) (k0_off12_eq k) (k0_off13_eq k) (k0_off14_eq k) _ _ _ _
      (by rw [hr, k0_off15_eq k]; rfl) (by rw [hc, k0_off15_eq k]; rfl)
  · exact set_apply harg1 x0 k.val 1 hk (by decide) codeB_entry _ _ _ _ _ _ _ _ (k0_off6_eq k) (k0_off7_eq k) (k0_off8_eq k) (k0_off9_eq k) _ _ _ _
      (by rw [hr, k0_off10_eq k]; rfl) (by rw [hc, k0_off10_eq k]; rfl)
  · exact set_apply harg1 x0 k.val 0 hk (by decide) codeB_entry _ _ _ _ _ _ _ _ (k0_off1_eq k) (k0_off2_eq k) (k0_off3_eq k) (k0_off4_eq k) _ _ _ _
      (by rw [hr, k0_off5_eq k]; rfl) (by rw [hc, k0_off5_eq k]; rfl)
theorem agree8 (n : Nat) (hn : n ≤ k0_t1_loop.trips) : ∀ p ∈ (pb_k0_t1 (F := Ideal) 𝒱 c bd i arg1 harg1 arg2 harg2 arg3 harg3 arg4 harg4 arg5 harg5 arg6 harg6 arg7 harg7 arg8 harg8 arg9 harg9 (harg1.unread x0) n).2.2.1, Agrees (onSrc codeE x0) p := by
  induction n with
  | zero => intro p hp; simp [pb_k0_t1] at hp
  | succ n ih =>
    intro p hp
    rw [pb_k0_t1_succ 𝒱 c bd i arg1 harg1 arg2 harg2 arg3 harg3 arg4 harg4 arg5 harg5 arg6 harg6 arg7 harg7 arg8 harg8 arg9 harg9 _ ⟨n, hn⟩] at hp
    rcases List.mem_append.1 hp with h | h
    · exact agree8_trip 𝒱 c bd i arg1 harg1 arg2 harg2 arg3 harg3 arg4 harg4 arg5 harg5 arg6 harg6 arg7 harg7 arg8 harg8 arg9 harg9 x0 ⟨n, hn⟩ p h
    · exact ih (by omega) p h
/-- What scratch buffer 8 reads as after the first loop. -/
theorem read8 (r : Fin 512) (g : Fin 1024) : arg8.view.read (Elt Ideal) (arg8.view.writes (Elt Ideal) arg8.view.junk (pb_k0_t1 (F := Ideal) 𝒱 c bd i arg1 harg1 arg2 harg2 arg3 harg3 arg4 harg4 arg5 harg5 arg6 harg6 arg7 harg7 arg8 harg8 arg9 harg9 (harg1.unread x0) (Scf.trips k0_t1_loop.lb k0_t1_loop.ub k0_t1_loop.st)).2.2.1) (ix2 r g)
    = onSrc codeE x0 r g :=
  View.read_writes_apply_of_pieces (Val := Elt Ideal) arg8.view _ (fun y => onSrc codeE x0 (y 0) (y 1)) _ (agree8 𝒱 c bd i arg1 harg1 arg2 harg2 arg3 harg3 arg4 harg4 arg5 harg5 arg6 harg6 arg7 harg7 arg8 harg8 arg9 harg9 x0 _ le_rfl) (ix2 r g) (cover8 (F := Ideal) 𝒱 c bd i arg1 harg1 arg2 harg2 arg3 harg3 arg4 harg4 arg5 harg5 arg6 harg6 arg7 harg7 arg8 harg8 arg9 harg9 _ _)

/-- The largest magnitude among the eight groups that share lane `l`. -/
def amaxE (x0 : W) (r : Fin 512) (l : Fin 128) : EReal :=
  max (max (max (max (max (max (max (max (bfE 0x0000#16) (onSrc hiE x0 r ⟨128 * 0 + l.val, by omega⟩)) (onSrc hiE x0 r ⟨128 * 1 + l.val, by omega⟩)) (onSrc hiE x0 r ⟨128 * 2 + l.val, by omega⟩)) (onSrc hiE x0 r ⟨128 * 3 + l.val, by omega⟩)) (onSrc hiE x0 r ⟨128 * 4 + l.val, by omega⟩)) (onSrc hiE x0 r ⟨128 * 5 + l.val, by omega⟩)) (onSrc hiE x0 r ⟨128 * 6 + l.val, by omega⟩)) (onSrc hiE x0 r ⟨128 * 7 + l.val, by omega⟩)

theorem tripL9 (X) (k : Fin k0_t1_loop.trips) : (tripL_k0_t1 (F := Ideal) 𝒱 c bd i arg1 harg1 arg2 harg2 arg3 harg3 arg4 harg4 arg5 harg5 arg6 harg6 arg7 harg7 arg8 harg8 arg9 harg9 X k).2.2.2 = (trip_k0_t1 (F := Ideal) 𝒱 c bd i arg1 harg1 arg2 harg2 arg3 harg3 arg4 harg4 arg5 harg5 arg6 harg6 arg7 harg7 arg8 harg8 arg9 harg9 X k).2.2.2.1 := by
  unfold tripL_k0_t1; rfl
theorem agree9_trip (k : Fin k0_t1_loop.trips) : ∀ p ∈ (tripL_k0_t1 (F := Ideal) 𝒱 c bd i arg1 harg1 arg2 harg2 arg3 harg3 arg4 harg4 arg5 harg5 arg6 harg6 arg7 harg7 arg8 harg8 arg9 harg9 (harg1.unread x0) k).2.2.2, Agrees (amaxE x0) p := by
  have hk : k.val < 16 := k.isLt
  rw [tripL9, trip9]
  simp only [castB_eq, List.forall_mem_cons]
  refine ⟨agrees_unit _ _ _ _ fun a l r g hr hc => ?_, by simp⟩
  rw [k0_off41_eq k] at hr hc
  simp only [Matrix.cons_val_zero, Matrix.cons_val_one, Nat.zero_add] at hr hc
  unfold amaxE
  refine congrArg₂ max (congrArg₂ max (congrArg₂ max (congrArg₂ max (congrArg₂ max (congrArg₂ max (congrArg₂ max (congrArg₂ max (rfl) (set_apply harg1 x0 k.val 0 hk (by decide) hiB_entry _ _ _ _ _ _ _ _ (k0_off1_eq k) (k0_off2_eq k) (k0_off3_eq k) (k0_off4_eq k) _ _ _ _ hr (by simp only [hc]))) (set_apply harg1 x0 k.val 1 hk (by decide) hiB_entry _ _ _ _ _ _ _ _ (k0_off6_eq k) (k0_off7_eq k) (k0_off8_eq k) (k0_off9_eq k) _ _ _ _ hr (by simp only [hc]))) (set_apply harg1 x0 k.val 2 hk (by decide) hiB_entry _ _ _ _ _ _ _ _ (k0_off11_eq k) (k0_off12_eq k) (k0_off13_eq k) (k0_off14_eq k) _ _ _ _ hr (by simp only [hc]))) (set_apply harg1 x0 k.val 3 hk (by decide) hiB_entry _ _ _ _ _ _ _ _ (k0_off16_eq k) (k0_off17_eq k) (k0_off18_eq k) (k0_off19_eq k) _ _ _ _ hr (by simp only [hc]))) (set_apply harg1 x0 k.val 4 hk (by decide) hiB_entry _ _ _ _ _ _ _ _ (k0_off21_eq k) (k0_off22_eq k) (k0_off23_eq k) (k0_off24_eq k) _ _ _ _ hr (by simp only [hc]))) (set_apply harg1 x0 k.val 5 hk (by decide) hiB_entry _ _ _ _ _ _ _ _ (k0_off26_eq k) (k0_off27_eq k) (k0_off28_eq k) (k0_off29_eq k) _ _ _ _ hr (by simp only [hc]))) (set_apply harg1 x0 k.val 6 hk (by decide) hiB_entry _ _ _ _ _ _ _ _ (k0_off31_eq k) (k0_off32_eq k) (k0_off33_eq k) (k0_off34_eq k) _ _ _ _ hr (by simp only [hc]))) (set_apply harg1 x0 k.val 7 hk (by decide) hiB_entry _ _ _ _ _ _ _ _ (k0_off36_eq k) (k0_off37_eq k) (k0_off38_eq k) (k0_off39_eq k) _ _ _ _ hr (by simp only [hc]))
theorem agree9 (n : Nat) (hn : n ≤ k0_t1_loop.trips) : ∀ p ∈ (pb_k0_t1 (F := Ideal) 𝒱 c bd i arg1 harg1 arg2 harg2 arg3 harg3 arg4 harg4 arg5 harg5 arg6 harg6 arg7 harg7 arg8 harg8 arg9 harg9 (harg1.unread x0) n).2.2.2, Agrees (amaxE x0) p := by
  induction n with
  | zero => intro p hp; simp [pb_k0_t1] at hp
  | succ n ih =>
    intro p hp
    rw [pb_k0_t1_succ 𝒱 c bd i arg1 harg1 arg2 harg2 arg3 harg3 arg4 harg4 arg5 harg5 arg6 harg6 arg7 harg7 arg8 harg8 arg9 harg9 _ ⟨n, hn⟩] at hp
    rcases List.mem_append.1 hp with h | h
    · exact agree9_trip 𝒱 c bd i arg1 harg1 arg2 harg2 arg3 harg3 arg4 harg4 arg5 harg5 arg6 harg6 arg7 harg7 arg8 harg8 arg9 harg9 x0 ⟨n, hn⟩ p h
    · exact ih (by omega) p h
/-- What the scratch buffer of magnitudes reads as after the first loop. -/
theorem read9 (r : Fin 512) (l : Fin 128) : arg9.view.read (Elt Ideal) (arg9.view.writes (Elt Ideal) arg9.view.junk (pb_k0_t1 (F := Ideal) 𝒱 c bd i arg1 harg1 arg2 harg2 arg3 harg3 arg4 harg4 arg5 harg5 arg6 harg6 arg7 harg7 arg8 harg8 arg9 harg9 (harg1.unread x0) (Scf.trips k0_t1_loop.lb k0_t1_loop.ub k0_t1_loop.st)).2.2.2) (ix2 r l)
    = amaxE x0 r l :=
  View.read_writes_apply_of_pieces (Val := Elt Ideal) arg9.view _ (fun y => amaxE x0 (y 0) (y 1)) _ (agree9 𝒱 c bd i arg1 harg1 arg2 harg2 arg3 harg3 arg4 harg4 arg5 harg5 arg6 harg6 arg7 harg7 arg8 harg8 arg9 harg9 x0 _ le_rfl) (ix2 r l) (cover9 (F := Ideal) 𝒱 c bd i arg1 harg1 arg2 harg2 arg3 harg3 arg4 harg4 arg5 harg5 arg6 harg6 arg7 harg7 arg8 harg8 arg9 harg9 _ _)

end Cert.KernelIdeal.Hand
end
-- ==== Proof.RefDefs.lean ====
/- What each host buffer of the reference holds, read at an index: the two kept columns of a group and their values, the
   kept entries in order, the row maximum, the exponent and the metadata word. -/
module

public import proofs.«01_k».proof.Proof.Gen.ReferenceIdeal.Value
public import Idealize.ShloMosaic.Lib.StableHlo.ReadAt
public import Idealize.ShloMosaic.Lib.Pointwise

@[expose] public section

set_option maxRecDepth 65536
set_option maxHeartbeats 4000000

noncomputable section

namespace Cert.ReferenceIdeal.Hand

open Cert.ReferenceIdeal Cert.ReferenceIdeal.Gen Idealize.ShloMosaic Idealize.ShloMosaic.TcCoe Idealize.ShloMosaic.Tactic

/-- The reference's selection on four numbers. -/
def beats (a b : EReal) : BitVec 32 := BitVec.setWidth 32 (Ideal.cmp .ogt (max a (-a)) (max b (-b)))
def beatsEq (a b : EReal) : BitVec 32 :=
  BitVec.setWidth 32 (IntOp.ori (Ideal.cmp .ogt (max a (-a)) (max b (-b))) (Ideal.cmp .oeq (max a (-a)) (max b (-b))))
def low2 (p q s : BitVec 32) : BitVec 1 := IntOp.cmpi .slt (IntOp.addi (IntOp.addi (IntOp.addi 0#32 p) q) s) 2#32
def keep0 (a b c d : EReal) : BitVec 1 := low2 (beats b a) (beats c a) (beats d a)
def keep1 (a b c d : EReal) : BitVec 1 := low2 (beatsEq a b) (beats c b) (beats d b)
def keep2 (a b c d : EReal) : BitVec 1 := low2 (beatsEq a c) (beatsEq b c) (beats d c)
def keep3 (a b c d : EReal) : BitVec 1 := low2 (beatsEq a d) (beatsEq b d) (beatsEq c d)
def idx0R (a b c d : EReal) : BitVec 32 :=
  Scalar.select (keep0 a b c d) 0#32 (Scalar.select (keep1 a b c d) 1#32 (Scalar.select (keep2 a b c d) 2#32 (Scalar.select (keep3 a b c d) 3#32 4#32)))
def idx1R (a b c d : EReal) : BitVec 32 :=
  Scalar.select (keep3 a b c d) 3#32 (Scalar.select (keep2 a b c d) 2#32 (Scalar.select (keep1 a b c d) 1#32 (Scalar.select (keep0 a b c d) 0#32 4294967295#32)))
def pickR (i : BitVec 32) (a b c d : EReal) : EReal :=
  Scalar.select (IntOp.cmpi .eq i 0#32) a (Scalar.select (IntOp.cmpi .eq i 1#32) b (Scalar.select (IntOp.cmpi .eq i 2#32) c d))
def v0R (a b c d : EReal) : EReal := pickR (idx0R a b c d) a b c d
def v1R (a b c d : EReal) : EReal := pickR (idx1R a b c d) a b c d
def codeR (a b c d : EReal) : BitVec 32 := IntOp.ori (idx0R a b c d) (IntOp.shli .host (idx1R a b c d) 2#32)

variable (m : (ℓ : Loc nD τ sig) → Buf (Elt Ideal) ℓ) (c : Dev nD)

/-- Entry `p` of the group `g` of row `r`. -/
def xs (p : Fin 4) (r : Fin 14336) (g : Fin 1024) : EReal := m (c, Proc.tc.devRef main_arg0) (ix2 r ⟨g.val * 4 + p.val, by omega⟩)
def onGroup {α : Type} (f : EReal → EReal → EReal → EReal → α) (r : Fin 14336) (g : Fin 1024) : α :=
  f (xs m c 0 r g) (xs m c 1 r g) (xs m c 2 r g) (xs m c 3 r g)

/-- Running two lists of host operations one after the other. -/
theorem after_app (l₁ l₂ : List (HloOp τ sig (Elt Ideal))) (V : Valuation τ sig (Elt Ideal)) :
    StableHlo.after (l₁ ++ l₂) V = StableHlo.after l₂ (StableHlo.after l₁ V) := by
  induction l₁ generalizing V with
  | nil => rfl
  | cons op l₁ ih => exact ih _

/-- The buffers before the stretch that starts with the stacking of the two kept values. -/
def W0 (c : Dev nD) : Valuation τ sig (Elt Ideal) :=
  StableHlo.after (List.flatten [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27]) (fun b => m (c, b))
theorem V_W0 (b : Ref sig .tc) : V m c b = StableHlo.after (List.flatten [hostOps0_28, hostOps0_29, hostOps0_30]) (W0 m c) b := by
  unfold V W0
  rw [← after_app]; rfl
/-- The buffers before the stretch that sums the exponent, and `n` operations into the stretch before it. -/
def W2 (c : Dev nD) : Valuation τ sig (Elt Ideal) := StableHlo.after (List.flatten [hostOps0_28, hostOps0_29]) (W0 m c)
theorem V_W2 (b : Ref sig .tc) : V m c b = StableHlo.after hostOps0_30 (W2 m c) b := by
  rw [V_W0]; unfold W2
  rw [← after_app]; rfl
def Wn (n : Nat) (c : Dev nD) : Valuation τ sig (Elt Ideal) := StableHlo.after (hostOps0_28.take n) (W0 m c)
theorem V_Wn (n : Nat) (b : Ref sig .tc) : V m c b = StableHlo.after (List.flatten [hostOps0_28.drop n, hostOps0_29, hostOps0_30]) (Wn m n c) b := by
  rw [V_W0]; unfold Wn
  rw [← after_app]
  simp only [List.flatten_cons, ← List.append_assoc, List.take_append_drop]

end Cert.ReferenceIdeal.Hand
end
-- ==== Proof.Select.lean ====
/- The two ways to pick the two largest of four: by ranks, and by minima and maxima of the pairs. -/
module

public import proofs.«01_k».proof.Proof.Scratch
public import proofs.«01_k».proof.Proof.RefDefs

@[expose] public section

set_option maxRecDepth 65536
set_option maxHeartbeats 1000000

noncomputable section

namespace Cert.Hand

open Cert.KernelIdeal.Hand Cert.ReferenceIdeal.Hand Idealize.ShloMosaic

/-- The kept columns as words, from the six comparisons (`g` of an earlier and a later entry: the earlier is not smaller). -/
def b01 (gAC gAD gBC gBD : Bool) : Bool := gAC && gAD && gBC && gBD
def b23 (gAC gAD gBC gBD : Bool) : Bool := !gAC && !gAD && !gBC && !gBD
def kI0 (gAB gAC gAD gBC gBD : Bool) : BitVec 32 :=
  if b23 gAC gAD gBC gBD then 2#32 else if gAB || b01 gAC gAD gBC gBD then 0#32 else 1#32
def kI1 (gAC gAD gBC gBD gCD : Bool) : BitVec 32 :=
  if b01 gAC gAD gBC gBD then 1#32 else if gCD && !b23 gAC gAD gBC gBD then 2#32 else 3#32
def bitW (b : Bool) : BitVec 32 := BitVec.setWidth 32 (BitVec.ofBool b)
def kp0 (gAB gAC gAD : Bool) := low2 (bitW !gAB) (bitW !gAC) (bitW !gAD)
def kp1 (gAB gBC gBD : Bool) := low2 (bitW gAB) (bitW !gBC) (bitW !gBD)
def kp2 (gAC gBC gCD : Bool) := low2 (bitW gAC) (bitW gBC) (bitW !gCD)
def kp3 (gAD gBD gCD : Bool) := low2 (bitW gAD) (bitW gBD) (bitW gCD)

/-- A comparison follows from the two it spans. -/
def span (p q r : Bool) : Bool := (!(p && q) || r) && (p || q || !r)
theorem idx_bool : ∀ gAB gAC gAD gBC gBD gCD : Bool,
    (span gAB gBC gAC && span gAB gBD gAD && span gAC gCD gAD && span gBC gCD gBD) = true →
    (Scalar.select (kp0 gAB gAC gAD) 0#32 (Scalar.select (kp1 gAB gBC gBD) 1#32 (Scalar.select (kp2 gAC gBC gCD) 2#32 (Scalar.select (kp3 gAD gBD gCD) 3#32 4#32))) = kI0 gAB gAC gAD gBC gBD ∧
    Scalar.select (kp3 gAD gBD gCD) 3#32 (Scalar.select (kp2 gAC gBC gCD) 2#32 (Scalar.select (kp1 gAB gBC gBD) 1#32 (Scalar.select (kp0 gAB gAC gAD) 0#32 4294967295#32))) = kI1 gAC gAD gBC gBD gCD) := by
  decide +kernel

theorem cmp_oge (x y : EReal) : Ideal.cmp .oge x y = BitVec.ofBool (decide (y ≤ x)) := rfl
theorem cmp_ogt (x y : EReal) : Ideal.cmp .ogt x y = BitVec.ofBool (!decide (x ≤ y)) := by
  show BitVec.ofBool (decide (y < x)) = _
  congr 1; simp [← not_le]
theorem beats_eq (a b : EReal) : beats b a = bitW (!decide (max b (-b) ≤ max a (-a))) := by
  unfold beats bitW; rw [cmp_ogt]
theorem beatsEq_eq (a b : EReal) : beatsEq a b = bitW (decide (max b (-b) ≤ max a (-a))) := by
  unfold beatsEq bitW; rw [cmp_ogt]
  congr 1
  show BitVec.ofBool _ ||| BitVec.ofBool (decide (max a (-a) = max b (-b))) = _
  rcases lt_trichotomy (max a (-a)) (max b (-b)) with h | h | h
  · simp [h.le, not_le.2 h, h.ne]
  · simp [h]
  · simp [h.le, not_le.2 h, h.ne']

section
variable (a b c d : EReal)
/-- The six comparisons. -/
def ge (x y : EReal) : Bool := decide (max y (-y) ≤ max x (-x))
theorem ge_true {x y : EReal} : ge x y = true ↔ max y (-y) ≤ max x (-x) := by unfold ge; simp
theorem ge_false {x y : EReal} : ge x y = false ↔ max x (-x) < max y (-y) := by unfold ge; rw [decide_eq_false_iff_not, not_le]
theorem trans_true {x y z : EReal} (h : ge x y = true) (h' : ge y z = true) : ge x z = true := ge_true.2 ((ge_true.1 h').trans (ge_true.1 h))
theorem trans_false {x y z : EReal} (h : ge x y = false) (h' : ge y z = false) : ge x z = false := ge_false.2 ((ge_false.1 h).trans (ge_false.1 h'))
theorem span_ge (x y z : EReal) : span (ge x y) (ge y z) (ge x z) = true := by
  have h := @trans_true x y z
  have h' := @trans_false x y z
  cases hp : ge x y <;> cases hq : ge y z <;> cases hr : ge x z <;> simp_all [span]
def iK0 : BitVec 32 := kI0 (ge a b) (ge a c) (ge a d) (ge b c) (ge b d)
def iK1 : BitVec 32 := kI1 (ge a c) (ge a d) (ge b c) (ge b d) (ge c d)
theorem idx_eq : idx0R a b c d = iK0 a b c d ∧ idx1R a b c d = iK1 a b c d := by
  have h := idx_bool (ge a b) (ge a c) (ge a d) (ge b c) (ge b d) (ge c d) (by rw [span_ge, span_ge, span_ge, span_ge]; rfl)
  unfold idx0R idx1R keep0 keep1 keep2 keep3
  simp only [beats_eq, beatsEq_eq]
  exact h
theorem both01_eq : both01 a b c d = BitVec.ofBool (b01 (ge a c) (ge a d) (ge b c) (ge b d)) := by
  unfold both01; rw [cmp_oge]; congr 1
  unfold b01 ge
  rw [← Bool.decide_and, ← Bool.decide_and, ← Bool.decide_and]
  refine decide_eq_decide.2 ?_
  rw [max_le_iff, le_min_iff, le_min_iff]; tauto
theorem both23_eq : both23 a b c d = BitVec.ofBool (b23 (ge a c) (ge a d) (ge b c) (ge b d)) := by
  unfold both23; rw [show ∀ x y : EReal, Ideal.cmp .ogt x y = BitVec.ofBool (decide (y < x)) from fun _ _ => rfl]; congr 1
  unfold b23 ge
  simp only [← decide_not, not_le]
  rw [← Bool.decide_and, ← Bool.decide_and, ← Bool.decide_and]
  refine decide_eq_decide.2 ?_
  rw [max_lt_iff, lt_min_iff, lt_min_iff]; tauto
theorem firstE_eq : firstE a b c d = BitVec.ofBool (ge a b || b01 (ge a c) (ge a d) (ge b c) (ge b d)) := by
  unfold firstE; rw [both01_eq, cmp_oge]
  unfold ge; cases decide (max b (-b) ≤ max a (-a)) <;> cases b01 _ _ _ _ <;> rfl
theorem thirdE_eq : thirdE a b c d = BitVec.ofBool (ge c d && !b23 (ge a c) (ge a d) (ge b c) (ge b d)) := by
  unfold thirdE; rw [both23_eq, cmp_oge]
  unfold ge; cases decide (max d (-d) ≤ max c (-c)) <;> cases b23 _ _ _ _ <;> rfl

theorem sel_bool (p : Bool) (x y : EReal) : selE (BitVec.ofBool p) x y = if p then x else y := by
  cases p <;> rfl
theorem v0E_eq : v0E a b c d = if b23 (ge a c) (ge a d) (ge b c) (ge b d) then c else if ge a b || b01 (ge a c) (ge a d) (ge b c) (ge b d) then a else b := by
  unfold v0E; rw [both23_eq, firstE_eq, sel_bool, sel_bool]
theorem v1E_eq : v1E a b c d = if b01 (ge a c) (ge a d) (ge b c) (ge b d) then b else if ge c d && !b23 (ge a c) (ge a d) (ge b c) (ge b d) then c else d := by
  unfold v1E; rw [both01_eq, thirdE_eq, sel_bool, sel_bool]
/-- Both pick the same entries. -/
theorem v0_eq : v0R a b c d = v0E a b c d := by
  unfold v0R; rw [(idx_eq a b c d).1, v0E_eq]; unfold iK0 kI0
  split_ifs <;> rfl
theorem v1_eq : v1R a b c d = v1E a b c d := by
  unfold v1R; rw [(idx_eq a b c d).2, v1E_eq]; unfold iK1 kI1
  split_ifs <;> rfl

/-- The code as a number. -/
def codeN : Nat := (iK0 a b c d).toNat + 4 * (iK1 a b c d).toNat
theorem codeN_lt : codeN a b c d < 16 := by
  unfold codeN iK0 iK1 kI0 kI1; split_ifs <;> decide
theorem codeR_eq : codeR a b c d = BitVec.ofNat 32 (codeN a b c d) := by
  unfold codeR codeN; rw [(idx_eq a b c d).1, (idx_eq a b c d).2]
  unfold iK0 iK1 kI0 kI1; split_ifs <;> decide
end

/-- The largest magnitude of the four is the larger of the kept two. -/
theorem max_kept (A B C D : EReal) :
    max (if max A B < min C D then C else if B ≤ A ∨ max C D ≤ min A B then A else B)
        (if max C D ≤ min A B then B else if D ≤ C ∧ ¬ max A B < min C D then C else D) = max (max A B) (max C D) := by
  rcases le_total A B with h1 | h1 <;> rcases le_total C D with h2 | h2 <;>
    simp only [h1, h2, max_eq_left, max_eq_right, min_eq_left, min_eq_right] <;> split_ifs <;>
    first | order | (apply le_antisymm <;> simp <;> order) | grind
end Cert.Hand
end
-- ==== Proof.Words.lean ====
/- The numbers the constant words of the two programs denote. -/
module

public import Idealize.ShloMosaic.PureOps.Ideal.Laws

@[expose] public section

set_option maxRecDepth 65536

noncomputable section

namespace Cert.Hand

open Idealize.ShloMosaic

theorem word32 (b : BitVec 32) : Ideal.ofBits .f32 b = Ideal.ieee 8 23 b := rfl
theorem word16 (b : BitVec 16) : Ideal.ofBits .bf16 b = Ideal.ieee 8 7 b := rfl

/-- A positive normal number. -/
theorem normal32 (b : BitVec 32) (e f : Nat) (h1 : (b.extractLsb' 31 1 == 1#1) = false) (h2 : (b.extractLsb' 23 8).toNat = e) (h3 : (b.extractLsb' 0 23).toNat = f) (he : 0 < e) (he' : e < 255) :
    Ideal.ofBits .f32 b = ((((2 ^ 23 + f : Nat) : ℝ) * (2 : ℝ) ^ ((e : Int) - 150) : ℝ) : EReal) := by
  rw [word32]
  unfold Ideal.ieee
  simp only [Nat.reduceAdd, h1, h2, h3]
  rw [if_neg (by omega), if_neg (by omega)]
  simp only [Bool.false_eq_true, if_false, one_mul]
  congr 3
  norm_num
  ring
theorem infinite32 (b : BitVec 32) (h1 : (b.extractLsb' 31 1 == 1#1) = false) (h2 : (b.extractLsb' 23 8).toNat = 255) (h3 : (b.extractLsb' 0 23).toNat = 0) : Ideal.ofBits .f32 b = ⊤ := by
  rw [word32]
  unfold Ideal.ieee
  simp only [Nat.reduceAdd, h1, h2, h3]
  norm_num
theorem two_f : Ideal.ofBits .f32 0x40000000#32 = ((2 : ℝ) : EReal) := by
  rw [normal32 _ 128 0 (by decide) (by decide) (by decide) (by decide) (by decide)]; congr 1; norm_num
theorem third_f : ∃ r : ℝ, 0 < r ∧ r < 1 / 256 ∧ Ideal.ofBits .f32 0x3B124925#32 = (r : EReal) := by
  rw [normal32 _ 118 1198373 (by decide) (by decide) (by decide) (by decide) (by decide)]
  exact ⟨_, by norm_num, by norm_num, rfl⟩
theorem bot_f : Ideal.ofBits .f32 0xFF800000#32 = ⊥ := by simp [Ideal.ofBits, Ideal.ieee]
theorem hi_f : Ideal.ofBits .f32 0x43E00000#32 = ((448 : ℝ) : EReal) := by simp [Ideal.ofBits, Ideal.ieee, -EReal.coe_mul]; norm_num
theorem lo_f : Ideal.ofBits .f32 0xC3E00000#32 = ((-448 : ℝ) : EReal) := by simp [Ideal.ofBits, Ideal.ieee, -EReal.coe_mul]; norm_num
theorem hi_b : Ideal.ofBits .bf16 0x43E0#16 = ((448 : ℝ) : EReal) := by simp [Ideal.ofBits, Ideal.ieee, -EReal.coe_mul]; norm_num
theorem lo_b : Ideal.ofBits .bf16 0xC3E0#16 = ((-448 : ℝ) : EReal) := by simp [Ideal.ofBits, Ideal.ieee, -EReal.coe_mul]; norm_num
theorem b0 : Ideal.ofBits .bf16 0x0000#16 = ((0 : ℝ) : EReal) := by simp [Ideal.ofBits, Ideal.ieee]
theorem b1 : Ideal.ofBits .bf16 0x3F80#16 = ((1 : ℝ) : EReal) := by simp [Ideal.ofBits, Ideal.ieee, -EReal.coe_mul]; norm_num
theorem b2 : Ideal.ofBits .bf16 0x4000#16 = ((2 : ℝ) : EReal) := by simp [Ideal.ofBits, Ideal.ieee, -EReal.coe_mul]; norm_num
theorem b4 : Ideal.ofBits .bf16 0x4080#16 = ((4 : ℝ) : EReal) := by simp [Ideal.ofBits, Ideal.ieee, -EReal.coe_mul]; norm_num
theorem b8 : Ideal.ofBits .bf16 0x4100#16 = ((8 : ℝ) : EReal) := by simp [Ideal.ofBits, Ideal.ieee, -EReal.coe_mul]; norm_num
theorem b12 : Ideal.ofBits .bf16 0x4140#16 = ((12 : ℝ) : EReal) := by simp [Ideal.ofBits, Ideal.ieee, -EReal.coe_mul]; norm_num
theorem large_b : Ideal.ofBits .bf16 0x7F7F#16 = ((255 * 2 ^ 120 : ℝ) : EReal) := by simp [Ideal.ofBits, Ideal.ieee, -EReal.coe_mul]
end Cert.Hand
end
-- ==== Proof.KMat.lean ====
/- The matrix the kernel packs the codes with, at an index. -/
module

public import proofs.«01_k».proof.Proof.KValue
public import proofs.«01_k».proof.Proof.Words
public import Idealize.ShloMosaic.Lib.StableHlo.ReadAt
public import Idealize.ShloMosaic.Lib.Pointwise

@[expose] public section

set_option maxRecDepth 65536
set_option maxHeartbeats 1000000
set_option pp.maxSteps 600

noncomputable section

namespace Cert.KernelIdeal.Hand

open Cert.KernelIdeal Cert.KernelIdeal.Gen Idealize.ShloMosaic Idealize.ShloMosaic.TcCoe Idealize.ShloMosaic.Tactic

/-- The group of four that a scratch column holds. -/
def grp (x : Nat) : Nat := 128 * (x / 128) + 32 * (x % 4) + x % 128 / 4
/-- The column of the packing matrix its code goes to, and the weight it has there. -/
def slot (x : Nat) : Nat := grp x / 8 + 128 * (grp x % 8 / 4)
def weight (x : Nat) : Nat := 16 ^ (grp x % 4)

def grpW (x : Nat) : BitVec 32 := IntOp.addi (IntOp.addi (IntOp.muli (IntOp.shrsi .host (BitVec.ofNat 32 x) 7#32) 128#32) (IntOp.muli 32#32 (IntOp.andi (BitVec.ofNat 32 x) 3#32))) (IntOp.andi (IntOp.shrsi .host (BitVec.ofNat 32 x) 2#32) 31#32)
def matW (x y : Nat) : BitVec 32 := Scalar.select (IntOp.cmpi .eq (IntOp.addi (IntOp.shrsi .host (grpW x) 3#32) (IntOp.muli 128#32 (IntOp.shrsi .host (IntOp.andi (grpW x) 7#32) 2#32))) (BitVec.ofNat 32 y)) (IntOp.shli .host 1#32 (IntOp.muli 4#32 (IntOp.andi (IntOp.andi (grpW x) 7#32) 3#32))) 0#32

theorem slot_word : ∀ x : Fin 1024, IntOp.addi (IntOp.shrsi .host (grpW x.val) 3#32) (IntOp.muli 128#32 (IntOp.shrsi .host (IntOp.andi (grpW x.val) 7#32) 2#32)) = BitVec.ofNat 32 (slot x.val) ∧ slot x.val < 256 := by
  decide +kernel
theorem weight_word : ∀ x : Fin 1024, IntOp.shli .host 1#32 (IntOp.muli 4#32 (IntOp.andi (IntOp.andi (grpW x.val) 7#32) 3#32)) = BitVec.ofNat 32 (weight x.val) ∧ (BitVec.ofNat 32 (weight x.val)).toInt = (weight x.val : Int) := by
  decide +kernel
theorem eq_word (a b : Nat) (h : a < 256) (h' : b < 256) : IntOp.cmpi .eq (BitVec.ofNat 32 a) (BitVec.ofNat 32 b) = BitVec.ofBool (decide (a = b)) := by
  refine congrArg BitVec.ofBool ?_
  show (BitVec.ofNat 32 a == BitVec.ofNat 32 b) = _
  rw [Bool.eq_iff_iff, beq_iff_eq, decide_eq_true_eq]
  refine ⟨fun e => ?_, fun e => by rw [e]⟩
  have := congrArg BitVec.toNat e
  simp only [BitVec.toNat_ofNat] at this
  omega
theorem matW_eq (x : Fin 1024) (y : Fin 256) : matW x.val y.val = if slot x.val = y.val then BitVec.ofNat 32 (weight x.val) else 0#32 := by
  unfold matW
  rw [(slot_word x).1, (weight_word x).1, eq_word _ _ (slot_word x).2 y.isLt]
  by_cases h : slot x.val = y.val
  · rw [if_pos h, decide_eq_true h]; rfl
  · rw [if_neg h, decide_eq_false h]; rfl

variable (m : (ℓ : Loc nD τ sig) → Buf (Elt Ideal) ℓ) (c : Dev nD)
theorem mat_word (x : Fin 1024) (y : Fin 256) : V m c main_v34 (ix2 x y) = FloatOps.sitofp (F := Ideal) FTy.f32 (matW x.val y.val) := by
  unfold V matW grpW
  after_reads_at
  rfl
theorem mat_at (x : Fin 1024) (y : Fin 256) : V m c main_v34 (ix2 x y) = (((if slot x.val = y.val then weight x.val else 0 : Nat) : ℝ) : EReal) := by
  rw [mat_word, matW_eq]
  show (((if slot x.val = y.val then BitVec.ofNat 32 (weight x.val) else 0#32).toInt : ℝ) : EReal) = _
  split_ifs
  · rw [(weight_word x).2]; push_cast; rfl
  · norm_num
end Cert.KernelIdeal.Hand
end
-- ==== Proof.RefSel.lean ====
/- The reference's two kept columns of a group and their values, read at an index. -/
module

public import proofs.«01_k».proof.Proof.RefDefs
public import Idealize.ShloMosaic.Lib.StableHlo.ReadAt
public import Idealize.ShloMosaic.Lib.Pointwise

@[expose] public section

set_option maxRecDepth 65536
set_option maxHeartbeats 4000000

noncomputable section

namespace Cert.ReferenceIdeal.Hand

open Cert.ReferenceIdeal Cert.ReferenceIdeal.Gen Idealize.ShloMosaic Idealize.ShloMosaic.TcCoe Idealize.ShloMosaic.Tactic

variable (m : (ℓ : Loc nD τ sig) → Buf (Elt Ideal) ℓ) (c : Dev nD)

theorem V77 (r : Fin 14336) (g : Fin 1024) : V m c main_v77 (ix2 r g) = onGroup m c idx0R r g := by
  unfold V; after_reads_at; rfl
theorem V82 (r : Fin 14336) (g : Fin 1024) : V m c main_v82 (ix2 r g) = onGroup m c idx1R r g := by
  unfold V; after_reads_at; rfl
theorem V91 (r : Fin 14336) (g : Fin 1024) : V m c main_v91 (ix2 r g) = onGroup m c v0R r g := by
  unfold V; after_reads_at; rfl
theorem V100 (r : Fin 14336) (g : Fin 1024) : V m c main_v100 (ix2 r g) = onGroup m c v1R r g := by
  unfold V; after_reads_at; rfl
end Cert.ReferenceIdeal.Hand
end
-- ==== Proof.RefMeta.lean ====
/- The reference's metadata word, read at an index. -/
module

public import proofs.«01_k».proof.Proof.RefSel
public import Idealize.ShloMosaic.Lib.StableHlo.ReadAt
public import Idealize.ShloMosaic.Lib.Pointwise

@[expose] public section

set_option maxRecDepth 65536
set_option maxHeartbeats 4000000

noncomputable section

namespace Cert.ReferenceIdeal.Hand

open Cert.ReferenceIdeal Cert.ReferenceIdeal.Gen Idealize.ShloMosaic Idealize.ShloMosaic.TcCoe Idealize.ShloMosaic.Tactic

/-- Eight codes of four bits packed into a word. -/
def packR (f : Fin 8 → BitVec 32) : BitVec 32 :=
  IntOp.ori (IntOp.ori (IntOp.ori (IntOp.ori (IntOp.ori (IntOp.ori (IntOp.ori (IntOp.ori 0#32
    (IntOp.shli .host (f 0) 0#32)) (IntOp.shli .host (f 1) 4#32)) (IntOp.shli .host (f 2) 8#32)) (IntOp.shli .host (f 3) 12#32))
    (IntOp.shli .host (f 4) 16#32)) (IntOp.shli .host (f 5) 20#32)) (IntOp.shli .host (f 6) 24#32)) (IntOp.shli .host (f 7) 28#32)
variable (m : (ℓ : Loc nD τ sig) → Buf (Elt Ideal) ℓ) (c : Dev nD)

theorem W77 : W2 m c main_v77 = V m c main_v77 := by rw [V_W2]; after_reads_simp
theorem W82 : W2 m c main_v82 = V m c main_v82 := by rw [V_W2]; after_reads_simp
theorem V182 (r : Fin 14336) (q : Fin 128) : V m c main_v182 (ix2 r q) = packR (fun k => onGroup m c codeR r ⟨q.val * 8 + k.val, by omega⟩) := by
  have e : ∀ g, onGroup m c codeR r g = IntOp.ori (V m c main_v77 (ix2 r g)) (IntOp.shli .host (V m c main_v82 (ix2 r g)) 2#32) := fun g => by
    rw [V77, V82]; rfl
  simp only [e]
  rw [← W77, ← W82, V_W2]
  after_reads_at
  dsimp only [id]
  pointwise
  rfl

end Cert.ReferenceIdeal.Hand
end
-- ==== Proof.Codes.lean ====
/- Packed codes: a sum of codes weighted by powers of sixteen, as a word. -/
module

public import proofs.«01_k».proof.Proof.Select
public import proofs.«01_k».proof.Proof.KMat
public import proofs.«01_k».proof.Proof.Words
public import proofs.«01_k».proof.Proof.RefMeta

@[expose] public section

set_option maxRecDepth 65536
set_option maxHeartbeats 1000000

noncomputable section

namespace Cert.Hand

open Cert.KernelIdeal.Hand Cert.ReferenceIdeal.Hand Idealize.ShloMosaic

theorem codeE_eq (a b c d : EReal) : codeE a b c d = ((codeN a b c d : ℝ) : EReal) := by
  unfold codeE
  rw [both23_eq, firstE_eq, both01_eq, thirdE_eq, sel_bool, sel_bool, sel_bool, sel_bool]
  unfold bfE codeN iK0 iK1 kI0 kI1
  simp only [b0, b1, b2, b4, b8, b12]
  split_ifs <;> simp only [← EReal.coe_add, ← Nat.cast_add, EReal.coe_eq_coe_iff] <;> norm_num

/-- The scratch column of a group. -/
def ungrp (g : Nat) : Nat := 128 * (g / 128) + 4 * (g % 32) + g % 128 / 32
theorem grp_ungrp : ∀ g : Fin 1024, ungrp g.val < 1024 ∧ grp (ungrp g.val) = g.val := by decide +kernel
theorem ungrp_grp : ∀ g : Fin 1024, grp g.val < 1024 ∧ ungrp (grp g.val) = g.val := by decide +kernel

/-- A row of the packing matrix has one entry: a column of the product is a sum of four. -/
theorem sum_slot (n : Fin 1024 → Nat) (q : Fin 128) (h : Fin 2) :
    ∑ x : Fin 1024, (((n x : Nat) : ℝ) : EReal) * (((if slot x.val = q.val + 128 * h.val then weight x.val else 0 : Nat) : ℝ) : EReal)
      = (((∑ k : Fin 4, n ⟨ungrp (8 * q.val + 4 * h.val + k.val), (grp_ungrp ⟨8 * q.val + 4 * h.val + k.val, by omega⟩).1⟩ * 16 ^ k.val : Nat) : ℝ) : EReal) := by
  have e : ∀ x : Fin 1024, (((n x : Nat) : ℝ) : EReal) * (((if slot x.val = q.val + 128 * h.val then weight x.val else 0 : Nat) : ℝ) : EReal)
      = ((((n x * (if slot x.val = q.val + 128 * h.val then weight x.val else 0) : Nat)) : ℝ) : EReal) := by
    intro x; rw [← EReal.coe_mul, ← Nat.cast_mul]
  rw [Finset.sum_congr rfl fun x _ => e x]
  have s : ∀ t : Finset (Fin 1024), ∀ f : Fin 1024 → Nat, ∑ x ∈ t, (((f x : Nat) : ℝ) : EReal) = (((∑ x ∈ t, f x : Nat) : ℝ) : EReal) := by
    classical
    intro t f
    induction t using Finset.induction_on with
    | empty => simp
    | insert a t ha ih => rw [Finset.sum_insert ha, Finset.sum_insert ha, ih, ← EReal.coe_add, ← Nat.cast_add]
  rw [s]
  refine congrArg (fun z : Nat => ((z : ℝ) : EReal)) ?_
  classical
  let f : Fin 4 → Fin 1024 := fun k => ⟨ungrp (8 * q.val + 4 * h.val + k.val), (grp_ungrp ⟨8 * q.val + 4 * h.val + k.val, by omega⟩).1⟩
  have hf : ∀ k, grp (f k).val = 8 * q.val + 4 * h.val + k.val := fun k => (grp_ungrp ⟨8 * q.val + 4 * h.val + k.val, by omega⟩).2
  have inj : Function.Injective f := by
    intro k k' hk
    have := hf k; rw [hk, hf k'] at this
    exact Fin.ext (by omega)
  rw [← Finset.sum_subset (Finset.subset_univ (Finset.univ.image f)), Finset.sum_image (fun _ _ _ _ w => inj w)]
  · refine Finset.sum_congr rfl fun k _ => ?_
    have : slot (f k).val = q.val + 128 * h.val := by unfold slot; rw [hf k]; omega
    have w : weight (f k).val = 16 ^ k.val := by unfold weight; rw [hf k]; congr 1; omega
    rw [if_pos this, w]
  · intro x _ hx
    rw [if_neg, mul_zero]
    intro hs
    refine hx (Finset.mem_image.2 ⟨⟨grp x.val % 4, by omega⟩, Finset.mem_univ _, Fin.ext ?_⟩)
    have hg := (ungrp_grp x)
    show ungrp (8 * q.val + 4 * h.val + grp x.val % 4) = x.val
    rw [← hg.2]; congr 1; rw [hg.2]
    unfold slot at hs; have := hg.1; omega

theorem fptosi_nat (n : Nat) (h : n < 65536) : Ideal.fptosi 32 ((n : ℝ) : EReal) = BitVec.ofNat 32 n := by
  unfold Ideal.fptosi
  rw [Ideal.toIntClamped_coe, if_pos (by positivity), Int.floor_natCast]
  rw [min_eq_right (by norm_num <;> omega), max_eq_right (by norm_num <;> omega)]
  exact BitVec.ofInt_natCast 32 n

/-- Four codes side by side. -/
theorem four_codes (a b c d : Nat) (ha : a < 16) (hb : b < 16) (hc : c < 16) (hd : d < 16) :
    BitVec.ofNat 32 (a + b * 16 + c * 256 + d * 4096) = BitVec.ofNat 32 a ||| BitVec.ofNat 32 b <<< 4 ||| BitVec.ofNat 32 c <<< 8 ||| BitVec.ofNat 32 d <<< 12 := by
  have h1 : a + b * 16 = a ||| b <<< 4 := by
    rw [Nat.or_comm, ← Nat.shiftLeft_add_eq_or_of_lt (by omega), Nat.shiftLeft_eq]; omega
  have h2 : a + b * 16 + c * 256 = (a + b * 16) ||| c <<< 8 := by
    rw [Nat.or_comm, ← Nat.shiftLeft_add_eq_or_of_lt (by omega), Nat.shiftLeft_eq]; omega
  have h3 : a + b * 16 + c * 256 + d * 4096 = (a + b * 16 + c * 256) ||| d <<< 12 := by
    rw [Nat.or_comm, ← Nat.shiftLeft_add_eq_or_of_lt (by omega), Nat.shiftLeft_eq]; omega
  refine BitVec.eq_of_toNat_eq ?_
  rw [h3, h2, h1]
  simp only [BitVec.toNat_ofNat, BitVec.toNat_or, BitVec.toNat_shiftLeft, Nat.shiftLeft_eq] at *
  rw [Nat.mod_eq_of_lt (show a < 2 ^ 32 by omega), Nat.mod_eq_of_lt (show b < 2 ^ 32 by omega), Nat.mod_eq_of_lt (show c < 2 ^ 32 by omega), Nat.mod_eq_of_lt (show d < 2 ^ 32 by omega),
    Nat.mod_eq_of_lt (show b * 2 ^ 4 < 2 ^ 32 by omega), Nat.mod_eq_of_lt (show c * 2 ^ 8 < 2 ^ 32 by omega), Nat.mod_eq_of_lt (show d * 2 ^ 12 < 2 ^ 32 by omega)]
  refine Nat.mod_eq_of_lt ?_
  norm_num at h1 h2 h3 ⊢
  rw [← h1, ← h2, ← h3]; omega

theorem shl_vec (b : BitVec 32) : IntOp.shli .vector b 16#32 = b <<< 16 := rfl
theorem pack_eq (f : Fin 8 → Nat) (h : ∀ k, f k < 16) :
    IntOp.ori (BitVec.ofNat 32 (f 0 + f 1 * 16 + f 2 * 256 + f 3 * 4096)) (IntOp.shli .vector (BitVec.ofNat 32 (f 4 + f 5 * 16 + f 6 * 256 + f 7 * 4096)) 16#32)
      = packR (fun k => BitVec.ofNat 32 (f k)) := by
  rw [four_codes _ _ _ _ (h 0) (h 1) (h 2) (h 3), four_codes _ _ _ _ (h 4) (h 5) (h 6) (h 7), shl_vec]
  unfold packR
  show _ = ((((((((0#32 ||| BitVec.ofNat 32 (f 0) <<< 0) ||| BitVec.ofNat 32 (f 1) <<< 4) ||| BitVec.ofNat 32 (f 2) <<< 8) ||| BitVec.ofNat 32 (f 3) <<< 12) ||| BitVec.ofNat 32 (f 4) <<< 16) ||| BitVec.ofNat 32 (f 5) <<< 20) ||| BitVec.ofNat 32 (f 6) <<< 24) ||| BitVec.ofNat 32 (f 7) <<< 28)
  show _ ||| _ = _
  simp only [BitVec.shiftLeft_or_distrib, ← BitVec.shiftLeft_add, BitVec.or_assoc, BitVec.zero_or, BitVec.shiftLeft_zero, Nat.reduceAdd]
end Cert.Hand
end
-- ==== Proof.Trip2.lean ====
/- What the second loop stores: every kept entry scaled and clamped, moved to its place in the result's row. -/
module

public import proofs.«01_k».proof.Proof.Scratch

@[expose] public section

set_option maxRecDepth 65536

noncomputable section

namespace Cert.KernelIdeal.Hand

open Cert.KernelIdeal Cert.KernelIdeal.Gen Idealize.ShloMosaic Idealize.ShloMosaic.TcCoe Idealize.ShloMosaic.Tactic

abbrev B8 := FVec Ideal S32x128 .fp8e4m3
abbrev B32 := FVec Ideal S32x128 .f32
/-- One block scaled and clamped. -/
def quantB (v inv : B) : B32 :=
  extf .f32 (truncf .fp8e4m3 (minimumf (bfB 0x43E0#16) (maximumf (bfB 0xC3E0#16) (mulf v inv))) bitsLt_fp8e4m3_bf16) bitsLt_fp8e4m3_f32
def rollB (x : B32) : B32 := dynamicRotate 1 2#32 none x rotates_S32x128_d1
/-- Entries of a block taken at given lanes. -/
def takeB (mix : B32) (pat : IVec S32x128 32) : B8 :=
  truncf .fp8e4m3 (dynamicGather 1 mix (shapeCast S32x128 (shapeCast S32x128x1
    (select (cmpi .slt pat (broadcast S32x128 0#32)) (addi pat (broadcast S32x128 128#32)) pat) shapeCasts_S32x128_S32x128x1) shapeCasts_S32x128x1_S32x128)) bitsLt_fp8e4m3_f32
def secondPat (v100 v102 : IVec S32x128 32) (v112 : M) (v117 : IVec S32x128 32) : IVec S32x128 32 :=
  select v112 v117 (andi (addi (addi (muli (broadcast S32x128 4#32) v100) v102) (broadcast S32x128 4#32)) (broadcast S32x128 127#32))
def out0B (m : M) (pat : IVec S32x128 32) (v0 v1 inv : B) : B8 := takeB (select m (quantB v0 inv) (rollB (quantB v1 inv))) pat
def out1B (m : M) (pat : IVec S32x128 32) (v0 v1 inv : B) : B8 := takeB (select m (rollB (quantB v1 inv)) (quantB v0 inv)) pat

variable (𝒱 : Variants) (c : Dev nD) (bd : Option 𝒱.V) (i : grid0.Coords) (arg1 : Memref sig .tc .vmem S512x4096 .bf16) (harg1 : arg1.IsWhole) (arg2 : Memref sig .tc .vmem S1024x256 .bf16) (harg2 : arg2.IsWhole) (arg3 : Memref sig .tc .vmem S512x2048 .fp8e4m3) (harg3 : arg3.IsWhole) (arg4 : Memref sig .tc .vmem S512x128 .i32) (harg4 : arg4.IsWhole) (arg5 : Memref sig .tc .vmem S1x4x128 .f32) (harg5 : arg5.IsWhole) (arg6 : Memref sig .tc .vmem S512x1024 .bf16) (harg6 : arg6.IsWhole) (arg7 : Memref sig .tc .vmem S512x1024 .bf16) (harg7 : arg7.IsWhole) (arg8 : Memref sig .tc .vmem S512x1024 .bf16) (harg8 : arg8.IsWhole) (arg9 : Memref sig .tc .vmem S512x128 .bf16) (harg9 : arg9.IsWhole)

section
variable (v96 : M) (v100 : IVec S32x128 32) (v102 : IVec S32x128 32) (v110 : IVec S32x128 32) (v112 : M) (v117 : IVec S32x128 32) (X6 : BufTy.Contents (Elt Ideal) arg6.view.ty) (X7 : BufTy.Contents (Elt Ideal) arg7.view.ty) (X9 : BufTy.Contents (Elt Ideal) arg9.view.ty) (k : Fin k0_t2_loop.trips)
abbrev ldI (k : Fin k0_t2_loop.trips) : B := View.readAt (Elt Ideal) arg9.view (Rect.unit (s := S512x128) (k0_off42 k) S32x128.size (k0_off42_inb k)).toLoadRect X9
abbrev ldA0 (k : Fin k0_t2_loop.trips) : B := View.readAt (Elt Ideal) arg6.view (Rect.unit (s := S512x1024) (k0_off43 k) S32x128.size (k0_off43_inb k)).toLoadRect X6
abbrev ldB0 (k : Fin k0_t2_loop.trips) : B := View.readAt (Elt Ideal) arg7.view (Rect.unit (s := S512x1024) (k0_off43 k) S32x128.size (k0_off43_inb k)).toLoadRect X7
abbrev ldA1 (k : Fin k0_t2_loop.trips) : B := View.readAt (Elt Ideal) arg6.view (Rect.unit (s := S512x1024) (k0_off46 k) S32x128.size (k0_off46_inb k)).toLoadRect X6
abbrev ldB1 (k : Fin k0_t2_loop.trips) : B := View.readAt (Elt Ideal) arg7.view (Rect.unit (s := S512x1024) (k0_off46 k) S32x128.size (k0_off46_inb k)).toLoadRect X7
abbrev ldA2 (k : Fin k0_t2_loop.trips) : B := View.readAt (Elt Ideal) arg6.view (Rect.unit (s := S512x1024) (k0_off49 k) S32x128.size (k0_off49_inb k)).toLoadRect X6
abbrev ldB2 (k : Fin k0_t2_loop.trips) : B := View.readAt (Elt Ideal) arg7.view (Rect.unit (s := S512x1024) (k0_off49 k) S32x128.size (k0_off49_inb k)).toLoadRect X7
abbrev ldA3 (k : Fin k0_t2_loop.trips) : B := View.readAt (Elt Ideal) arg6.view (Rect.unit (s := S512x1024) (k0_off52 k) S32x128.size (k0_off52_inb k)).toLoadRect X6
abbrev ldB3 (k : Fin k0_t2_loop.trips) : B := View.readAt (Elt Ideal) arg7.view (Rect.unit (s := S512x1024) (k0_off52 k) S32x128.size (k0_off52_inb k)).toLoadRect X7
abbrev ldA4 (k : Fin k0_t2_loop.trips) : B := View.readAt (Elt Ideal) arg6.view (Rect.unit (s := S512x1024) (k0_off55 k) S32x128.size (k0_off55_inb k)).toLoadRect X6
abbrev ldB4 (k : Fin k0_t2_loop.trips) : B := View.readAt (Elt Ideal) arg7.view (Rect.unit (s := S512x1024) (k0_off55 k) S32x128.size (k0_off55_inb k)).toLoadRect X7
abbrev ldA5 (k : Fin k0_t2_loop.trips) : B := View.readAt (Elt Ideal) arg6.view (Rect.unit (s := S512x1024) (k0_off58 k) S32x128.size (k0_off58_inb k)).toLoadRect X6
abbrev ldB5 (k : Fin k0_t2_loop.trips) : B := View.readAt (Elt Ideal) arg7.view (Rect.unit (s := S512x1024) (k0_off58 k) S32x128.size (k0_off58_inb k)).toLoadRect X7
abbrev ldA6 (k : Fin k0_t2_loop.trips) : B := View.readAt (Elt Ideal) arg6.view (Rect.unit (s := S512x1024) (k0_off61 k) S32x128.size (k0_off61_inb k)).toLoadRect X6
abbrev ldB6 (k : Fin k0_t2_loop.trips) : B := View.readAt (Elt Ideal) arg7.view (Rect.unit (s := S512x1024) (k0_off61 k) S32x128.size (k0_off61_inb k)).toLoadRect X7
abbrev ldA7 (k : Fin k0_t2_loop.trips) : B := View.readAt (Elt Ideal) arg6.view (Rect.unit (s := S512x1024) (k0_off64 k) S32x128.size (k0_off64_inb k)).toLoadRect X6
abbrev ldB7 (k : Fin k0_t2_loop.trips) : B := View.readAt (Elt Ideal) arg7.view (Rect.unit (s := S512x1024) (k0_off64 k) S32x128.size (k0_off64_inb k)).toLoadRect X7

theorem trip2 : (trip_k0_t2 (F := Ideal) 𝒱 c bd i arg1 harg1 arg2 harg2 arg3 harg3 arg4 harg4 arg5 harg5 arg6 harg6 arg7 harg7 arg8 harg8 arg9 harg9 v96 v100 v102 v110 v112 v117 X6 X7 X9 k).1 =
    [⟨Rect.unit (s := S512x2048) (k0_off66 k) S32x128.size (k0_off66_inb k), out1B v96 (secondPat v100 v102 v112 v117) (ldA7 arg6 X6 k) (ldB7 arg7 X7 k) (ldI arg9 X9 k)⟩,
     ⟨Rect.unit (s := S512x2048) (k0_off65 k) S32x128.size (k0_off65_inb k), out0B v96 v110 (ldA7 arg6 X6 k) (ldB7 arg7 X7 k) (ldI arg9 X9 k)⟩,
     ⟨Rect.unit (s := S512x2048) (k0_off63 k) S32x128.size (k0_off63_inb k), out1B v96 (secondPat v100 v102 v112 v117) (ldA6 arg6 X6 k) (ldB6 arg7 X7 k) (ldI arg9 X9 k)⟩,
     ⟨Rect.unit (s := S512x2048) (k0_off62 k) S32x128.size (k0_off62_inb k), out0B v96 v110 (ldA6 arg6 X6 k) (ldB6 arg7 X7 k) (ldI arg9 X9 k)⟩,
     ⟨Rect.unit (s := S512x2048) (k0_off60 k) S32x128.size (k0_off60_inb k), out1B v96 (secondPat v100 v102 v112 v117) (ldA5 arg6 X6 k) (ldB5 arg7 X7 k) (ldI arg9 X9 k)⟩,
     ⟨Rect.unit (s := S512x2048) (k0_off59 k) S32x128.size (k0_off59_inb k), out0B v96 v110 (ldA5 arg6 X6 k) (ldB5 arg7 X7 k) (ldI arg9 X9 k)⟩,
     ⟨Rect.unit (s := S512x2048) (k0_off57 k) S32x128.size (k0_off57_inb k), out1B v96 (secondPat v100 v102 v112 v117) (ldA4 arg6 X6 k) (ldB4 arg7 X7 k) (ldI arg9 X9 k)⟩,
     ⟨Rect.unit (s := S512x2048) (k0_off56 k) S32x128.size (k0_off56_inb k), out0B v96 v110 (ldA4 arg6 X6 k) (ldB4 arg7 X7 k) (ldI arg9 X9 k)⟩,
     ⟨Rect.unit (s := S512x2048) (k0_off54 k) S32x128.size (k0_off54_inb k), out1B v96 (secondPat v100 v102 v112 v117) (ldA3 arg6 X6 k) (ldB3 arg7 X7 k) (ldI arg9 X9 k)⟩,
     ⟨Rect.unit (s := S512x2048) (k0_off53 k) S32x128.size (k0_off53_inb k), out0B v96 v110 (ldA3 arg6 X6 k) (ldB3 arg7 X7 k) (ldI arg9 X9 k)⟩,
     ⟨Rect.unit (s := S512x2048) (k0_off51 k) S32x128.size (k0_off51_inb k), out1B v96 (secondPat v100 v102 v112 v117) (ldA2 arg6 X6 k) (ldB2 arg7 X7 k) (ldI arg9 X9 k)⟩,
     ⟨Rect.unit (s := S512x2048) (k0_off50 k) S32x128.size (k0_off50_inb k), out0B v96 v110 (ldA2 arg6 X6 k) (ldB2 arg7 X7 k) (ldI arg9 X9 k)⟩,
     ⟨Rect.unit (s := S512x2048) (k0_off48 k) S32x128.size (k0_off48_inb k), out1B v96 (secondPat v100 v102 v112 v117) (ldA1 arg6 X6 k) (ldB1 arg7 X7 k) (ldI arg9 X9 k)⟩,
     ⟨Rect.unit (s := S512x2048) (k0_off47 k) S32x128.size (k0_off47_inb k), out0B v96 v110 (ldA1 arg6 X6 k) (ldB1 arg7 X7 k) (ldI arg9 X9 k)⟩,
     ⟨Rect.unit (s := S512x2048) (k0_off45 k) S32x128.size (k0_off45_inb k), out1B v96 (secondPat v100 v102 v112 v117) (ldA0 arg6 X6 k) (ldB0 arg7 X7 k) (ldI arg9 X9 k)⟩,
     ⟨Rect.unit (s := S512x2048) (k0_off44 k) S32x128.size (k0_off44_inb k), out0B v96 v110 (ldA0 arg6 X6 k) (ldB0 arg7 X7 k) (ldI arg9 X9 k)⟩] := by
  sl_kernel_rfl
end

/-- A number clamped to the largest finite magnitude of the eight-bit format. -/
def clampE (x : EReal) : EReal := min (bfE 0x43E0#16) (max (bfE 0xC3E0#16) x)

theorem quantB_apply (v inv : B) (j : S32x128.Idx) : quantB v inv j = clampE (v j * inv j) := rfl
theorem rollB_apply (x : B32) (a : Fin 32) (l : Fin 128) : rollB x (ix2 a l) = x (ix2 a ⟨(l.val + 128 - 2) % 128, Nat.mod_lt _ (by decide)⟩) := by
  unfold rollB; pointwise
theorem takeB_apply (mix : B32) (pat : IVec S32x128 32) (a : Fin 32) (l n : Fin 128) (h : pat (ix2 a l) = BitVec.ofNat 32 n.val) :
    takeB mix pat (ix2 a l) = mix (ix2 a n) := by
  have key : ∀ n : Fin 128, (Scalar.select (IntOp.cmpi .slt (BitVec.ofNat 32 n.val) 0#32) (IntOp.addi (BitVec.ofNat 32 n.val) 128#32) (BitVec.ofNat 32 n.val)).toNat % 128 = n.val := by
    decide +kernel
  have hs : ∀ x : IVec S32x128 32, shapeCast S32x128 (shapeCast S32x128x1 x shapeCasts_S32x128_S32x128x1) shapeCasts_S32x128x1_S32x128 = x := by
    intro x; funext j; rw [eq_ix2 j]; pointwise
  unfold takeB
  rw [hs]
  show dynamicGather 1 mix _ (ix2 a l) = _
  rw [dynamicGather_apply]
  refine congrArg mix (funext fun b => Fin.ext ?_)
  match b with
  | ⟨0, _⟩ => rfl
  | ⟨1, _⟩ =>
    show (Scalar.select (IntOp.cmpi .slt (pat (ix2 a l)) 0#32) (IntOp.addi (pat (ix2 a l)) 128#32) (pat (ix2 a l))).toNat % 128 = n.val
    rw [h]; exact key n

/-- The lane each of the two gathers takes: of the quarter-row of groups, group `2 h + l / 64` of the four sharing a lane block. -/
theorem pat0_lane (a : Fin 32) (l : Fin 128) : k0_pay386 (ix2 a l) = BitVec.ofNat 32 (4 * (l.val % 64 / 2) + l.val / 64 + 2 * (l.val % 2)) := by
  have key : ∀ l : Fin 128, IntOp.addi (IntOp.addi (IntOp.muli 4#32 (IntOp.andi (IntOp.shrsi .vector (BitVec.ofNat 32 l.val) 1#32) 31#32)) (IntOp.shrsi .vector (BitVec.ofNat 32 l.val) 6#32)) (IntOp.muli 2#32 (IntOp.andi (BitVec.ofNat 32 l.val) 1#32))
    = BitVec.ofNat 32 (4 * (l.val % 64 / 2) + l.val / 64 + 2 * (l.val % 2)) := by decide +kernel
  unfold k0_pay386 k0_pay383 k0_pay384 k0_pay385; pointwise; exact key l
theorem pat1_lane (a : Fin 32) (l : Fin 128) : secondPat k0_pay383 k0_pay384 k0_pay387 k0_pay388 (ix2 a l) = BitVec.ofNat 32 ((4 * (l.val % 64 / 2) + l.val / 64 + 2 + 2 * (l.val % 2)) % 128) := by
  have key : ∀ l : Fin 128, Scalar.select (IntOp.cmpi .eq (IntOp.andi (BitVec.ofNat 32 l.val) 1#32) 0#32)
      (IntOp.addi (IntOp.addi (IntOp.muli 4#32 (IntOp.andi (IntOp.shrsi .vector (BitVec.ofNat 32 l.val) 1#32) 31#32)) (IntOp.shrsi .vector (BitVec.ofNat 32 l.val) 6#32)) 2#32)
      (IntOp.andi (IntOp.addi (IntOp.addi (IntOp.muli 4#32 (IntOp.andi (IntOp.shrsi .vector (BitVec.ofNat 32 l.val) 1#32) 31#32)) (IntOp.shrsi .vector (BitVec.ofNat 32 l.val) 6#32)) 4#32) 127#32)
    = BitVec.ofNat 32 ((4 * (l.val % 64 / 2) + l.val / 64 + 2 + 2 * (l.val % 2)) % 128) := by decide +kernel
  unfold secondPat k0_pay387 k0_pay388 k0_pay383 k0_pay384 k0_pay385; pointwise; exact key l
theorem low_lane (a : Fin 32) (l : Fin 128) : k0_pay382 (ix2 a l) = BitVec.ofNat 1 ((l.val / 2 + 1) % 2) := by
  have key : ∀ l : Fin 128, IntOp.cmpi .eq (IntOp.andi (BitVec.ofNat 32 l.val) 2#32) 0#32 = BitVec.ofNat 1 ((l.val / 2 + 1) % 2) := by decide +kernel
  unfold k0_pay382; pointwise; exact key l

theorem out0B_apply (v0 v1 inv : B) (a : Fin 32) (l g : Fin 128) (hg : g.val = 4 * (l.val % 64 / 2) + l.val / 64) :
    out0B k0_pay382 k0_pay386 v0 v1 inv (ix2 a l) = if l.val % 2 = 0 then clampE (v0 (ix2 a g) * inv (ix2 a g)) else clampE (v1 (ix2 a g) * inv (ix2 a g)) := by
  have hl := l.isLt
  unfold out0B
  rw [takeB_apply _ _ a l ⟨4 * (l.val % 64 / 2) + l.val / 64 + 2 * (l.val % 2), by omega⟩ (pat0_lane a l)]
  show Scalar.select (k0_pay382 _) _ _ = _
  rw [low_lane, sel1, rollB_apply, quantB_apply, quantB_apply]
  have E : ∀ (x : B) (n : Fin 128), n.val = g.val → x (ix2 a n) = x (ix2 a g) := fun x n h => by rw [Fin.ext h]
  have hc : ∀ l : Fin 128, (((4 * (l.val % 64 / 2) + l.val / 64 + 2 * (l.val % 2)) / 2 + 1) % 2 = 1) = (l.val % 2 = 0) := by decide +kernel
  simp only [hc]
  split_ifs <;> first
    | omega
    | (refine congrArg clampE (congrArg₂ (· * ·) (E _ _ ?_) (E _ _ ?_)) <;> (try dsimp only) <;> omega)

theorem out1B_apply (v0 v1 inv : B) (a : Fin 32) (l g : Fin 128) (hg : g.val = 4 * (l.val % 64 / 2) + 2 + l.val / 64) :
    out1B k0_pay382 (secondPat k0_pay383 k0_pay384 k0_pay387 k0_pay388) v0 v1 inv (ix2 a l) = if l.val % 2 = 0 then clampE (v0 (ix2 a g) * inv (ix2 a g)) else clampE (v1 (ix2 a g) * inv (ix2 a g)) := by
  have hl := l.isLt
  unfold out1B
  rw [takeB_apply _ _ a l ⟨(4 * (l.val % 64 / 2) + l.val / 64 + 2 + 2 * (l.val % 2)) % 128, by omega⟩ (pat1_lane a l)]
  show Scalar.select (k0_pay382 _) _ _ = _
  rw [low_lane, sel1, rollB_apply, quantB_apply, quantB_apply]
  have E : ∀ (x : B) (n : Fin 128), n.val = g.val → x (ix2 a n) = x (ix2 a g) := fun x n h => by rw [Fin.ext h]
  have hc : ∀ l : Fin 128, (((4 * (l.val % 64 / 2) + l.val / 64 + 2 + 2 * (l.val % 2)) % 128 / 2 + 1) % 2 = 1) = ¬ (l.val % 2 = 0) := by decide +kernel
  simp only [hc]
  split_ifs <;> first
    | omega
    | (refine congrArg clampE (congrArg₂ (· * ·) (E _ _ ?_) (E _ _ ?_)) <;> (try dsimp only) <;> omega)

/-- The scratch column whose kept entries go to column `j` of the values. -/
def keptCol (j : Nat) : Nat := 128 * (j / 256) + 4 * (j % 64 / 2) + j % 256 / 64
theorem keptCol_lt {j : Nat} (h : j < 2048) : keptCol j < 1024 := by unfold keptCol; omega
/-- Column `j` of the values, from the two rows of kept entries and the row's factor. -/
def valueE (V0 V1 : Fin 512 → Fin 1024 → EReal) (I : Fin 512 → EReal) (r : Fin 512) (j : Fin 2048) : EReal :=
  if j.val % 2 = 0 then clampE (V0 r ⟨keptCol j.val, keptCol_lt j.isLt⟩ * I r) else clampE (V1 r ⟨keptCol j.val, keptCol_lt j.isLt⟩ * I r)

/-- A piece of the values agrees with the function `G` of its row and column. -/
def Agrees8 (G : Fin 512 → Fin 2048 → EReal) (p : View.Piece (Elt Ideal) S512x2048 .fp8e4m3) : Prop :=
  ∀ x, p.2 x = G (p.1.emb x 0) (p.1.emb x 1)
theorem agrees8_unit (G : Fin 512 → Fin 2048 → EReal) (o : Fin 2 → Nat) (h : ∀ a, o a + S32x128.size a ≤ S512x2048.size a) (v : B8)
    (H : ∀ (a : Fin 32) (l : Fin 128) (r : Fin 512) (c : Fin 2048), r.val = o 0 + a.val → c.val = o 1 + l.val → v (ix2 a l) = G r c) :
    Agrees8 G ⟨Rect.unit (s := S512x2048) o S32x128.size h, v⟩ := by
  intro x
  refine (congrArg v (eq_ix2 (n0 := 32) (n1 := 128) x)).trans (H (x 0) (x 1) _ _ ?_ ?_)
  · show o 0 + 1 * _ = _; rw [Nat.one_mul]
  · show o 1 + 1 * _ = _; rw [Nat.one_mul]

/-- A load of a 32×128 block of a buffer whose entries are known. -/
theorem ldS_apply {n : Nat} {m : Memref sig .tc .vmem ⟨2, ![512, n]⟩ .bf16} (X : BufTy.Contents (Elt Ideal) m.view.ty) (V : Fin 512 → Fin n → EReal)
    (hV : ∀ r g, m.view.read (Elt Ideal) X (ix2 r g) = V r g) (k C : Nat) (o : Fin 2 → Nat)
    (h : ∀ a, o a + S32x128.size a ≤ (⟨2, ![512, n]⟩ : Shape).size a) (ho : o = ![32 * k, C]) (a : Fin 32) (l : Fin 128)
    (r : Fin 512) (c : Fin n) (hr : r.val = 32 * k + a.val) (hc : c.val = C + l.val) :
    View.readAt (Elt Ideal) m.view (Rect.unit (s := ⟨2, ![512, n]⟩) o S32x128.size h).toLoadRect X (ix2 a l) = V r c := by
  subst ho
  rw [View.readAt_apply, ← hV]
  refine congrArg _ (funext fun d => Fin.ext ?_)
  match d with
  | ⟨0, _⟩ => show 32 * k + 1 * a.val = r.val; rw [Nat.one_mul, hr]
  | ⟨1, _⟩ => show C + 1 * l.val = c.val; rw [Nat.one_mul, hc]

variable (X6 : BufTy.Contents (Elt Ideal) arg6.view.ty) (X7 : BufTy.Contents (Elt Ideal) arg7.view.ty) (X9 : BufTy.Contents (Elt Ideal) arg9.view.ty)
  (V0 V1 : Fin 512 → Fin 1024 → EReal) (I : Fin 512 → EReal)
  (h6 : ∀ r g, arg6.view.read (Elt Ideal) X6 (ix2 r g) = V0 r g) (h7 : ∀ r g, arg7.view.read (Elt Ideal) X7 (ix2 r g) = V1 r g)
  (h9 : ∀ (r : Fin 512) (g : Fin 128), arg9.view.read (Elt Ideal) X9 (ix2 r g) = I r)

include h6 h7 h9
theorem out0_agree (n s : Nat) (hs : s < 8) (oI oL oS : Fin 2 → Nat) (hI hL hL' hS) (eI : oI = ![32 * n, 0]) (eL : oL = ![32 * n, 128 * s]) (eS : oS = ![32 * n, 256 * s]) :
    Agrees8 (valueE V0 V1 I) ⟨Rect.unit (s := S512x2048) oS S32x128.size hS, out0B k0_pay382 k0_pay386
      (View.readAt (Elt Ideal) arg6.view (Rect.unit (s := S512x1024) oL S32x128.size hL).toLoadRect X6)
      (View.readAt (Elt Ideal) arg7.view (Rect.unit (s := S512x1024) oL S32x128.size hL').toLoadRect X7)
      (View.readAt (Elt Ideal) arg9.view (Rect.unit (s := S512x128) oI S32x128.size hI).toLoadRect X9)⟩ := by
  refine agrees8_unit _ _ _ _ fun a l r c hr hc => ?_
  have hl := l.isLt
  rw [eS] at hr hc
  simp only [Matrix.cons_val_zero, Matrix.cons_val_one] at hr hc
  rw [out0B_apply _ _ _ a l ⟨4 * (l.val % 64 / 2) + l.val / 64, by omega⟩ rfl,
    ldS_apply X6 V0 h6 n (128 * s) oL hL eL a _ r ⟨keptCol c.val, keptCol_lt c.isLt⟩ hr (by simp only [keptCol, hc]; omega),
    ldS_apply X7 V1 h7 n (128 * s) oL hL' eL a _ r ⟨keptCol c.val, keptCol_lt c.isLt⟩ hr (by simp only [keptCol, hc]; omega),
    ldS_apply X9 (fun r _ => I r) h9 n 0 oI hI eI a _ r _ hr (Nat.zero_add _).symm]
  have e : l.val % 2 = c.val % 2 := by rw [hc]; omega
  rw [e]; rfl

theorem out1_agree (n s : Nat) (hs : s < 8) (oI oL oS : Fin 2 → Nat) (hI hL hL' hS) (eI : oI = ![32 * n, 0]) (eL : oL = ![32 * n, 128 * s]) (eS : oS = ![32 * n, 256 * s + 128]) :
    Agrees8 (valueE V0 V1 I) ⟨Rect.unit (s := S512x2048) oS S32x128.size hS, out1B k0_pay382 (secondPat k0_pay383 k0_pay384 k0_pay387 k0_pay388)
      (View.readAt (Elt Ideal) arg6.view (Rect.unit (s := S512x1024) oL S32x128.size hL).toLoadRect X6)
      (View.readAt (Elt Ideal) arg7.view (Rect.unit (s := S512x1024) oL S32x128.size hL').toLoadRect X7)
      (View.readAt (Elt Ideal) arg9.view (Rect.unit (s := S512x128) oI S32x128.size hI).toLoadRect X9)⟩ := by
  refine agrees8_unit _ _ _ _ fun a l r c hr hc => ?_
  have hl := l.isLt
  rw [eS] at hr hc
  simp only [Matrix.cons_val_zero, Matrix.cons_val_one] at hr hc
  rw [out1B_apply _ _ _ a l ⟨4 * (l.val % 64 / 2) + 2 + l.val / 64, by omega⟩ rfl,
    ldS_apply X6 V0 h6 n (128 * s) oL hL eL a _ r ⟨keptCol c.val, keptCol_lt c.isLt⟩ hr (by simp only [keptCol, hc]; omega),
    ldS_apply X7 V1 h7 n (128 * s) oL hL' eL a _ r ⟨keptCol c.val, keptCol_lt c.isLt⟩ hr (by simp only [keptCol, hc]; omega),
    ldS_apply X9 (fun r _ => I r) h9 n 0 oI hI eI a _ r _ hr (Nat.zero_add _).symm]
  have e : l.val % 2 = c.val % 2 := by rw [hc]; omega
  rw [e]; rfl

theorem agree3_trip (k : Fin k0_t2_loop.trips) : ∀ p ∈ (tripL_k0_t2 (F := Ideal) 𝒱 c bd i arg1 harg1 arg2 harg2 arg3 harg3 arg4 harg4 arg5 harg5 arg6 harg6 arg7 harg7 arg8 harg8 arg9 harg9 k0_pay382 k0_pay383 k0_pay384 k0_pay386 k0_pay387 k0_pay388 X6 X7 X9 k), Agrees8 (valueE V0 V1 I) p := by
  rw [show tripL_k0_t2 (F := Ideal) 𝒱 c bd i arg1 harg1 arg2 harg2 arg3 harg3 arg4 harg4 arg5 harg5 arg6 harg6 arg7 harg7 arg8 harg8 arg9 harg9 k0_pay382 k0_pay383 k0_pay384 k0_pay386 k0_pay387 k0_pay388 X6 X7 X9 k = (trip_k0_t2 (F := Ideal) 𝒱 c bd i arg1 harg1 arg2 harg2 arg3 harg3 arg4 harg4 arg5 harg5 arg6 harg6 arg7 harg7 arg8 harg8 arg9 harg9 k0_pay382 k0_pay383 k0_pay384 k0_pay386 k0_pay387 k0_pay388 X6 X7 X9 k).1 from rfl, trip2]
  simp only [List.forall_mem_cons]
  refine ⟨?_, ?_, ?_, ?_, ?_, ?_, ?_, ?_, ?_, ?_, ?_, ?_, ?_, ?_, ?_, ?_, by simp⟩
  · exact out1_agree arg6 arg7 arg9 X6 X7 X9 V0 V1 I h6 h7 h9 k.val 7 (by decide) _ _ _ _ _ _ _ (k0_off42_eq k) (k0_off64_eq k) (k0_off66_eq k)
  · exact out0_agree arg6 arg7 arg9 X6 X7 X9 V0 V1 I h6 h7 h9 k.val 7 (by decide) _ _ _ _ _ _ _ (k0_off42_eq k) (k0_off64_eq k) (k0_off65_eq k)
  · exact out1_agree arg6 arg7 arg9 X6 X7 X9 V0 V1 I h6 h7 h9 k.val 6 (by decide) _ _ _ _ _ _ _ (k0_off42_eq k) (k0_off61_eq k) (k0_off63_eq k)
  · exact out0_agree arg6 arg7 arg9 X6 X7 X9 V0 V1 I h6 h7 h9 k.val 6 (by decide) _ _ _ _ _ _ _ (k0_off42_eq k) (k0_off61_eq k) (k0_off62_eq k)
  · exact out1_agree arg6 arg7 arg9 X6 X7 X9 V0 V1 I h6 h7 h9 k.val 5 (by decide) _ _ _ _ _ _ _ (k0_off42_eq k) (k0_off58_eq k) (k0_off60_eq k)
  · exact out0_agree arg6 arg7 arg9 X6 X7 X9 V0 V1 I h6 h7 h9 k.val 5 (by decide) _ _ _ _ _ _ _ (k0_off42_eq k) (k0_off58_eq k) (k0_off59_eq k)
  · exact out1_agree arg6 arg7 arg9 X6 X7 X9 V0 V1 I h6 h7 h9 k.val 4 (by decide) _ _ _ _ _ _ _ (k0_off42_eq k) (k0_off55_eq k) (k0_off57_eq k)
  · exact out0_agree arg6 arg7 arg9 X6 X7 X9 V0 V1 I h6 h7 h9 k.val 4 (by decide) _ _ _ _ _ _ _ (k0_off42_eq k) (k0_off55_eq k) (k0_off56_eq k)
  · exact out1_agree arg6 arg7 arg9 X6 X7 X9 V0 V1 I h6 h7 h9 k.val 3 (by decide) _ _ _ _ _ _ _ (k0_off42_eq k) (k0_off52_eq k) (k0_off54_eq k)
  · exact out0_agree arg6 arg7 arg9 X6 X7 X9 V0 V1 I h6 h7 h9 k.val 3 (by decide) _ _ _ _ _ _ _ (k0_off42_eq k) (k0_off52_eq k) (k0_off53_eq k)
  · exact out1_agree arg6 arg7 arg9 X6 X7 X9 V0 V1 I h6 h7 h9 k.val 2 (by decide) _ _ _ _ _ _ _ (k0_off42_eq k) (k0_off49_eq k) (k0_off51_eq k)
  · exact out0_agree arg6 arg7 arg9 X6 X7 X9 V0 V1 I h6 h7 h9 k.val 2 (by decide) _ _ _ _ _ _ _ (k0_off42_eq k) (k0_off49_eq k) (k0_off50_eq k)
  · exact out1_agree arg6 arg7 arg9 X6 X7 X9 V0 V1 I h6 h7 h9 k.val 1 (by decide) _ _ _ _ _ _ _ (k0_off42_eq k) (k0_off46_eq k) (k0_off48_eq k)
  · exact out0_agree arg6 arg7 arg9 X6 X7 X9 V0 V1 I h6 h7 h9 k.val 1 (by decide) _ _ _ _ _ _ _ (k0_off42_eq k) (k0_off46_eq k) (k0_off47_eq k)
  · exact out1_agree arg6 arg7 arg9 X6 X7 X9 V0 V1 I h6 h7 h9 k.val 0 (by decide) _ _ _ _ _ _ _ (k0_off42_eq k) (k0_off43_eq k) (k0_off45_eq k)
  · exact out0_agree arg6 arg7 arg9 X6 X7 X9 V0 V1 I h6 h7 h9 k.val 0 (by decide) _ _ _ _ _ _ _ (k0_off42_eq k) (k0_off43_eq k) (k0_off44_eq k)

theorem agree3 (n : Nat) (hn : n ≤ k0_t2_loop.trips) : ∀ p ∈ (pb_k0_t2 (F := Ideal) 𝒱 c bd i arg1 harg1 arg2 harg2 arg3 harg3 arg4 harg4 arg5 harg5 arg6 harg6 arg7 harg7 arg8 harg8 arg9 harg9 k0_pay382 k0_pay383 k0_pay384 k0_pay386 k0_pay387 k0_pay388 X6 X7 X9 n), Agrees8 (valueE V0 V1 I) p := by
  induction n with
  | zero => intro p hp; simp [pb_k0_t2] at hp
  | succ n ih =>
    intro p hp
    rw [pb_k0_t2_succ 𝒱 c bd i arg1 harg1 arg2 harg2 arg3 harg3 arg4 harg4 arg5 harg5 arg6 harg6 arg7 harg7 arg8 harg8 arg9 harg9 k0_pay382 k0_pay383 k0_pay384 k0_pay386 k0_pay387 k0_pay388 X6 X7 X9 ⟨n, hn⟩] at hp
    rcases List.mem_append.1 hp with h | h
    · exact agree3_trip 𝒱 c bd i arg1 harg1 arg2 harg2 arg3 harg3 arg4 harg4 arg5 harg5 arg6 harg6 arg7 harg7 arg8 harg8 arg9 harg9 X6 X7 X9 V0 V1 I h6 h7 h9 ⟨n, hn⟩ p h
    · exact ih (by omega) p h

end Cert.KernelIdeal.Hand
end
-- ==== Proof.Tail.lean ====
/- What a grid point leaves in its three result blocks, read at an index. -/
module

public import proofs.«01_k».proof.Proof.Trip2
public import proofs.«01_k».proof.Proof.KValue
public import Idealize.ShloMosaic.Lib.Pointwise

@[expose] public section

set_option maxRecDepth 65536
set_option maxHeartbeats 4000000
set_option pp.maxSteps 600

noncomputable section

namespace Cert.KernelIdeal.Hand

open Cert.KernelIdeal Cert.KernelIdeal.Gen Idealize.ShloMosaic Idealize.ShloMosaic.TcCoe Idealize.ShloMosaic.Tactic

/-- The largest magnitudes of a row block, one per lane. -/
def amaxV (x0 : W) : Vec Ideal S512x128 .bf16 := fun j => amaxE x0 (j 0) (j 1)
def codeV (x0 : W) : Vec Ideal S512x1024 .bf16 := fun j => onSrc codeE x0 (j 0) (j 1)
/-- The exponent of a row. -/
def expW (x0 : W) (r : Fin 512) : BitVec 32 := k0_pay373 (F := Ideal) (amaxV x0) (ix2 r 0)
def invW (e : BitVec 32) : EReal := Ideal.ofBits .f32 (IntOp.shli .vector (IntOp.subi 127#32 e) 23#32)
def scaleW (e : BitVec 32) : EReal := Ideal.ofBits .f32 (IntOp.shli .vector (IntOp.addi e 127#32) 23#32)
theorem inv_apply (v : IVec S512x1 32) (r : Fin 512) (l : Fin 128) : k0_pay375 (F := Ideal) v (ix2 r l) = invW (v (ix2 r 0)) := by
  unfold k0_pay375 invW; pointwise
theorem scale_apply (v : Vec Ideal S512x128 .bf16) (r : Fin 512) : k0_pay374 (F := Ideal) v (ix2 r 0) = scaleW (k0_pay373 (F := Ideal) v (ix2 r 0)) := by
  unfold k0_pay374 scaleW; pointwise
theorem sum_select (f : Fin 128 → EReal) (l : Fin 128) :
    ∑ x : Fin 128, Scalar.select (IntOp.cmpi .eq (BitVec.ofNat 32 x.val) (BitVec.ofNat 32 l.val)) (f x) 0 = f l := by
  have h : ∀ x : Fin 128, (IntOp.cmpi .eq (BitVec.ofNat 32 x.val) (BitVec.ofNat 32 l.val)) = if x = l then 1#1 else 0#1 := by
    revert l; decide +kernel
  simp only [h]
  rw [Finset.sum_eq_single l]
  · simp [Scalar.select]
  · intro b _ hb; simp [Scalar.select, hb]
  · simp

section
variable (c : Dev nD) (i : grid0.Coords) (arg1 : Memref sig .tc .vmem S512x4096 .bf16) (harg1 : arg1.IsWhole) (arg2 : Memref sig .tc .vmem S1024x256 .bf16) (harg2 : arg2.IsWhole) (arg3 : Memref sig .tc .vmem S512x2048 .fp8e4m3) (harg3 : arg3.IsWhole) (arg4 : Memref sig .tc .vmem S512x128 .i32) (harg4 : arg4.IsWhole) (arg5 : Memref sig .tc .vmem S1x4x128 .f32) (harg5 : arg5.IsWhole) (arg6 : Memref sig .tc .vmem S512x1024 .bf16) (harg6 : arg6.IsWhole) (arg7 : Memref sig .tc .vmem S512x1024 .bf16) (harg7 : arg7.IsWhole) (arg8 : Memref sig .tc .vmem S512x1024 .bf16) (harg8 : arg8.IsWhole) (arg9 : Memref sig .tc .vmem S512x128 .bf16) (harg9 : arg9.IsWhole) (x0 : W) (x1 : Vec Ideal S1024x256 .bf16)

theorem cov8 (inb : ∀ a, (![0, 0] : Fin 2 → Nat) a + S512x1024.size a ≤ S512x1024.size a) : arg8.view.readCov (pb_k0_t1 (F := Ideal) Variants.none c none i arg1 harg1 arg2 harg2 arg3 harg3 arg4 harg4 arg5 harg5 arg6 harg6 arg7 harg7 arg8 harg8 arg9 harg9 (harg1.unread x0) (Scf.trips k0_t1_loop.lb k0_t1_loop.ub k0_t1_loop.st)).2.2.1 (Rect.unit ![0, 0] S512x1024.size inb).toLoadRect = codeV x0 := by
  have h : (![0, 0] : Fin 2 → Nat) = fun _ => 0 := by decide
  refine (View.ld_unit_zero (S := S512x1024) h inb _).trans (funext fun j => ?_)
  rw [eq_ix2 j]
  exact read8 Variants.none c none i arg1 harg1 arg2 harg2 arg3 harg3 arg4 harg4 arg5 harg5 arg6 harg6 arg7 harg7 arg8 harg8 arg9 harg9 x0 _ _
theorem cov9 (inb : ∀ a, (![0, 0] : Fin 2 → Nat) a + S512x128.size a ≤ S512x128.size a) : arg9.view.readCov (pb_k0_t1 (F := Ideal) Variants.none c none i arg1 harg1 arg2 harg2 arg3 harg3 arg4 harg4 arg5 harg5 arg6 harg6 arg7 harg7 arg8 harg8 arg9 harg9 (harg1.unread x0) (Scf.trips k0_t1_loop.lb k0_t1_loop.ub k0_t1_loop.st)).2.2.2 (Rect.unit ![0, 0] S512x128.size inb).toLoadRect = amaxV x0 := by
  have h : (![0, 0] : Fin 2 → Nat) = fun _ => 0 := by decide
  refine (View.ld_unit_zero (S := S512x128) h inb _).trans (funext fun j => ?_)
  rw [eq_ix2 j]
  exact read9 Variants.none c none i arg1 harg1 arg2 harg2 arg3 harg3 arg4 harg4 arg5 harg5 arg6 harg6 arg7 harg7 arg8 harg8 arg9 harg9 x0 _ _

/-- The metadata block. -/
theorem out3_eq : out0_A_3 (F := Ideal) c i arg1 harg1 arg2 harg2 arg3 harg3 arg4 harg4 arg5 harg5 arg6 harg6 arg7 harg7 arg8 harg8 arg9 harg9 x0 x1 = k0_pay6 (codeV x0) x1 := by
  have h : (![0, 0] : Fin 2 → Nat) = fun _ => 0 := by decide
  unfold out0_A_3
  rw [View.read_writes_eq_canon _ _ _ (cover0_A_3 (F := Ideal) c i arg1 harg1 arg2 harg2 arg3 harg3 arg4 harg4 arg5 harg5 arg6 harg6 arg7 harg7 arg8 harg8 arg9 harg9 x0 x1)]
  unfold kernelRun0_A; dsimp only; sl_unfold_words
  refine (View.canon_unit_zero (S := S512x128) h _ _).trans ?_
  refine congrArg₂ k0_pay6 (cov8 c i arg1 harg1 arg2 harg2 arg3 harg3 arg4 harg4 arg5 harg5 arg6 harg6 arg7 harg7 arg8 harg8 arg9 harg9 x0 _) ?_
  refine (View.ld_unit_zero (S := S1024x256) h _ _).trans ?_
  exact harg2.read_unread x1

theorem scale_piece (s : Nat) (hs : s < 4) (o : Fin 3 → Nat) (ho : o = ![0, s, 0]) (inb : ∀ a, o a + S1x1x128.size a ≤ S1x4x128.size a) (w : Vec Ideal S1x1x128 .f32) (f : Fin 512 → EReal)
    (hw : ∀ l : Fin 128, w (ix3 0 0 l) = f ⟨128 * s + l.val, by omega⟩) (x : (Rect.unit (s := S1x4x128) o S1x1x128.size inb).shape.Idx) :
    w x = (fun y : S1x4x128.Idx => f ⟨128 * (y 1).val + (y 2).val, by have := (y 1).isLt; have := (y 2).isLt; simp at *; omega⟩) ((Rect.unit (s := S1x4x128) o S1x1x128.size inb).emb x) := by
  subst ho
  have e : x = ix3 (0 : Fin 1) (0 : Fin 1) (x 2 : Fin 128) := by
    refine (eq_ix3 (n0 := 1) (n1 := 1) (n2 := 128) x).trans ?_
    congr 1 <;> exact Subsingleton.elim _ _
  have h0 : (x 1).val = 0 := by have : (x 1).val < 1 := (x 1).isLt; omega
  refine (congrArg w e).trans ((hw (x 2)).trans (congrArg f (Fin.ext ?_)))
  show 128 * s + (x 2).val = 128 * (s + 1 * (x 1).val) + (0 + 1 * (x 2).val)
  omega

/-- The scale block. -/
theorem out4_apply (q : Fin 4) (l : Fin 128) : out0_A_4 (F := Ideal) c i arg1 harg1 arg2 harg2 arg3 harg3 arg4 harg4 arg5 harg5 arg6 harg6 arg7 harg7 arg8 harg8 arg9 harg9 x0 x1 (ix3 0 q l) = scaleW (expW x0 ⟨128 * q.val + l.val, by omega⟩) := by
  unfold out0_A_4
  refine View.read_writes_apply_of_pieces (Val := Elt Ideal) VO0_4 _ (fun y : S1x4x128.Idx => (fun r => scaleW (expW x0 r)) ⟨128 * (y 1).val + (y 2).val, by have := (y 1).isLt; have := (y 2).isLt; simp at *; omega⟩) _ ?_ _ (cover0_A_4 (F := Ideal) c i arg1 harg1 arg2 harg2 arg3 harg3 arg4 harg4 arg5 harg5 arg6 harg6 arg7 harg7 arg8 harg8 arg9 harg9 x0 x1 _)
  unfold kernelRun0_A; dsimp only; sl_unfold_words
  simp only [List.forall_mem_cons]
  refine ⟨scale_piece 3 (by omega) _ rfl _ _ (fun r => scaleW (expW x0 r)) fun l => ?_, scale_piece 2 (by omega) _ rfl _ _ (fun r => scaleW (expW x0 r)) fun l => ?_, scale_piece 1 (by omega) _ rfl _ _ (fun r => scaleW (expW x0 r)) fun l => ?_, scale_piece 0 (by omega) _ rfl _ _ (fun r => scaleW (expW x0 r)) fun l => ?_, by simp⟩ <;>
    rw [cov9 c i arg1 harg1 arg2 harg2 arg3 harg3 arg4 harg4 arg5 harg5 arg6 harg6 arg7 harg7 arg8 harg8 arg9 harg9 x0]
  · have e := sum_select (fun x => k0_pay374 (F := Ideal) (amaxV x0) (ix2 ⟨384 + x.val, by omega⟩ 0)) l
    rw [scale_apply] at e
    refine Eq.trans ?_ e
    unfold k0_pay381 k0_pay376; pointwise
  · have e := sum_select (fun x => k0_pay374 (F := Ideal) (amaxV x0) (ix2 ⟨256 + x.val, by omega⟩ 0)) l
    rw [scale_apply] at e
    refine Eq.trans ?_ e
    unfold k0_pay380 k0_pay379 k0_pay376; pointwise
  · have e := sum_select (fun x => k0_pay374 (F := Ideal) (amaxV x0) (ix2 ⟨128 + x.val, by omega⟩ 0)) l
    rw [scale_apply] at e
    refine Eq.trans ?_ e
    unfold k0_pay378 k0_pay376; pointwise
  · have e := sum_select (fun x => k0_pay374 (F := Ideal) (amaxV x0) (ix2 ⟨0 + x.val, by omega⟩ 0)) l
    rw [scale_apply] at e
    refine Eq.trans ?_ e
    unfold k0_pay377 k0_pay376; pointwise

end

end Cert.KernelIdeal.Hand
end
-- ==== Proof.Pay.lean ====
/- The metadata and exponent payloads at an index. -/
module

public import proofs.«01_k».proof.Proof.Tail
public import Idealize.ShloMosaic.Lib.Pointwise

@[expose] public section

set_option maxRecDepth 65536
set_option maxHeartbeats 1000000
set_option pp.maxSteps 600

noncomputable section

namespace Cert.KernelIdeal.Hand

open Cert.KernelIdeal Cert.KernelIdeal.Gen Idealize.ShloMosaic Idealize.ShloMosaic.TcCoe Idealize.ShloMosaic.Tactic

/-- One word of packed codes: the low half from the columns `l`, the high half from the columns `128 + l`. -/
theorem pay6_apply (v : Vec Ideal S512x1024 .bf16) (w : Vec Ideal S1024x256 .bf16) (r : Fin 512) (l : Fin 128) :
    k0_pay6 (F := Ideal) v w (ix2 r l) = IntOp.ori (Ideal.fptosi 32 (∑ x : Fin 1024, v (ix2 r x) * w (ix2 x ⟨l.val, by omega⟩)))
      (IntOp.shli .vector (Ideal.fptosi 32 (∑ x : Fin 1024, v (ix2 r x) * w (ix2 x ⟨128 + l.val, by omega⟩))) 16#32) := by
  unfold k0_pay6; pointwise; rfl
/-- The row maximum, scaled. -/
def rowE (v : Vec Ideal S512x128 .bf16) (r : Fin 512) : EReal := Finset.fold max (Ideal.ofBits .f32 4286578688#32) (fun x : Fin 128 => v (ix2 r x)) Finset.univ * Ideal.ofBits .f32 991054117#32
/-- How many powers of two are not above it. -/
def countE (x : EReal) : BitVec 32 := Finset.fold IntOp.addi 0#32 (fun k : Fin 256 => Scalar.select
  (IntOp.andi (BitVec.ofBool (decide (Ideal.ofBits .f32 (IntOp.shli .vector (BitVec.ofNat 32 k.val) 23#32) ≤ x))) (IntOp.cmpi .sgt (BitVec.ofNat 32 k.val) 0#32)) 1#32 0#32) Finset.univ
def expoE (x : EReal) : BitVec 32 := Scalar.select (IntOp.ori (IntOp.cmpi .eq (countE x) 0#32) (IntOp.cmpi .eq (countE x) 255#32)) 0#32 (IntOp.subi (countE x) 126#32)
theorem pay373_apply (v : Vec Ideal S512x128 .bf16) (r : Fin 512) : k0_pay373 (F := Ideal) v (ix2 r 0) = expoE (rowE v r) := by
  unfold k0_pay373 expoE countE rowE; pointwise
end Cert.KernelIdeal.Hand
end
-- ==== Proof.RefTail.lean ====
/- The reference's kept entries in order, row maximum, exponent, scale and reciprocal, read at an index. -/
module

public import proofs.«01_k».proof.Proof.RefSel
public import Idealize.ShloMosaic.Lib.StableHlo.ReadAt
public import Idealize.ShloMosaic.Lib.Pointwise

@[expose] public section

set_option maxRecDepth 65536
set_option maxHeartbeats 4000000
set_option pp.maxSteps 300

noncomputable section

namespace Cert.ReferenceIdeal.Hand

open Cert.ReferenceIdeal Cert.ReferenceIdeal.Gen Idealize.ShloMosaic Idealize.ShloMosaic.TcCoe Idealize.ShloMosaic.Tactic

variable (m : (ℓ : Loc nD τ sig) → Buf (Elt Ideal) ℓ) (c : Dev nD)

theorem W91 : W0 m c main_v91 = V m c main_v91 := by rw [V_W0]; after_reads_simp
theorem W100 : W0 m c main_v100 = V m c main_v100 := by rw [V_W0]; after_reads_simp
theorem W126 : W2 m c main_v126 = V m c main_v126 := by rw [V_W2]; after_reads_simp
theorem W101 : Wn m 2 c main_v101 = V m c main_v101 := by rw [V_Wn m c 2]; simp only [List.drop]; after_reads_simp
theorem W102 : Wn m 2 c main_v102 = V m c main_v102 := by rw [V_Wn m c 2]; simp only [List.drop]; after_reads_simp
theorem W104 : Wn m 4 c main_v104 = V m c main_v104 := by rw [V_Wn m c 4]; simp only [List.drop]; after_reads_simp
theorem W106 : Wn m 6 c main_v106 = V m c main_v106 := by rw [V_Wn m c 6]; simp only [List.drop]; after_reads_simp
theorem W107 : Wn m 8 c main_v107 = V m c main_v107 := by rw [V_Wn m c 8]; simp only [List.drop]; after_reads_simp
theorem W110 : Wn m 16 c main_v110 = V m c main_v110 := by rw [V_Wn m c 16]; simp only [List.drop]; after_reads_simp

theorem W113 : Wn m 16 c main_v113 = V m c main_v113 := by rw [V_Wn m c 16]; simp only [List.drop]; after_reads_simp
theorem W125 : Wn m 30 c main_v125 = V m c main_v125 := by rw [V_Wn m c 30]; simp only [List.drop]; after_reads_simp
theorem W113' : Wn m 30 c main_v113 = V m c main_v113 := by rw [V_Wn m c 30]; simp only [List.drop]; after_reads_simp

theorem V101 (r : Fin 14336) (g : Fin 1024) : V m c main_v101 (ix3 r g 0) = V m c main_v91 (ix2 r g) := by
  rw [← W91, V_W0]; after_reads_at
theorem V102 (r : Fin 14336) (g : Fin 1024) : V m c main_v102 (ix3 r g 0) = V m c main_v100 (ix2 r g) := by
  rw [← W100, V_W0]; after_reads_at
/-- Two columns stacked and laid out in order, read at an index. -/
theorem stack_at (A B : Vec Ideal S14336x1024x1 .bf16) (r : Fin 14336) (j : Fin 2048) :
    shapeCast S14336x2048 (concatenate S14336x1024x2 2 [⟨S14336x1024x1, A⟩, ⟨S14336x1024x1, B⟩] concatenates_S14336x1024x1_S14336x1024x1_S14336x1024x2_d2) shapeCasts_S14336x1024x2_S14336x2048 (ix2 r j)
      = if j.val % 2 = 0 then A (ix3 r ⟨j.val / 2, by omega⟩ 0) else B (ix3 r ⟨j.val / 2, by omega⟩ 0) := by
  have h0 : ∀ h : j.val % 2 < 1, (⟨j.val % 2, h⟩ : Fin 1) = 0 := fun h => Subsingleton.elim _ _
  have h1 : ∀ h : j.val % 2 - 1 < 1, (⟨j.val % 2 - 1, h⟩ : Fin 1) = 0 := fun h => Subsingleton.elim _ _
  pointwise
  by_cases h : j.val % 2 < 1
  · have hz : j.val % 2 = 0 := by omega
    exact (dif_pos h).trans ((congrArg (fun z => A (ix3 r _ z)) (h0 _)).trans (if_pos hz).symm)
  · have hz : ¬ j.val % 2 = 0 := by omega
    exact (dif_neg h).trans ((congrArg (fun z => B (ix3 r _ z)) (h1 _)).trans (if_neg hz).symm)
theorem V104v : V m c main_v104 = shapeCast S14336x2048 (concatenate S14336x1024x2 2 [⟨S14336x1024x1, V m c main_v101⟩, ⟨S14336x1024x1, V m c main_v102⟩] concatenates_S14336x1024x1_S14336x1024x1_S14336x1024x2_d2) shapeCasts_S14336x1024x2_S14336x2048 := by
  rw [← W101, ← W102, V_Wn m c 2]; simp only [List.drop]
  after_reads_simp
  rfl
/-- The kept entries in order: two per group. -/
theorem V104 (r : Fin 14336) (j : Fin 2048) : V m c main_v104 (ix2 r j) =
    if j.val % 2 = 0 then onGroup m c v0R r ⟨j.val / 2, by omega⟩ else onGroup m c v1R r ⟨j.val / 2, by omega⟩ := by
  rw [V104v, stack_at, V101, V102, V91, V100]
/-- A row's fold, one entry at a time. -/
theorem reduce_row {n k : Nat} {α : Type} (f : α → α → α) [Std.Commutative f] [Std.Associative f] (x : (⟨2, ![k, n]⟩ : Shape).Idx → α) {u : Shape} (init : u.Idx → α)
    (h : (⟨2, ![k, n]⟩ : Shape).ReducesTo [1] ⟨1, ![k]⟩) (hu : 0 < u.numel) (r : Fin k) :
    Host.reduce f x init h hu (ix1 r) = Finset.fold f (init (Shape.Idx.first hu)) (fun j : Fin n => x (ix2 r j)) Finset.univ := by
  rw [Host.reduce_eq_fold]
  exact h.fold_fiber_r2_a1 _ _ _ _
/-- The magnitude of a number. -/
def absR (x : EReal) : EReal := max x (-x)
/-- The maximum of a row with a starting value. -/
def maxOver {n : Nat} (b : EReal) (g : Fin n → EReal) : EReal := Finset.fold max b g Finset.univ
theorem fold_maximumf {n : Nat} (b : EReal) (g : Fin n → EReal) : Finset.fold (FloatOps.maximumf (F := Ideal) (φ := .f32)) b g Finset.univ = maxOver b g := rfl
theorem V106 : V m c main_v106 = Host.absf (F := Ideal) (s := S14336x2048) (φ := .f32) (extf (F := Ideal) (s := S14336x2048) (φ := .bf16) .f32 (V m c main_v104) bitsLt_bf16_f32) := by
  rw [← W104, V_Wn m c 4]; simp only [List.drop]
  after_reads_simp
theorem V107 : V m c main_v107 = Host.reduce FloatOps.maximumf (V m c main_v106) (constant (F := Ideal) S_ .f32 0xFF800000#32) reducesTo_S14336x2048_S14336_d1 h_S_ := by
  rw [← W106, V_Wn m c 6]; simp only [List.drop]
  after_reads_simp
theorem V110v : V m c main_v110 = mulf (F := Ideal) (s := S14336x1) (φ := .f32) (broadcastInDim S14336x1 ![0] bcast_S14336_S14336x1_0 (V m c main_v107))
    (broadcastInDim S14336x1 ![] bcast_S_S14336x1 (constant (F := Ideal) S_ .f32 0x3B124925#32)) := by
  rw [← W107, V_Wn m c 8]; simp only [List.drop]
  after_reads_simp
/-- The row maximum, times the reciprocal of the largest value. -/
theorem V110 (r : Fin 14336) : V m c main_v110 (ix2 r 0) =
    maxOver (Ideal.ofBits FTy.f32 0xFF800000#32) (fun x : Fin 2048 => absR (V m c main_v104 (ix2 r x))) * Ideal.ofBits FTy.f32 0x3B124925#32 := by
  rw [V110v]
  have h := reduce_row (FloatOps.maximumf (F := Ideal) (φ := .f32)) (V m c main_v106) (constant (F := Ideal) S_ .f32 0xFF800000#32) reducesTo_S14336x2048_S14336_d1 h_S_ r
  rw [fold_maximumf, ← V107] at h
  have h2 : ∀ y : S14336.Idx → EReal, mulf (F := Ideal) (s := S14336x1) (φ := .f32) (broadcastInDim S14336x1 ![0] bcast_S14336_S14336x1_0 y)
    (broadcastInDim S14336x1 ![] bcast_S_S14336x1 (constant (F := Ideal) S_ .f32 0x3B124925#32)) (ix2 r 0) = y (ix1 r) * Ideal.ofBits FTy.f32 0x3B124925#32 := by
    intro y; pointwise
  rw [h2]
  refine congrArg (· * Ideal.ofBits FTy.f32 0x3B124925#32) (h.trans ?_)
  refine congrArg₂ maxOver rfl (funext fun x => ?_)
  rw [V106]
  rfl

theorem V113v : V m c main_v113 = subi (iotaInDim S14336x254 32 1) (broadcastInDim S14336x254 ![] bcast_S_S14336x254 (constantI S_ 32 125#32)) := by
  rw [V_Wn m c 12]; simp only [List.drop]
  after_reads_simp
theorem V125v : V m c main_v125 = andi
    (cmpf (F := Ideal) (s := S14336x254) (φ := .f32) .ole (Host.powf (broadcastInDim S14336x254 ![] bcast_S_S14336x254 (constant (F := Ideal) S_ .f32 0x40000000#32))
      (sitofp .f32 (subi (V m c main_v113) (broadcastInDim S14336x254 ![] bcast_S_S14336x254 (constantI S_ 32 1#32))))) (broadcastInDim S14336x254 ![0, 1] bcast_S14336x1_S14336x254_0_1 (V m c main_v110)))
    (cmpf (F := Ideal) (s := S14336x254) (φ := .f32) .olt (broadcastInDim S14336x254 ![0, 1] bcast_S14336x1_S14336x254_0_1 (V m c main_v110)) (Host.powf (broadcastInDim S14336x254 ![] bcast_S_S14336x254 (constant (F := Ideal) S_ .f32 0x40000000#32))
      (sitofp .f32 (V m c main_v113)))) := by
  rw [← W110, ← W113, V_Wn m c 16]; simp only [List.drop]
  after_reads_simp
theorem V126v : V m c main_v126 = select (V m c main_v125) (V m c main_v113) (broadcastInDim S14336x254 ![] bcast_S_S14336x254 (constantI S_ 32 0#32)) := by
  rw [← W125, ← W113', V_Wn m c 30]; simp only [List.drop]
  after_reads_simp
  simp -implicitDefEqProofs only [StableHlo.TRef.toBuf, StableHlo.TRef.ofBuf, cast_cast, cast_eq]
  rfl
/-- The exponent's summand at the number `x`. -/
def expTerm (x : EReal) (k : Fin 254) : BitVec 32 :=
  Scalar.select (IntOp.andi
    (Ideal.cmp .ole (Ideal.pow (Ideal.ofBits FTy.f32 0x40000000#32) (FloatOps.sitofp (F := Ideal) FTy.f32 (IntOp.subi (IntOp.subi (BitVec.ofNat 32 k.val) 125#32) 1#32))) x)
    (Ideal.cmp .olt x (Ideal.pow (Ideal.ofBits FTy.f32 0x40000000#32) (FloatOps.sitofp (F := Ideal) FTy.f32 (IntOp.subi (BitVec.ofNat 32 k.val) 125#32)))))
    (IntOp.subi (BitVec.ofNat 32 k.val) 125#32) 0#32
theorem term_at (X : Vec Ideal S14336x1 .f32) (r : Fin 14336) (k : Fin 254) :
    select (andi
    (cmpf (F := Ideal) (s := S14336x254) (φ := .f32) .ole (Host.powf (broadcastInDim S14336x254 ![] bcast_S_S14336x254 (constant (F := Ideal) S_ .f32 0x40000000#32))
      (sitofp .f32 (subi (subi (iotaInDim S14336x254 32 1) (broadcastInDim S14336x254 ![] bcast_S_S14336x254 (constantI S_ 32 125#32))) (broadcastInDim S14336x254 ![] bcast_S_S14336x254 (constantI S_ 32 1#32))))) (broadcastInDim S14336x254 ![0, 1] bcast_S14336x1_S14336x254_0_1 X))
    (cmpf (F := Ideal) (s := S14336x254) (φ := .f32) .olt (broadcastInDim S14336x254 ![0, 1] bcast_S14336x1_S14336x254_0_1 X) (Host.powf (broadcastInDim S14336x254 ![] bcast_S_S14336x254 (constant (F := Ideal) S_ .f32 0x40000000#32))
      (sitofp .f32 (subi (iotaInDim S14336x254 32 1) (broadcastInDim S14336x254 ![] bcast_S_S14336x254 (constantI S_ 32 125#32)))))))
    (subi (iotaInDim S14336x254 32 1) (broadcastInDim S14336x254 ![] bcast_S_S14336x254 (constantI S_ 32 125#32)))
    (broadcastInDim S14336x254 ![] bcast_S_S14336x254 (constantI S_ 32 0#32)) (ix2 r k) = expTerm (X (ix2 r 0)) k := by
  unfold expTerm Ideal.cmp
  pointwise
theorem V126 (r : Fin 14336) (k : Fin 254) : V m c main_v126 (ix2 r k) = expTerm (V m c main_v110 (ix2 r 0)) k := by
  rw [V126v, V125v, V113v]
  exact term_at _ r k
/-- The words of a row summed. -/
def sumOver {n : Nat} (g : Fin n → BitVec 32) : BitVec 32 := Finset.fold IntOp.addi 0#32 g Finset.univ
/-- The exponent of the number `x`. -/
def expR (x : EReal) : BitVec 32 := sumOver (expTerm x)
theorem V128v : V m c main_v128 = broadcastInDim S14336x1 ![0] bcast_S14336_S14336x1_0 (Host.reduce IntOp.addi (V m c main_v126) (constantI S_ 32 0#32) reducesTo_S14336x254_S14336_d1 h_S_) := by
  rw [← W126, V_W2]
  after_reads_simp
theorem V128 (r : Fin 14336) : V m c main_v128 (ix2 r 0) = expR (V m c main_v110 (ix2 r 0)) := by
  rw [V128v]
  have h2 : ∀ y : S14336.Idx → BitVec 32, broadcastInDim S14336x1 ![0] bcast_S14336_S14336x1_0 y (ix2 r 0) = y (ix1 r) := by
    intro y; pointwise
  rw [h2]
  refine (reduce_row IntOp.addi (V m c main_v126) (constantI S_ 32 0#32) reducesTo_S14336x254_S14336_d1 h_S_ r).trans ?_
  exact congrArg sumOver (funext fun k => V126 m c r k)
theorem W128 (b : Ref sig .tc) : V m c b = StableHlo.after (hostOps0_30.drop 3) (StableHlo.after (hostOps0_30.take 3) (W2 m c)) b := by
  rw [V_W2, ← after_app, List.take_append_drop]
theorem W128' : StableHlo.after (hostOps0_30.take 3) (W2 m c) main_v128 = V m c main_v128 := by
  rw [W128]; simp only [List.drop]; after_reads_simp
theorem V134v : V m c main_v134 = Host.powf (F := Ideal) (s := S14336x1) (φ := .f32) (broadcastInDim S14336x1 ![] bcast_S_S14336x1 (constant (F := Ideal) S_ .f32 0x40000000#32)) (sitofp .f32 (negi (V m c main_v128))) := by
  rw [← W128', W128]; simp only [List.drop]
  after_reads_simp
theorem V135v : V m c main_v135 = shapeCast S28x4x128 (Host.powf (F := Ideal) (s := S14336x1) (φ := .f32) (broadcastInDim S14336x1 ![] bcast_S_S14336x1 (constant (F := Ideal) S_ .f32 0x40000000#32)) (sitofp .f32 (V m c main_v128))) shapeCasts_S14336x1_S28x4x128 := by
  rw [← W128', W128]; simp only [List.drop]
  after_reads_simp
  rfl
/-- The power of two with the exponent `e`. -/
def pow2R (e : BitVec 32) : EReal := Ideal.pow (Ideal.ofBits FTy.f32 0x40000000#32) (FloatOps.sitofp (F := Ideal) FTy.f32 e)
theorem pow_at (e : Vec Ideal S14336x1 .i32) (r : Fin 14336) : Host.powf (F := Ideal) (s := S14336x1) (φ := .f32) (broadcastInDim S14336x1 ![] bcast_S_S14336x1 (constant (F := Ideal) S_ .f32 0x40000000#32)) (sitofp .f32 e) (ix2 r 0) = pow2R (e (ix2 r 0)) := by
  unfold pow2R
  pointwise
theorem scale_at (e : Vec Ideal S14336x1 .f32) (t : Fin 28) (q : Fin 4) (l : Fin 128) : shapeCast S28x4x128 e shapeCasts_S14336x1_S28x4x128 (ix3 t q l) = e (ix2 ⟨t.val * 512 + q.val * 128 + l.val, by omega⟩ 0) := by
  pointwise
/-- The reciprocal of a row's scale, and the scale. -/
theorem V134 (r : Fin 14336) : V m c main_v134 (ix2 r 0) = pow2R (-(expR (V m c main_v110 (ix2 r 0)))) := by
  rw [V134v, pow_at, ← V128]; rfl
theorem V135 (t : Fin 28) (q : Fin 4) (l : Fin 128) : V m c main_v135 (ix3 t q l) = pow2R (expR (V m c main_v110 (ix2 ⟨t.val * 512 + q.val * 128 + l.val, by omega⟩ 0))) := by
  rw [V135v, scale_at, pow_at, V128]
end Cert.ReferenceIdeal.Hand
end
-- ==== Proof.Count.lean ====
/- Facts about the exponent words, one small number at a time. -/
module

public import proofs.«01_k».proof.Proof.RefTail

@[expose] public section

set_option maxRecDepth 65536
set_option maxHeartbeats 1000000

noncomputable section

namespace Cert.Hand

open Cert.ReferenceIdeal.Hand Idealize.ShloMosaic

theorem fields : ∀ k : Fin 256, ((BitVec.ofNat 32 k.val <<< 23).extractLsb' 31 1 == 1#1) = false ∧
    ((BitVec.ofNat 32 k.val <<< 23).extractLsb' 23 8).toNat = k.val ∧
    ((BitVec.ofNat 32 k.val <<< 23).extractLsb' 0 23).toNat = 0 := by decide +kernel
theorem shl_eq : ∀ k : Fin 256, IntOp.shli .vector (BitVec.ofNat 32 k.val) 23#32 = BitVec.ofNat 32 k.val <<< 23 := by decide +kernel

def expoN (n : Nat) : BitVec 32 := if n = 0 then 0#32 else BitVec.ofNat 32 n - 126#32

theorem sgt_zero : ∀ k : Fin 256, IntOp.cmpi .sgt (BitVec.ofNat 32 k.val) 0#32 = BitVec.ofBool (decide (1 ≤ k.val)) := by decide +kernel

/-- Ones below a bound, summed. -/
theorem sum_ones : ∀ n : Fin 247, Finset.fold IntOp.addi 0#32 (fun k : Fin 256 => if 1 ≤ k.val ∧ k.val ≤ n.val then 1#32 else 0#32) Finset.univ = BitVec.ofNat 32 n.val := by
  decide +kernel
/-- One term of a sum. -/
theorem sum_one : ∀ n : Fin 247, sumOver (fun k : Fin 254 => if k.val + 1 = n.val then IntOp.subi (BitVec.ofNat 32 k.val) 125#32 else 0#32) = expoN n.val := by
  decide +kernel

theorem expo_word : ∀ n : Fin 247, Scalar.select (IntOp.ori (IntOp.cmpi .eq (BitVec.ofNat 32 n.val) 0#32) (IntOp.cmpi .eq (BitVec.ofNat 32 n.val) 255#32)) 0#32 (IntOp.subi (BitVec.ofNat 32 n.val) 126#32) = expoN n.val := by
  decide +kernel
theorem word_int : ∀ k : Fin 254, (IntOp.subi (IntOp.subi (BitVec.ofNat 32 k.val) 125#32) 1#32).toInt = ((k.val + 1 : Nat) : Int) - 127 ∧
   (IntOp.subi (BitVec.ofNat 32 k.val) 125#32).toInt = ((k.val + 2 : Nat) : Int) - 127 := by decide +kernel
theorem scale_word : ∀ n : Fin 247, ∃ k : Fin 255, 0 < k.val ∧ IntOp.addi (expoN n.val) 127#32 = BitVec.ofNat 32 k.val ∧ (expoN n.val).toInt = (k.val : Int) - 127 := by decide +kernel
theorem inv_word : ∀ n : Fin 247, ∃ k : Fin 255, 0 < k.val ∧ IntOp.subi 127#32 (expoN n.val) = BitVec.ofNat 32 k.val ∧ (-(expoN n.val)).toInt = (k.val : Int) - 127 := by decide +kernel
end Cert.Hand
end
-- ==== Proof.Expo.lean ====
/- The exponent of a row: counting the powers of two not above it, and looking for the two it lies between. -/
module

public import proofs.«01_k».proof.Proof.Pay
public import proofs.«01_k».proof.Proof.Words
public import proofs.«01_k».proof.Proof.Count

@[expose] public section

set_option maxRecDepth 65536
set_option maxHeartbeats 1000000

noncomputable section

namespace Cert.Hand

open Cert.KernelIdeal.Hand Cert.ReferenceIdeal.Hand Idealize.ShloMosaic

/-- The power of two whose exponent field is `k`. -/
def thr (k : Nat) : EReal := (((2 : ℝ) ^ ((k : Int) - 127) : ℝ) : EReal)

theorem ofBits_pow (k : Nat) (h : 0 < k) (h' : k < 255) :
    Ideal.ofBits .f32 (IntOp.shli .vector (BitVec.ofNat 32 k) 23#32) = thr k := by
  have hs := shl_eq ⟨k, by omega⟩
  obtain ⟨h1, h2, h3⟩ := fields ⟨k, by omega⟩
  simp only at hs h1 h2 h3
  refine (congrArg (fun b : BitVec 32 => (Ideal.ofBits .f32 b : EReal)) hs).trans ((normal32 (BitVec.ofNat 32 k <<< 23) k 0 h1 h2 h3 h h').trans ?_)
  unfold thr
  refine congrArg Real.toEReal ?_
  have e : ((k : Int) - 127) = ((23 : Nat) : Int) + ((k : Int) - 150) := by push_cast; ring
  rw [e, zpow_add₀ (two_ne_zero), zpow_natCast, add_zero, Nat.cast_pow, Nat.cast_ofNat]
theorem ofBits_inf : Ideal.ofBits .f32 (IntOp.shli .vector (BitVec.ofNat 32 255) 23#32) = ⊤ := by
  have hs := shl_eq ⟨255, by omega⟩
  obtain ⟨h1, h2, h3⟩ := fields ⟨255, by omega⟩
  simp only at hs h1 h2 h3
  rw [hs, infinite32 _ h1 h2 h3]

theorem thr_mono {i j : Nat} (h : i ≤ j) : thr i ≤ thr j := by
  unfold thr
  have : ((i : Int) - 127) ≤ ((j : Int) - 127) := by omega
  exact_mod_cast zpow_le_zpow_right₀ (by norm_num : (1 : ℝ) ≤ 2) this

/-- How many of the powers of two are not above `x`. -/
def below (x : EReal) : Nat := by
  classical exact Nat.findGreatest (fun k => 1 ≤ k ∧ thr k ≤ x) 255

theorem below_iff (x : EReal) (k : Nat) (h : 1 ≤ k) (h' : k ≤ 255) : thr k ≤ x ↔ k ≤ below x := by
  classical
  unfold below
  constructor
  · intro hk
    exact Nat.le_findGreatest h' ⟨h, hk⟩
  · intro hk
    have := @Nat.findGreatest_of_ne_zero (Nat.findGreatest (fun k => 1 ≤ k ∧ thr k ≤ x) 255) (fun k => 1 ≤ k ∧ thr k ≤ x) _ 255 rfl (by omega)
    exact (thr_mono hk).trans this.2
theorem below_lt (x : EReal) (h : x < thr 247) : below x < 247 := by
  by_contra hc
  exact absurd ((below_iff x 247 (by omega) (by omega)).2 (by omega)) (not_le.2 h)

theorem countE_eq (x : EReal) (h : x < thr 247) : countE x = BitVec.ofNat 32 (below x) := by
  rw [← sum_ones ⟨below x, below_lt x h⟩]
  unfold countE
  refine Finset.fold_congr fun k _ => ?_
  rw [sgt_zero]
  by_cases h0 : k.val = 0
  · rw [h0]; simp [IntOp.andi, Scalar.select]
  by_cases h1 : k.val = 255
  · rw [h1, ofBits_inf, if_neg (by have := below_lt x h; simp only; omega),
      decide_eq_false (by rw [top_le_iff]; exact (h.trans (EReal.coe_lt_top _)).ne)]
    rfl
  rw [ofBits_pow _ (by omega) (by omega)]
  have hb := below_iff x k.val (by omega) (by omega)
  by_cases hk : k.val ≤ below x
  · rw [if_pos ⟨by omega, hk⟩, decide_eq_true (hb.2 hk), decide_eq_true (by omega)]; rfl
  · rw [if_neg (by simp only; omega), decide_eq_false (fun q => hk (hb.1 q))]
    cases decide (1 ≤ k.val) <;> rfl
theorem expoE_eq (x : EReal) (h : x < thr 247) : expoE x = expoN (below x) := by
  unfold expoE; rw [countE_eq x h]; exact expo_word ⟨below x, below_lt x h⟩

theorem pow_word (e : BitVec 32) : pow2R e = (((2 : ℝ) ^ e.toInt : ℝ) : EReal) := by
  unfold pow2R
  rw [two_f]
  show Ideal.pow ((2 : ℝ) : EReal) (((e.toInt : ℝ)) : EReal) = _
  rw [Ideal.pow_coe_coe]
  congr 1
  exact Real.rpow_intCast 2 e.toInt
theorem expTerm_eq (x : EReal) (k : Fin 254) : expTerm x k = if k.val + 1 = below x then IntOp.subi (BitVec.ofNat 32 k.val) 125#32 else 0#32 := by
  have e1 : Ideal.pow (Ideal.ofBits FTy.f32 0x40000000#32) (FloatOps.sitofp (F := Ideal) FTy.f32 (IntOp.subi (IntOp.subi (BitVec.ofNat 32 k.val) 125#32) 1#32)) = thr (k.val + 1) := by
    refine (pow_word _).trans ?_
    rw [(word_int k).1]; rfl
  have e2 : Ideal.pow (Ideal.ofBits FTy.f32 0x40000000#32) (FloatOps.sitofp (F := Ideal) FTy.f32 (IntOp.subi (BitVec.ofNat 32 k.val) 125#32)) = thr (k.val + 2) := by
    refine (pow_word _).trans ?_
    rw [(word_int k).2]; rfl
  unfold expTerm
  rw [e1, e2]
  have h1 := below_iff x (k.val + 1) (by omega) (by omega)
  have h2 := below_iff x (k.val + 2) (by omega) (by omega)
  have c1 : Ideal.cmp .ole (thr (k.val + 1)) x = BitVec.ofBool (decide (k.val + 1 ≤ below x)) := congrArg BitVec.ofBool (decide_eq_decide.2 h1)
  have c2 : Ideal.cmp .olt x (thr (k.val + 2)) = BitVec.ofBool (decide (¬ k.val + 2 ≤ below x)) :=
    congrArg BitVec.ofBool (decide_eq_decide.2 (by rw [← h2, not_le]))
  rw [c1, c2]
  by_cases h : k.val + 1 = below x
  · rw [if_pos h, decide_eq_true (by omega), decide_eq_true (by omega)]; rfl
  · rw [if_neg h]
    by_cases h' : k.val + 1 ≤ below x
    · rw [decide_eq_true h', decide_eq_false (by omega)]; rfl
    · rw [decide_eq_false h']; cases decide (¬ k.val + 2 ≤ below x) <;> rfl
/-- Both exponents are the same word. -/
theorem expR_eq (x : EReal) (h : x < thr 247) : expR x = expoN (below x) := by
  rw [← sum_one ⟨below x, below_lt x h⟩]
  unfold expR
  exact congrArg sumOver (funext fun k => expTerm_eq x k)

theorem scale_eq (n : Nat) (h : n < 247) : scaleW (expoN n) = pow2R (expoN n) := by
  obtain ⟨k, h0, h1, h2⟩ := scale_word ⟨n, h⟩
  simp only at h1 h2
  unfold scaleW
  rw [h1, ofBits_pow _ h0 k.isLt, pow_word, h2]; rfl
theorem inv_eq (n : Nat) (h : n < 247) : invW (expoN n) = pow2R (-(expoN n)) := by
  obtain ⟨k, h0, h1, h2⟩ := inv_word ⟨n, h⟩
  simp only at h1 h2
  unfold invW
  rw [h1, ofBits_pow _ h0 k.isLt, pow_word, h2]; rfl
end Cert.Hand
end
-- ==== Proof.Rows.lean ====
/- A row of the kernel's results against the same row of the reference's. -/
module

public import proofs.«01_k».proof.Proof.Codes
public import proofs.«01_k».proof.Proof.Expo

@[expose] public section

set_option maxRecDepth 65536
set_option maxHeartbeats 1000000
set_option pp.maxSteps 600

noncomputable section

namespace Cert.Hand

open Cert.KernelIdeal.Hand Cert.ReferenceIdeal.Hand Cert.ReferenceIdeal.Gen Idealize.ShloMosaic Idealize.ShloMosaic.TcCoe Idealize.ShloMosaic.Tactic
open Cert.ReferenceIdeal (nD τ sig main_arg0 main_v104 main_v110 main_v134 main_v135 main_v182)

/-- The largest of the four magnitudes is the larger of the two kept ones. -/
theorem hiE_eq (a b c d : EReal) : hiE a b c d = max (absR (v0E a b c d)) (absR (v1E a b c d)) := by
  have h := max_kept (max a (-a)) (max b (-b)) (max c (-c)) (max d (-d))
  have e : hiE a b c d = max (max (max a (-a)) (max b (-b))) (max (max c (-c)) (max d (-d))) := rfl
  rw [e, ← h, v0E_eq, v1E_eq]
  unfold absR b01 b23 ge
  congr 1
  · simp only [← decide_not, not_le, ← Bool.decide_and, ← Bool.decide_or, decide_eq_true_eq]
    have p : (max (max a (-a)) (max b (-b)) < min (max c (-c)) (max d (-d))) ↔ (((max a (-a) < max c (-c) ∧ max b (-b) < max c (-c)) ∧ max a (-a) < max d (-d)) ∧ max b (-b) < max d (-d)) := by
      rw [max_lt_iff, lt_min_iff, lt_min_iff]; tauto
    have q : (max (max c (-c)) (max d (-d)) ≤ min (max a (-a)) (max b (-b))) ↔ (((max c (-c) ≤ max a (-a) ∧ max d (-d) ≤ max a (-a)) ∧ max c (-c) ≤ max b (-b)) ∧ max d (-d) ≤ max b (-b)) := by
      rw [max_le_iff, le_min_iff, le_min_iff]; tauto
    simp only [p, q]; split_ifs <;> first | rfl | tauto
  · simp only [← decide_not, not_le, ← Bool.decide_and, ← Bool.decide_or, decide_eq_true_eq]
    have p : (max (max a (-a)) (max b (-b)) < min (max c (-c)) (max d (-d))) ↔ (((max a (-a) < max c (-c) ∧ max b (-b) < max c (-c)) ∧ max a (-a) < max d (-d)) ∧ max b (-b) < max d (-d)) := by
      rw [max_lt_iff, lt_min_iff, lt_min_iff]; tauto
    have q : (max (max c (-c)) (max d (-d)) ≤ min (max a (-a)) (max b (-b))) ↔ (((max c (-c) ≤ max a (-a) ∧ max d (-d) ≤ max a (-a)) ∧ max c (-c) ≤ max b (-b)) ∧ max d (-d) ≤ max b (-b)) := by
      rw [max_le_iff, le_min_iff, le_min_iff]; tauto
    simp only [p, q]; split_ifs <;> first | rfl | tauto

theorem abs_nonneg (x : EReal) : 0 ≤ absR x := by
  unfold absR
  rcases le_total 0 x with h | h
  · exact le_max_of_le_left h
  · exact le_max_of_le_right (by simpa using EReal.neg_le_neg_iff.2 h)

theorem four_sum (n : Fin 1024 → Nat) (b : Nat) (hb : b + 3 < 1024) (idx : Fin 4 → Fin 1024) (hi : ∀ k, (idx k).val = b + k.val) :
    ∑ k : Fin 4, n (idx k) * 16 ^ k.val = n ⟨b, by omega⟩ + n ⟨b + 1, by omega⟩ * 16 + n ⟨b + 2, by omega⟩ * 256 + n ⟨b + 3, by omega⟩ * 4096 := by
  have e : ∀ k : Fin 4, idx k = ⟨b + k.val, by omega⟩ := fun k => Fin.ext (hi k)
  rw [Fin.sum_univ_four, e, e, e, e]
  show n ⟨b + 0, _⟩ * 1 + n ⟨b + 1, _⟩ * 16 + n ⟨b + 2, _⟩ * 256 + n ⟨b + 3, _⟩ * 4096 = _
  rw [mul_one]; rfl

variable (m : (ℓ : Loc nD τ sig) → Buf (Elt Ideal) ℓ) (c : Dev nD) (t : Fin 28) (x0 : W)
/-- The row of the whole array that row `r` of block `t` is. -/
def row (t : Fin 28) (r : Fin 512) : Fin 14336 := ⟨t.val * 512 + r.val, by omega⟩

section
variable (hx : ∀ (r : Fin 512) (k : Fin 4096), x0 (ix2 r k) = (m (c, Proc.tc.devRef main_arg0) (ix2 (row t r) k) : EReal))
include hx

theorem src_eq (p : Fin 4) (r : Fin 512) (g : Fin 1024) : src x0 p r g = xs m c p (row t r) ⟨grp g.val, (ungrp_grp g).1⟩ := by
  unfold src xs
  rw [hx]
  refine congrArg (fun k => (m (c, Proc.tc.devRef main_arg0) (ix2 (row t r) k) : EReal)) (Fin.ext ?_)
  show srcCol p.val g.val = grp g.val * 4 + p.val
  unfold srcCol grp; omega
theorem onSrc_eq (f : EReal → EReal → EReal → EReal → EReal) (r : Fin 512) (g : Fin 1024) :
    onSrc f x0 r g = onGroup m c f (row t r) ⟨grp g.val, (ungrp_grp g).1⟩ := by
  unfold onSrc onGroup
  rw [src_eq m c t x0 hx, src_eq m c t x0 hx, src_eq m c t x0 hx, src_eq m c t x0 hx]

/-- The packed codes. -/
theorem meta_eq (x1 : Vec Ideal Cert.KernelIdeal.S1024x256 .bf16) (h1 : ∀ (x : Fin 1024) (y : Fin 256), x1 (ix2 x y) = ((((if slot x.val = y.val then weight x.val else 0 : Nat) : ℝ) : EReal)))
    (r : Fin 512) (q : Fin 128) : Cert.KernelIdeal.Gen.k0_pay6 (F := Ideal) (codeV x0) x1 (ix2 r q) = Cert.ReferenceIdeal.Gen.V m c main_v182 (ix2 (row t r) q) := by
  rw [pay6_apply, V182]
  have hc : ∀ x : Fin 1024, codeV x0 (ix2 r x) = (((onGroup m c codeN (row t r) ⟨grp x.val, (ungrp_grp x).1⟩ : Nat) : ℝ) : EReal) := by
    intro x
    refine (onSrc_eq m c t x0 hx codeE r x).trans ?_
    unfold onGroup
    exact codeE_eq _ _ _ _
  have lt : ∀ g, onGroup m c codeN (row t r) g < 16 := fun g => by unfold onGroup; exact codeN_lt _ _ _ _
  have half : ∀ h : Fin 2, ∀ hy : q.val + 128 * h.val < 256, Ideal.fptosi 32 (∑ x : Fin 1024, codeV x0 (ix2 r x) * x1 (ix2 x ⟨q.val + 128 * h.val, hy⟩))
      = BitVec.ofNat 32 (∑ k : Fin 4, onGroup m c codeN (row t r) ⟨8 * q.val + 4 * h.val + k.val, by omega⟩ * 16 ^ k.val) := by
    intro h hy
    simp only [hc, h1]
    rw [sum_slot (fun x => onGroup m c codeN (row t r) ⟨grp x.val, (ungrp_grp x).1⟩) q h]
    have e : ∀ k : Fin 4, (⟨grp (ungrp (8 * q.val + 4 * h.val + k.val)), (ungrp_grp ⟨_, (grp_ungrp ⟨8 * q.val + 4 * h.val + k.val, by omega⟩).1⟩).1⟩ : Fin 1024) = ⟨8 * q.val + 4 * h.val + k.val, by omega⟩ :=
      fun k => Fin.ext (grp_ungrp ⟨8 * q.val + 4 * h.val + k.val, by omega⟩).2
    simp only [e]
    refine fptosi_nat _ ?_
    simp only [Fin.sum_univ_four]
    have l0 := lt ⟨8 * q.val + 4 * h.val + (0 : Fin 4).val, by omega⟩
    have l1 := lt ⟨8 * q.val + 4 * h.val + (1 : Fin 4).val, by omega⟩
    have l2 := lt ⟨8 * q.val + 4 * h.val + (2 : Fin 4).val, by omega⟩
    have l3 := lt ⟨8 * q.val + 4 * h.val + (3 : Fin 4).val, by omega⟩
    norm_num at l0 l1 l2 l3 ⊢
    omega
  have f0 := half 0 (by simp; omega)
  have f1 := half 1 (by simp; omega)
  have i0 : (⟨q.val + 128 * (0 : Fin 2).val, by simp; omega⟩ : Fin 256) = ⟨q.val, by omega⟩ := Fin.ext (by simp)
  have i1 : (⟨q.val + 128 * (1 : Fin 2).val, by simp; omega⟩ : Fin 256) = ⟨128 + q.val, by omega⟩ := Fin.ext (by simp; omega)
  rw [i0] at f0
  rw [i1] at f1
  rw [f0, f1]
  have pk := pack_eq (fun k : Fin 8 => onGroup m c codeN (row t r) ⟨q.val * 8 + k.val, by omega⟩) (fun k => lt _)
  have cr : (fun k : Fin 8 => onGroup m c codeR (row t r) ⟨q.val * 8 + k.val, by omega⟩) = fun k : Fin 8 => BitVec.ofNat 32 (onGroup m c codeN (row t r) ⟨q.val * 8 + k.val, by omega⟩) := by
    funext k; unfold onGroup; exact codeR_eq _ _ _ _
  rw [cr, ← pk]
  exact congrArg₂ (fun a b => IntOp.ori (BitVec.ofNat 32 a) (IntOp.shli .vector (BitVec.ofNat 32 b) 16#32))
    (four_sum (onGroup m c codeN (row t r)) (q.val * 8) (by omega) _ (fun k => by simp; omega))
    (four_sum (onGroup m c codeN (row t r)) (q.val * 8 + 4) (by omega) _ (fun k => by simp; omega))

/-- A bound of the row's largest magnitude bounds the kept entries, and conversely. -/
theorem row_le (r : Fin 512) (z : EReal) : (∀ l : Fin 128, amaxV x0 (ix2 r l) ≤ z) ↔ ∀ x : Fin 2048, absR (Cert.ReferenceIdeal.Gen.V m c main_v104 (ix2 (row t r) x)) ≤ z := by
  have hh : ∀ g : Fin 1024, onSrc hiE x0 r g = max (absR (onGroup m c v0R (row t r) ⟨grp g.val, (ungrp_grp g).1⟩)) (absR (onGroup m c v1R (row t r) ⟨grp g.val, (ungrp_grp g).1⟩)) := by
    intro g
    rw [onSrc_eq m c t x0 hx]
    unfold onGroup
    rw [hiE_eq, v0_eq, v1_eq]
  have zero : bfE 0x0000#16 = 0 := b0
  constructor
  · intro h x
    have key : ∀ g : Fin 1024, onSrc hiE x0 r g ≤ z := by
      intro g
      have hl := h ⟨g.val % 128, by omega⟩
      have e : amaxV x0 (ix2 r ⟨g.val % 128, by omega⟩) = amaxE x0 r ⟨g.val % 128, by omega⟩ := rfl
      rw [e] at hl
      unfold amaxE at hl
      simp only [max_le_iff] at hl
      have hs : g.val / 128 < 8 := by omega
      have hg : ∀ s : Nat, g.val / 128 = s → ∀ hb, (⟨128 * s + g.val % 128, hb⟩ : Fin 1024) = g := fun s e hb => Fin.ext (by simp only; omega)
      obtain ⟨⟨⟨⟨⟨⟨⟨⟨_, k0⟩, k1⟩, k2⟩, k3⟩, k4⟩, k5⟩, k6⟩, k7⟩ := hl
      rcases (by omega : g.val / 128 = 0 ∨ g.val / 128 = 1 ∨ g.val / 128 = 2 ∨ g.val / 128 = 3 ∨ g.val / 128 = 4 ∨ g.val / 128 = 5 ∨ g.val / 128 = 6 ∨ g.val / 128 = 7) with e | e | e | e | e | e | e | e
      · rwa [hg _ e] at k0
      · rwa [hg _ e] at k1
      · rwa [hg _ e] at k2
      · rwa [hg _ e] at k3
      · rwa [hg _ e] at k4
      · rwa [hg _ e] at k5
      · rwa [hg _ e] at k6
      · rwa [hg _ e] at k7
    have hu := grp_ungrp ⟨x.val / 2, by omega⟩
    have kk := key ⟨ungrp (x.val / 2), hu.1⟩
    rw [hh, max_le_iff] at kk
    have e : (⟨grp (ungrp (x.val / 2)), (ungrp_grp ⟨_, hu.1⟩).1⟩ : Fin 1024) = ⟨x.val / 2, by omega⟩ := Fin.ext hu.2
    simp only [e] at kk
    rw [V104]
    split_ifs
    · exact kk.1
    · exact kk.2
  · intro h l
    have z0 : 0 ≤ z := (abs_nonneg _).trans (h 0)
    have key : ∀ g : Fin 1024, onSrc hiE x0 r g ≤ z := by
      intro g
      rw [hh, max_le_iff]
      have hl := (ungrp_grp g).1
      have a0 := h ⟨2 * grp g.val, by omega⟩
      have a1 := h ⟨2 * grp g.val + 1, by omega⟩
      rw [V104, if_pos (by simp only; omega)] at a0
      rw [V104, if_neg (by simp only; omega)] at a1
      have e0 : (⟨2 * grp g.val / 2, by omega⟩ : Fin 1024) = ⟨grp g.val, hl⟩ := Fin.ext (by simp only; omega)
      have e1 : (⟨(2 * grp g.val + 1) / 2, by omega⟩ : Fin 1024) = ⟨grp g.val, hl⟩ := Fin.ext (by simp only; omega)
      simp only [e0] at a0
      simp only [e1] at a1
      exact ⟨a0, a1⟩
    show amaxE x0 r l ≤ z
    unfold amaxE
    simp only [max_le_iff]
    exact ⟨⟨⟨⟨⟨⟨⟨⟨by rw [zero]; exact z0, key _⟩, key _⟩, key _⟩, key _⟩, key _⟩, key _⟩, key _⟩, key _⟩

theorem rowE_eq (r : Fin 512) : rowE (amaxV x0) r = Cert.ReferenceIdeal.Gen.V m c main_v110 (ix2 (row t r) 0) := by
  rw [V110]
  unfold rowE maxOver
  refine congrArg (· * Ideal.ofBits .f32 0x3B124925#32) ?_
  refine eq_of_forall_ge_iff fun z => ?_
  rw [Finset.fold_max_le, Finset.fold_max_le]
  simp only [Finset.mem_univ, true_implies]
  exact and_congr_right fun _ => row_le m c t x0 hx r z
end
end Cert.Hand
end
-- ==== Proof.TailV.lean ====
/- What a grid point leaves in its value block, read at an index. -/
module

public import proofs.«01_k».proof.Proof.Tail
public import proofs.«01_k».proof.Proof.KValue
public import Idealize.ShloMosaic.Lib.Pointwise

@[expose] public section

set_option maxRecDepth 65536
set_option maxHeartbeats 4000000
set_option pp.maxSteps 600

noncomputable section

namespace Cert.KernelIdeal.Hand

open Cert.KernelIdeal Cert.KernelIdeal.Gen Idealize.ShloMosaic Idealize.ShloMosaic.TcCoe Idealize.ShloMosaic.Tactic

/-- A buffer written whole reads as what was written last. -/
theorem read_overwritten (arg9 : Memref sig .tc .vmem S512x128 .bf16) (inb : ∀ a, (![0, 0] : Fin 2 → Nat) a + S512x128.size a ≤ S512x128.size a) (w : Vec Ideal S512x128 .bf16) (L : List (View.Piece (Elt Ideal) S512x128 .bf16)) :
    arg9.view.read (Elt Ideal) (arg9.view.writes (Elt Ideal) arg9.view.junk (⟨Rect.unit (s := S512x128) ![0, 0] S512x128.size inb, w⟩ :: L)) = w := by
  have h : (![0, 0] : Fin 2 → Nat) = fun _ => 0 := by decide
  refine (View.read_writes_eq_canon _ _ _ fun y => ⟨_, List.mem_cons_self, ?_⟩).trans (View.canon_cons_unit_zero (S := S512x128) h inb w L)
  generalize (![0, 0] : Fin 2 → Nat) = o at h inb
  subst h
  show y ∈ (Rect.whole S512x128).set
  rw [Rect.set_whole]; exact Finset.mem_univ y

section
variable (c : Dev nD) (i : grid0.Coords) (arg1 : Memref sig .tc .vmem S512x4096 .bf16) (harg1 : arg1.IsWhole) (arg2 : Memref sig .tc .vmem S1024x256 .bf16) (harg2 : arg2.IsWhole) (arg3 : Memref sig .tc .vmem S512x2048 .fp8e4m3) (harg3 : arg3.IsWhole) (arg4 : Memref sig .tc .vmem S512x128 .i32) (harg4 : arg4.IsWhole) (arg5 : Memref sig .tc .vmem S1x4x128 .f32) (harg5 : arg5.IsWhole) (arg6 : Memref sig .tc .vmem S512x1024 .bf16) (harg6 : arg6.IsWhole) (arg7 : Memref sig .tc .vmem S512x1024 .bf16) (harg7 : arg7.IsWhole) (arg8 : Memref sig .tc .vmem S512x1024 .bf16) (harg8 : arg8.IsWhole) (arg9 : Memref sig .tc .vmem S512x128 .bf16) (harg9 : arg9.IsWhole) (x0 : W) (x1 : Vec Ideal S1024x256 .bf16)
/-- The value block. -/
theorem out2_apply (r : Fin 512) (j : Fin 2048) : out0_A_2 (F := Ideal) c i arg1 harg1 arg2 harg2 arg3 harg3 arg4 harg4 arg5 harg5 arg6 harg6 arg7 harg7 arg8 harg8 arg9 harg9 x0 x1 (ix2 r j)
    = valueE (onSrc v0E x0) (onSrc v1E x0) (fun r => invW (expW x0 r)) r j := by
  unfold out0_A_2
  refine View.read_writes_apply_of_pieces (Val := Elt Ideal) VO0_2 _ (fun y : S512x2048.Idx => valueE (onSrc v0E x0) (onSrc v1E x0) (fun r => invW (expW x0 r)) (y 0) (y 1)) _ ?_ (ix2 r j) (cover0_A_2 (F := Ideal) c i arg1 harg1 arg2 harg2 arg3 harg3 arg4 harg4 arg5 harg5 arg6 harg6 arg7 harg7 arg8 harg8 arg9 harg9 x0 x1 _)
  unfold kernelRun0_A; dsimp only; sl_unfold_words
  refine agree3 Variants.none c none i arg1 harg1 arg2 harg2 arg3 harg3 arg4 harg4 arg5 harg5 arg6 harg6 arg7 harg7 arg8 harg8 arg9 harg9 _ _ _ (onSrc v0E x0) (onSrc v1E x0) (fun r => invW (expW x0 r)) ?_ ?_ ?_ _ le_rfl
  · intro r g; exact read6 Variants.none c none i arg1 harg1 arg2 harg2 arg3 harg3 arg4 harg4 arg5 harg5 arg6 harg6 arg7 harg7 arg8 harg8 arg9 harg9 x0 r g
  · intro r g; exact read7 Variants.none c none i arg1 harg1 arg2 harg2 arg3 harg3 arg4 harg4 arg5 harg5 arg6 harg6 arg7 harg7 arg8 harg8 arg9 harg9 x0 r g
  · intro r g
    rw [cov9 c i arg1 harg1 arg2 harg2 arg3 harg3 arg4 harg4 arg5 harg5 arg6 harg6 arg7 harg7 arg8 harg8 arg9 harg9 x0]
    refine (congrFun (read_overwritten arg9 _ _ _) _).trans ?_
    exact inv_apply _ r g
end

end Cert.KernelIdeal.Hand
end
-- ==== Proof.Cells.lean ====
/- An entry of each of the kernel's blocks against the reference's, for finite weights. -/
module

public import proofs.«01_k».proof.Proof.Rows
public import proofs.«01_k».proof.Proof.TailV

@[expose] public section

set_option maxRecDepth 65536
set_option maxHeartbeats 1000000
set_option pp.maxSteps 600

noncomputable section

namespace Cert.Hand

open Cert.KernelIdeal.Hand Cert.ReferenceIdeal.Hand Cert.ReferenceIdeal.Gen Idealize.ShloMosaic Idealize.ShloMosaic.TcCoe Idealize.ShloMosaic.Tactic
open Cert.ReferenceIdeal (nD τ sig main_arg0 main_v104 main_v110 main_v134 main_v135 main_v182)

/-- The two programs clamp at the same two numbers. -/
theorem clamp_eq (x : EReal) : clampE x = min (Ideal.ofBits .f32 0x43E00000#32) (max (Ideal.ofBits .f32 0xC3E00000#32) x) := by
  unfold clampE bfE; rw [hi_b, lo_b, hi_f, lo_f]
theorem grp_kept : ∀ j : Fin 2048, grp (keptCol j.val) = j.val / 2 := by decide +kernel
/-- A finite magnitude times the divisor's reciprocal is below the largest scale. -/
theorem scaled_lt (z : EReal) (h : z ≤ ((255 * 2 ^ 120 : ℝ) : EReal)) : z * Ideal.ofBits .f32 0x3B124925#32 < thr 247 := by
  obtain ⟨r, h0, h1, e⟩ := third_f
  rw [e]
  refine (mul_le_mul_of_nonneg_right h (EReal.coe_nonneg.2 h0.le)).trans_lt ?_
  rw [← EReal.coe_mul]
  unfold thr
  refine EReal.coe_lt_coe_iff.2 ?_
  have e2 : ((2 : ℝ) ^ (((247 : Nat) : Int) - 127)) = 2 ^ 120 := by norm_num
  rw [e2]
  have : (0 : ℝ) < 2 ^ 120 := by positivity
  nlinarith

variable (m : (ℓ : Loc nD τ sig) → Buf (Elt Ideal) ℓ) (c : Dev nD)

/-- The reference's kept entries, scaled row maxima and factors, as numbers. -/
def keptR (r : Fin 14336) (j : Fin 2048) : EReal := Cert.ReferenceIdeal.Gen.V m c main_v104 (ix2 r j)
def rowR (r : Fin 14336) : EReal := Cert.ReferenceIdeal.Gen.V m c main_v110 (ix2 r 0)
def invR (r : Fin 14336) : EReal := Cert.ReferenceIdeal.Gen.V m c main_v134 (ix2 r 0)

section
variable (hb : ∀ (p : Fin 4) (r : Fin 14336) (g : Fin 1024), absR (xs m c p r g) ≤ ((255 * 2 ^ 120 : ℝ) : EReal))
include hb
theorem kept_le (r : Fin 14336) (x : Fin 2048) : absR (Cert.ReferenceIdeal.Gen.V m c main_v104 (ix2 r x)) ≤ ((255 * 2 ^ 120 : ℝ) : EReal) := by
  rw [V104]
  unfold onGroup
  rw [v0_eq, v1_eq, v0E_eq, v1E_eq]
  split_ifs <;> exact hb _ _ _
theorem row_lt (r : Fin 14336) : rowR m c r < thr 247 := by
  unfold rowR
  rw [V110]
  refine scaled_lt _ ?_
  unfold maxOver
  rw [Finset.fold_max_le]
  exact ⟨by rw [bot_f]; exact bot_le, fun x _ => kept_le m c hb r x⟩

variable (t : Fin 28) (x0 : W) (hx : ∀ (r : Fin 512) (k : Fin 4096), x0 (ix2 r k) = (m (c, Proc.tc.devRef main_arg0) (ix2 (row t r) k) : EReal))
include hx
theorem expW_eq (r : Fin 512) : expW x0 r = expR (rowR m c (row t r)) := by
  unfold expW
  have e : rowE (amaxV x0) r = rowR m c (row t r) := rowE_eq m c t x0 hx r
  rw [pay373_apply, e, expoE_eq _ (row_lt m c hb _), expR_eq _ (row_lt m c hb _)]
theorem invW_eq (r : Fin 512) : invW (expW x0 r) = invR m c (row t r) := by
  have e : invR m c (row t r) = pow2R (-(expR (rowR m c (row t r)))) := V134 m c (row t r)
  rw [expW_eq m c hb t x0 hx, e, expR_eq _ (row_lt m c hb _)]
  exact inv_eq _ (below_lt _ (row_lt m c hb _))
theorem scaleW_eq (q : Fin 4) (l : Fin 128) : scaleW (expW x0 ⟨128 * q.val + l.val, by omega⟩) = Cert.ReferenceIdeal.Gen.V m c main_v135 (ix3 t q l) := by
  have e : row t ⟨128 * q.val + l.val, by omega⟩ = ⟨t.val * 512 + q.val * 128 + l.val, by omega⟩ := Fin.ext (by show t.val * 512 + (128 * q.val + l.val) = t.val * 512 + q.val * 128 + l.val; omega)
  refine Eq.trans ?_ (V135 m c t q l).symm
  rw [expW_eq m c hb t x0 hx, e]
  show _ = pow2R (expR (rowR m c ⟨t.val * 512 + q.val * 128 + l.val, by omega⟩))
  rw [expR_eq _ (row_lt m c hb _)]
  exact scale_eq _ (below_lt _ (row_lt m c hb _))
theorem value_eq (r : Fin 512) (j : Fin 2048) : valueE (onSrc v0E x0) (onSrc v1E x0) (fun r => invW (expW x0 r)) r j
    = min (Ideal.ofBits .f32 0x43E00000#32) (max (Ideal.ofBits .f32 0xC3E00000#32) (keptR m c (row t r) j * invR m c (row t r))) := by
  have e : (⟨grp (keptCol j.val), (ungrp_grp ⟨keptCol j.val, keptCol_lt j.isLt⟩).1⟩ : Fin 1024) = ⟨j.val / 2, by omega⟩ := Fin.ext (grp_kept j)
  have k0 : onSrc v0E x0 r ⟨keptCol j.val, keptCol_lt j.isLt⟩ = onGroup m c v0R (row t r) ⟨j.val / 2, by omega⟩ := by
    rw [onSrc_eq m c t x0 hx, e]; unfold onGroup; rw [v0_eq]
  have k1 : onSrc v1E x0 r ⟨keptCol j.val, keptCol_lt j.isLt⟩ = onGroup m c v1R (row t r) ⟨j.val / 2, by omega⟩ := by
    rw [onSrc_eq m c t x0 hx, e]; unfold onGroup; rw [v1_eq]
  unfold valueE
  have e4 : keptR m c (row t r) j = if j.val % 2 = 0 then onGroup m c v0R (row t r) ⟨j.val / 2, by omega⟩ else onGroup m c v1R (row t r) ⟨j.val / 2, by omega⟩ := V104 m c (row t r) j
  simp only [invW_eq m c hb t x0 hx, k0, k1, clamp_eq, e4]
  split_ifs <;> rfl
end
end Cert.Hand
end
-- ==== Proof.Result.lean ====
/- The kernel's three result arrays are the reference's. -/
module

public import proofs.«01_k».proof.Defs
public import proofs.«01_k».proof.Proof.Cells
public import proofs.«01_k».proof.Proof.Gen.ReferenceIdeal.Value
public import proofs.«01_k».proof.Proof.Gen.Pre_finite

@[expose] public section

set_option maxRecDepth 65536
set_option maxHeartbeats 1000000
set_option pp.maxSteps 600

noncomputable section

namespace Cert.Hand

open Cert.KernelIdeal.Hand Cert.ReferenceIdeal.Hand Idealize.ShloMosaic Idealize.ShloMosaic.TcCoe Idealize.ShloMosaic.Tactic Idealize.SL.Sem

section Kernel
open Cert.KernelIdeal Cert.KernelIdeal.Gen Cert.KernelIdeal.Value

theorem N_eq : cfg0.N = 28 := by decide +kernel
def pt (t : Fin cfg0.N) : Fin 28 := ⟨t.val, N_eq ▸ t.isLt⟩
theorem index0 : ∀ t : Fin grid0.N, win0_0.index t 0 = t.val ∧ win0_0.index t 1 = 0 := by decide +kernel
theorem index1 : ∀ t : Fin grid0.N, win0_1.index t 0 = 0 ∧ win0_1.index t 1 = 0 := by decide +kernel
theorem index2 : ∀ t : Fin grid0.N, win0_2.index t 0 = t.val ∧ win0_2.index t 1 = 0 := by decide +kernel
theorem index3 : ∀ t : Fin grid0.N, win0_3.index t 0 = t.val ∧ win0_3.index t 1 = 0 := by decide +kernel
theorem index4 : ∀ t : Fin grid0.N, win0_4.index t 0 = t.val ∧ win0_4.index t 1 = 0 ∧ win0_4.index t 2 = 0 := by decide +kernel

/-- Where a block's entries lie in their array. -/
theorem emb0 (t : Fin cfg0.N) (r : Fin 512) (k : Fin 4096) : ((cfg0.win 0).blk t).view.emb (ix2 r k) = (ix2 (row (pt t) r) k : S14336x4096.Idx) := by
  funext a; apply Fin.ext
  match a with
  | ⟨0, h⟩ => exact (win0_0.rect_emb_val t (ix2 r k) ⟨0, h⟩).trans (by rw [show win0_0.index t ⟨0, h⟩ = t.val from (index0 t).1]; rfl)
  | ⟨1, h⟩ => exact (win0_0.rect_emb_val_of_index_zero t ⟨1, h⟩ (index0 t).2 (ix2 r k)).trans rfl
theorem emb1 (t : Fin cfg0.N) (r : Fin 1024) (k : Fin 256) : ((cfg0.win 1).blk t).view.emb (ix2 r k) = (ix2 r k : S1024x256.Idx) := by
  funext a; apply Fin.ext
  match a with
  | ⟨0, h⟩ => exact (win0_1.rect_emb_val_of_index_zero t ⟨0, h⟩ (index1 t).1 (ix2 r k)).trans rfl
  | ⟨1, h⟩ => exact (win0_1.rect_emb_val_of_index_zero t ⟨1, h⟩ (index1 t).2 (ix2 r k)).trans rfl
theorem emb2 (t : Fin cfg0.N) (r : Fin 512) (k : Fin 2048) : ((cfg0.win 2).blk t).view.emb (ix2 r k) = (ix2 (row (pt t) r) k : S14336x2048.Idx) := by
  funext a; apply Fin.ext
  match a with
  | ⟨0, h⟩ => exact (win0_2.rect_emb_val t (ix2 r k) ⟨0, h⟩).trans (by rw [show win0_2.index t ⟨0, h⟩ = t.val from (index2 t).1]; rfl)
  | ⟨1, h⟩ => exact (win0_2.rect_emb_val_of_index_zero t ⟨1, h⟩ (index2 t).2 (ix2 r k)).trans rfl
theorem emb3 (t : Fin cfg0.N) (r : Fin 512) (k : Fin 128) : ((cfg0.win 3).blk t).view.emb (ix2 r k) = (ix2 (row (pt t) r) k : S14336x128.Idx) := by
  funext a; apply Fin.ext
  match a with
  | ⟨0, h⟩ => exact (win0_3.rect_emb_val t (ix2 r k) ⟨0, h⟩).trans (by rw [show win0_3.index t ⟨0, h⟩ = t.val from (index3 t).1]; rfl)
  | ⟨1, h⟩ => exact (win0_3.rect_emb_val_of_index_zero t ⟨1, h⟩ (index3 t).2 (ix2 r k)).trans rfl
theorem emb4 (t : Fin cfg0.N) (q : Fin 4) (l : Fin 128) : ((cfg0.win 4).blk t).view.emb (ix3 (0 : Fin 1) q l) = (ix3 (pt t) q l : S28x4x128.Idx) := by
  funext a; apply Fin.ext
  match a with
  | ⟨0, h⟩ => exact (win0_4.rect_emb_val t (ix3 (0 : Fin 1) q l) ⟨0, h⟩).trans (by rw [show win0_4.index t ⟨0, h⟩ = t.val from (index4 t).1]; show t.val * 1 + 0 = t.val; omega)
  | ⟨1, h⟩ => exact (win0_4.rect_emb_val_of_index_zero t ⟨1, h⟩ (index4 t).2.1 (ix3 (0 : Fin 1) q l)).trans rfl
  | ⟨2, h⟩ => exact (win0_4.rect_emb_val_of_index_zero t ⟨2, h⟩ (index4 t).2.2 (ix3 (0 : Fin 1) q l)).trans rfl

/-- Every entry of a result array is in some point's block. -/
theorem covered2 (i : S14336x2048.Idx) : ∃ t : Fin cfg0.N, (cfg0.win 2).flush t = true ∧ i ∈ ((cfg0.win 2).blk t).view.set := by
  have h0 : (i 0).val < 14336 := (i 0).isLt
  have ht : (i 0).val / 512 < cfg0.N := by rw [N_eq]; omega
  refine ⟨⟨(i 0).val / 512, ht⟩, flush0_2 _, ?_⟩
  have h := ((cfg0.win 2).blk ⟨(i 0).val / 512, ht⟩).view.emb_mem_set (ix2 (⟨(i 0).val % 512, Nat.mod_lt _ (by decide)⟩ : Fin 512) (i 1 : Fin 2048))
  have e : (ix2 (row (pt ⟨(i 0).val / 512, ht⟩) ⟨(i 0).val % 512, Nat.mod_lt _ (by decide)⟩) (i 1 : Fin 2048) : S14336x2048.Idx) = i := by
    funext a
    match a with
    | ⟨0, _⟩ => exact Fin.ext (by show (i 0).val / 512 * 512 + (i 0).val % 512 = (i 0).val; omega)
    | ⟨1, _⟩ => rfl
  exact Eq.subst (motive := fun z => z ∈ ((cfg0.win 2).blk ⟨(i 0).val / 512, ht⟩).view.set) ((emb2 ⟨(i 0).val / 512, ht⟩ ⟨(i 0).val % 512, Nat.mod_lt _ (by decide)⟩ (i 1)).trans e) h
theorem covered3 (i : S14336x128.Idx) : ∃ t : Fin cfg0.N, (cfg0.win 3).flush t = true ∧ i ∈ ((cfg0.win 3).blk t).view.set := by
  have h0 : (i 0).val < 14336 := (i 0).isLt
  have ht : (i 0).val / 512 < cfg0.N := by rw [N_eq]; omega
  refine ⟨⟨(i 0).val / 512, ht⟩, flush0_3 _, ?_⟩
  have h := ((cfg0.win 3).blk ⟨(i 0).val / 512, ht⟩).view.emb_mem_set (ix2 (⟨(i 0).val % 512, Nat.mod_lt _ (by decide)⟩ : Fin 512) (i 1 : Fin 128))
  have e : (ix2 (row (pt ⟨(i 0).val / 512, ht⟩) ⟨(i 0).val % 512, Nat.mod_lt _ (by decide)⟩) (i 1 : Fin 128) : S14336x128.Idx) = i := by
    funext a
    match a with
    | ⟨0, _⟩ => exact Fin.ext (by show (i 0).val / 512 * 512 + (i 0).val % 512 = (i 0).val; omega)
    | ⟨1, _⟩ => rfl
  exact Eq.subst (motive := fun z => z ∈ ((cfg0.win 3).blk ⟨(i 0).val / 512, ht⟩).view.set) ((emb3 ⟨(i 0).val / 512, ht⟩ ⟨(i 0).val % 512, Nat.mod_lt _ (by decide)⟩ (i 1)).trans e) h
theorem covered4 (i : S28x4x128.Idx) : ∃ t : Fin cfg0.N, (cfg0.win 4).flush t = true ∧ i ∈ ((cfg0.win 4).blk t).view.set := by
  have h0 : (i 0).val < 28 := (i 0).isLt
  have ht : (i 0).val < cfg0.N := by rw [N_eq]; omega
  refine ⟨⟨(i 0).val, ht⟩, flush0_4 _, ?_⟩
  have h := ((cfg0.win 4).blk ⟨(i 0).val, ht⟩).view.emb_mem_set (ix3 (0 : Fin 1) (i 1 : Fin 4) (i 2 : Fin 128))
  have e : (ix3 (pt ⟨(i 0).val, ht⟩) (i 1 : Fin 4) (i 2 : Fin 128) : S28x4x128.Idx) = i := by
    funext a
    match a with
    | ⟨0, _⟩ => rfl
    | ⟨1, _⟩ => rfl
    | ⟨2, _⟩ => rfl
  exact Eq.subst (motive := fun z => z ∈ ((cfg0.win 4).blk ⟨(i 0).val, ht⟩).view.set) ((emb4 ⟨(i 0).val, ht⟩ (i 1) (i 2)).trans e) h

variable (m : (ℓ : Loc nD τ sig) → Buf (Elt Ideal) ℓ) (c : Dev nD)
variable (m' : (ℓ : Loc Cert.ReferenceIdeal.nD Cert.ReferenceIdeal.τ Cert.ReferenceIdeal.sig) → Buf (Elt Ideal) ℓ)

/-- The reference's values. -/
def values : Vec Ideal S14336x2048 .fp8e4m3 := fun i => min (Ideal.ofBits .f32 0x43E00000#32) (max (Ideal.ofBits .f32 0xC3E00000#32) (keptR m' c (i 0) (i 1) * invR m' c (i 0)))

section
variable (hag : m' ((c.tc : Thread Cert.ReferenceIdeal.nD Cert.ReferenceIdeal.τ).loc Cert.ReferenceIdeal.main_arg0) = m ((c.tc : Thread nD τ).loc main_arg0))
include hag
theorem block0 (t : Fin cfg0.N) (r : Fin 512) (k : Fin 4096) : (iblk m c 0 t : W) (ix2 r k) = (m' (c, Proc.tc.devRef Cert.ReferenceIdeal.main_arg0) (ix2 (row (pt t) r) k) : EReal) := by
  have e : (iblk m c 0 t : W) (ix2 r k) = V m c main_arg0 (((cfg0.win 0).blk t).view.emb (ix2 r k)) := rfl
  rw [e, emb0, V_main_arg0]
  exact (congrFun hag (ix2 (row (pt t) r) k)).symm
theorem block1 (t : Fin cfg0.N) (x : Fin 1024) (y : Fin 256) : (iblk m c 1 t : Vec Ideal S1024x256 .bf16) (ix2 x y) = (((if slot x.val = y.val then weight x.val else 0 : Nat) : ℝ) : EReal) := by
  have e : (iblk m c 1 t : Vec Ideal S1024x256 .bf16) (ix2 x y) = V m c main_v34 (((cfg0.win 1).blk t).view.emb (ix2 x y)) := rfl
  rw [e, emb1]
  exact mat_at m c x y
theorem final3 : (dats m 0 c).arrAt 3 cfg0.N = Cert.ReferenceIdeal.Gen.V m' c Cert.ReferenceIdeal.main_v182 := by
  refine (dats m 0 c).arrAt_eq_of_cover 3 (Cert.ReferenceIdeal.Gen.V m' c Cert.ReferenceIdeal.main_v182) (fun t _ => ?_) covered3
  rw [flushed3_A, out3_eq]
  funext y
  obtain ⟨r, q, rfl⟩ : ∃ r q, y = (ix2 r q : S512x128.Idx) := ⟨y 0, y 1, eq_ix2 (n0 := 512) (n1 := 128) y⟩
  show k0_pay6 (F := Ideal) (codeV (iblk m c 0 t)) (iblk m c 1 t) (ix2 r q) = Cert.ReferenceIdeal.Gen.V m' c Cert.ReferenceIdeal.main_v182 (((cfg0.win 3).blk t).view.emb (ix2 r q))
  rw [emb3]
  exact meta_eq m' c (pt t) (iblk m c 0 t) (block0 m c m' hag t) (iblk m c 1 t) (block1 m c m' hag t) r q

variable (hb : ∀ (p : Fin 4) (r : Fin 14336) (g : Fin 1024), absR (xs m' c p r g) ≤ ((255 * 2 ^ 120 : ℝ) : EReal))
include hb
theorem final4 : (dats m 0 c).arrAt 4 cfg0.N = Cert.ReferenceIdeal.Gen.V m' c Cert.ReferenceIdeal.main_v135 := by
  refine (dats m 0 c).arrAt_eq_of_cover 4 (Cert.ReferenceIdeal.Gen.V m' c Cert.ReferenceIdeal.main_v135) (fun t _ => ?_) covered4
  rw [flushed4_A]
  funext y
  obtain ⟨q, l, rfl⟩ : ∃ q l, y = (ix3 (0 : Fin 1) q l : S1x4x128.Idx) := ⟨y 1, y 2, by
    refine (eq_ix3 (n0 := 1) (n1 := 4) (n2 := 128) y).trans ?_
    congr 1; exact Subsingleton.elim _ _⟩
  refine Eq.trans (out4_apply c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) (iblk m c 0 t) (iblk m c 1 t) q l) ?_
  show _ = Cert.ReferenceIdeal.Gen.V m' c Cert.ReferenceIdeal.main_v135 (((cfg0.win 4).blk t).view.emb (ix3 (0 : Fin 1) q l))
  rw [emb4]
  exact scaleW_eq m' c hb (pt t) (iblk m c 0 t) (block0 m c m' hag t) q l
theorem final2 : (dats m 0 c).arrAt 2 cfg0.N = values c m' := by
  refine (dats m 0 c).arrAt_eq_of_cover 2 (values c m') (fun t _ => ?_) covered2
  rw [flushed2_A]
  funext y
  obtain ⟨r, j, rfl⟩ : ∃ r q, y = (ix2 r q : S512x2048.Idx) := ⟨y 0, y 1, eq_ix2 (n0 := 512) (n1 := 2048) y⟩
  refine Eq.trans (out2_apply c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) (iblk m c 0 t) (iblk m c 1 t) r j) ?_
  show _ = values c m' (((cfg0.win 2).blk t).view.emb (ix2 r j))
  rw [emb2]
  exact value_eq m' c hb (pt t) (iblk m c 0 t) (block0 m c m' hag t) r j
end
end Kernel

section Reference
open Cert.ReferenceIdeal Cert.ReferenceIdeal.Gen Cert.ReferenceIdeal.Value

theorem rindex0 : ∀ t : Fin grid0.N, win0_0.index t 0 = 0 ∧ win0_0.index t 1 = 0 := by decide +kernel
theorem rindex1 : ∀ t : Fin grid0.N, win0_1.index t 0 = 0 ∧ win0_1.index t 1 = 0 := by decide +kernel
theorem rindex2 : ∀ t : Fin grid0.N, win0_2.index t 0 = 0 ∧ win0_2.index t 1 = 0 := by decide +kernel
/-- At the reference's one point the block is the array. -/
theorem remb0 (t : Fin cfg0.N) (r : Fin 14336) (k : Fin 2048) : ((cfg0.win 0).blk t).view.emb (ix2 r k) = (ix2 r k : S14336x2048.Idx) := by
  funext a; apply Fin.ext
  match a with
  | ⟨0, h⟩ => exact (win0_0.rect_emb_val_of_index_zero t ⟨0, h⟩ (rindex0 t).1 (ix2 r k)).trans rfl
  | ⟨1, h⟩ => exact (win0_0.rect_emb_val_of_index_zero t ⟨1, h⟩ (rindex0 t).2 (ix2 r k)).trans rfl
theorem remb1 (t : Fin cfg0.N) (r : Fin 14336) (k : Fin 1) : ((cfg0.win 1).blk t).view.emb (ix2 r k) = (ix2 r k : S14336x1.Idx) := by
  funext a; apply Fin.ext
  match a with
  | ⟨0, h⟩ => exact (win0_1.rect_emb_val_of_index_zero t ⟨0, h⟩ (rindex1 t).1 (ix2 r k)).trans rfl
  | ⟨1, h⟩ => exact (win0_1.rect_emb_val_of_index_zero t ⟨1, h⟩ (rindex1 t).2 (ix2 r k)).trans rfl
theorem remb2 (t : Fin cfg0.N) (r : Fin 14336) (k : Fin 2048) : ((cfg0.win 2).blk t).view.emb (ix2 r k) = (ix2 r k : S14336x2048.Idx) := by
  funext a; apply Fin.ext
  match a with
  | ⟨0, h⟩ => exact (win0_2.rect_emb_val_of_index_zero t ⟨0, h⟩ (rindex2 t).1 (ix2 r k)).trans rfl
  | ⟨1, h⟩ => exact (win0_2.rect_emb_val_of_index_zero t ⟨1, h⟩ (rindex2 t).2 (ix2 r k)).trans rfl
theorem rflush2 : ∀ t : Fin cfg0.N, (cfg0.win 2).flush t = true := by decide +kernel
theorem rN_pos : 0 < cfg0.N := by decide +kernel
theorem rcovered2 (i : S14336x2048.Idx) : ∃ t : Fin cfg0.N, (cfg0.win 2).flush t = true ∧ i ∈ ((cfg0.win 2).blk t).view.set := by
  refine ⟨⟨0, rN_pos⟩, rflush2 _, ?_⟩
  have h := ((cfg0.win 2).blk ⟨0, rN_pos⟩).view.emb_mem_set (ix2 (i 0 : Fin 14336) (i 1 : Fin 2048))
  exact Eq.subst (motive := fun z => z ∈ ((cfg0.win 2).blk ⟨0, rN_pos⟩).view.set) ((remb2 ⟨0, rN_pos⟩ (i 0) (i 1)).trans (eq_ix2 (n0 := 14336) (n1 := 2048) i).symm) h

theorem zero2 : (View.ld · r0_0 : Vec Ideal S14336x2048 .bf16 → Vec Ideal S14336x2048 .bf16) = id := by
  funext x y
  obtain ⟨r, k, rfl⟩ : ∃ r k, y = (ix2 r k : S14336x2048.Idx) := ⟨y 0, y 1, eq_ix2 (n0 := 14336) (n1 := 2048) y⟩
  refine congrArg x ?_
  funext a; apply Fin.ext
  match a with
  | ⟨0, _⟩ => show 0 + 1 * r.val = r.val; omega
  | ⟨1, _⟩ => show 0 + 1 * k.val = k.val; omega
theorem zero1 : (View.ld · r0_1 : Vec Ideal S14336x1 .f32 → Vec Ideal S14336x1 .f32) = id := by
  funext x y
  obtain ⟨r, k, rfl⟩ : ∃ r k, y = (ix2 r k : S14336x1.Idx) := ⟨y 0, y 1, eq_ix2 (n0 := 14336) (n1 := 1) y⟩
  refine congrArg x ?_
  funext a; apply Fin.ext
  match a with
  | ⟨0, _⟩ => show 0 + 1 * r.val = r.val; omega
  | ⟨1, _⟩ => show 0 + 1 * k.val = k.val; omega

variable (m' : (ℓ : Loc nD τ sig) → Buf (Elt Ideal) ℓ) (c : Dev nD)
theorem rblock0 (t : Fin cfg0.N) (r : Fin 14336) (k : Fin 2048) : (iblk m' c 0 t : Vec Ideal S14336x2048 .bf16) (ix2 r k) = keptR m' c r k := by
  have e : (iblk m' c 0 t : Vec Ideal S14336x2048 .bf16) (ix2 r k) = V m' c main_v104 (((cfg0.win 0).blk t).view.emb (ix2 r k)) := rfl
  rw [e, remb0]; rfl
theorem rblock1 (t : Fin cfg0.N) (r : Fin 14336) : (iblk m' c 1 t : Vec Ideal S14336x1 .f32) (ix2 r (0 : Fin 1)) = invR m' c r := by
  have e : (iblk m' c 1 t : Vec Ideal S14336x1 .f32) (ix2 r (0 : Fin 1)) = V m' c main_v134 (((cfg0.win 1).blk t).view.emb (ix2 r (0 : Fin 1))) := rfl
  rw [e, remb1]; rfl
/-- What the body leaves in its buffer, entry by entry. -/
theorem body_at (P0 : Vec Ideal S14336x2048 .bf16) (P1 : Vec Ideal S14336x1 .f32) (r : Fin 14336) (k : Fin 2048) : out0_2 P0 P1 (ix2 r k) = min (Ideal.ofBits .f32 0x43E00000#32) (max (Ideal.ofBits .f32 0xC3E00000#32) ((P0 (ix2 r k) : EReal) * (P1 (ix2 r (0 : Fin 1)) : EReal))) := by
  have a : View.ld P0 r0_0 = P0 := congrFun zero2 P0
  have b : View.ld P1 r0_1 = P1 := congrFun zero1 P1
  unfold out0_2
  rw [a, b]
  refine (canon2_eq P0 P1 (ix2 r k)).trans ?_
  have e0 : ix2_0 (ix2 r k : S14336x2048.Idx) = (ix2 r k : S14336x2048.Idx) := by
    funext a
    match a with
    | ⟨0, _⟩ => rfl
    | ⟨1, _⟩ => rfl
  have e1 : ix2_1 (ix2 r k : S14336x2048.Idx) = (ix2 r (0 : Fin 1) : S14336x1.Idx) := by
    funext a
    match a with
    | ⟨0, _⟩ => rfl
    | ⟨1, _⟩ => rfl
  show min (Ideal.ofBits .f32 0x43E00000#32) (max (Ideal.ofBits .f32 0xC3E00000#32) ((P0 (ix2_0 (ix2 r k : S14336x2048.Idx)) : EReal) * (P1 (ix2_1 (ix2 r k : S14336x2048.Idx)) : EReal))) = _
  rw [e0, e1]
theorem rfinal2 : (dats m' 0 c).arrAt 2 cfg0.N = values c m' := by
  refine (dats m' 0 c).arrAt_eq_of_cover 2 (values c m') (fun t _ => ?_) rcovered2
  rw [flushed2]
  funext y
  obtain ⟨r, j, rfl⟩ : ∃ r q, y = (ix2 r q : S14336x2048.Idx) := ⟨y 0, y 1, eq_ix2 (n0 := 14336) (n1 := 2048) y⟩
  refine Eq.trans (body_at (iblk m' c 0 t) (iblk m' c 1 t) r j) ?_
  rw [rblock0, rblock1]
  show _ = values c m' (((cfg0.win 2).blk t).view.emb (ix2 r j))
  rw [remb2]
  rfl
theorem run_ref (g : Dev nD → PrngReg) : θ_run (defs (F := Ideal)) (onTc (τ := τ) (main (F := Ideal))) ⟨m', fun _ => 0, g⟩ (fun r => ∀ c : Dev nD,
          r.2.mem ((c.tc : Thread nD τ).loc main_v183) = values c m'
          ∧ r.2.mem ((c.tc : Thread nD τ).loc main_v182) = V m' c main_v182
          ∧ r.2.mem ((c.tc : Thread nD τ).loc main_v135) = V m' c main_v135
          ∧ r.2.mem ((c.tc : Thread nD τ).loc main_arg0) = m' ((c.tc : Thread nD τ).loc main_arg0)) :=
  (θ_run defs _ _).mono (fun r h c => ⟨(post2 m' r h c).trans (rfinal2 m' c),
      (h c).2 main_v182 (Pipeline.mem_restRefs_of main_v182 (by decide) (by decide)),
      (h c).2 main_v135 (Pipeline.mem_restRefs_of main_v135 (by decide) (by decide)),
      kept_main_arg0 m' r h c⟩)
    (run_main m' g)
end Reference

/-- What the precondition says of one entry. -/
theorem entry_le (m : (ℓ : Loc Cert.KernelIdeal.nD Cert.KernelIdeal.τ Cert.KernelIdeal.sig) → Buf (Elt Ideal) ℓ) (h : Cert.Pre_KernelIdeal_finite m) (c : Dev Cert.KernelIdeal.nD) (i : Cert.KernelIdeal.S14336x4096.Idx) :
    absR (m ((c.tc : Thread Cert.KernelIdeal.nD Cert.KernelIdeal.τ).loc Cert.KernelIdeal.main_arg0) i : EReal) ≤ ((255 * 2 ^ 120 : ℝ) : EReal) := by
  have e : BitVec.ofBool (decide (absR (m ((c.tc : Thread Cert.KernelIdeal.nD Cert.KernelIdeal.τ).loc Cert.KernelIdeal.main_arg0) i : EReal) ≤ Ideal.ofBits .bf16 0x7F7F#16)) = 1#1 := congrFun (h c) i
  rw [large_b] at e
  by_contra hn
  rw [decide_eq_false hn] at e
  exact absurd e (by decide)

theorem algebraic : Cert.algebraic_KernelIdeal_ReferenceIdeal_pre_finite := by
  intro m g m' g' hpre hag
  have hb : ∀ c (p : Fin 4) (r : Fin 14336) (x : Fin 1024), absR (xs m' c p r x) ≤ ((255 * 2 ^ 120 : ℝ) : EReal) := fun c p r x => by
    refine le_of_eq_of_le (congrArg absR ?_) (entry_le m hpre c (ix2 r (⟨x.val * 4 + p.val, by omega⟩ : Fin 4096)))
    exact congrFun (hag c) (ix2 r (⟨x.val * 4 + p.val, by omega⟩ : Fin 4096))
  refine ⟨fun c => values c m', fun c => Cert.ReferenceIdeal.Gen.V m' c Cert.ReferenceIdeal.main_v182, fun c => Cert.ReferenceIdeal.Gen.V m' c Cert.ReferenceIdeal.main_v135, ?_, run_ref m' g'⟩
  exact (θ_run Cert.KernelIdeal.defs _ _).mono (fun r h c => ⟨(h c).1.trans (final2 m c m' (hag c) (hb c)), (h c).2.1.trans (final3 m c m' (hag c)), (h c).2.2.1.trans (final4 m c m' (hag c) (hb c)), (h c).2.2.2⟩) (Cert.KernelIdeal.Value.run_blocks m g)
end Cert.Hand
end
-- ==== Proof.lean ====
/- The proof of the certificate's claim. -/
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.BFrame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.ReferenceIdeal.Value
public import proofs.«01_k».proof.Proof.KValue
public import proofs.«01_k».proof.Proof.Gen.Pre_finite
public import proofs.«01_k».proof.Proof.Result
public import Idealize.ShloMosaic.Lib.Bf16Pair
public import Idealize.ShloMosaic.Adequacy
public import Idealize.ShloMosaic.Init

@[expose] public section

noncomputable section

namespace Cert.Proof

open Idealize.ShloMosaic Idealize.SL.Sem Cert.Kernel

theorem claim : Cert.Claim :=
  ⟨Cert.Kernel.Gen.facts, Cert.KernelIdeal.Gen.facts, Cert.ReferenceIdeal.Gen.facts, Cert.Pre_finite.Gen.facts,
    fun m ρ _ => Cert.Kernel.Gen.frame m ρ,
    fun m ρ _ => Cert.KernelIdeal.Gen.frame m ρ,
    fun m ρ _ => Cert.KernelIdeal.Gen.frame m ρ,
    fun m ρ _ => Cert.ReferenceIdeal.Gen.frame m ρ,
    fun m ρ _ => Cert.ReferenceIdeal.Gen.frame m ρ,
    IdealRules.bf16_pair.statement Cert.KernelIdeal.S32x128 Cert.KernelIdeal.S16x128,
    Cert.Hand.algebraic⟩

end Cert.Proof

end
